-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2 = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v112) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v30_0)) (v1 : (c : Dev Cert.Kernel5Ideal.nD) → Buf (Elt Ideal) ((c.tc : Thread Cert.Kernel5Ideal.nD Cert.Kernel5Ideal.τ).loc Cert.Kernel5Ideal.main_v30_1)) (v2 : (c : Dev Cert.Kernel5Ideal.nD) → Buf (Elt Ideal) ((c.tc : Thread Cert.Kernel5Ideal.nD Cert.Kernel5Ideal.τ).loc Cert.Kernel5Ideal.main_v30_2)) (v3 : (c : Dev Cert.Kernel5Ideal.nD) → Buf (Elt Ideal) ((c.tc : Thread Cert.Kernel5Ideal.nD Cert.Kernel5Ideal.τ).loc Cert.Kernel5Ideal.main_v30_3)) (v4 : (c : Dev Cert.Kernel5Ideal.nD) → Buf (Elt Ideal) ((c.tc : Thread Cert.Kernel5Ideal.nD Cert.Kernel5Ideal.τ).loc Cert.Kernel5Ideal.main_v30_4)) (v5 : (c : Dev Cert.Kernel5Ideal.nD) → Buf (Elt Ideal) ((c.tc : Thread Cert.Kernel5Ideal.nD Cert.Kernel5Ideal.τ).loc Cert.Kernel5Ideal.main_v30_5)) (v6 : (c : Dev Cert.Kernel5Ideal.nD) → Buf (Elt Ideal) ((c.tc : Thread Cert.Kernel5Ideal.nD Cert.Kernel5Ideal.τ).loc Cert.Kernel5Ideal.main_v30_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v30_0) = v0 c
          ∧ r.2.mem ((c.tc : Thread Cert.Kernel5Ideal.nD Cert.Kernel5Ideal.τ).loc Cert.Kernel5Ideal.main_v30_1) = v1 c
          ∧ r.2.mem ((c.tc : Thread Cert.Kernel5Ideal.nD Cert.Kernel5Ideal.τ).loc Cert.Kernel5Ideal.main_v30_2) = v2 c
          ∧ r.2.mem ((c.tc : Thread Cert.Kernel5Ideal.nD Cert.Kernel5Ideal.τ).loc Cert.Kernel5Ideal.main_v30_3) = v3 c
          ∧ r.2.mem ((c.tc : Thread Cert.Kernel5Ideal.nD Cert.Kernel5Ideal.τ).loc Cert.Kernel5Ideal.main_v30_4) = v4 c
          ∧ r.2.mem ((c.tc : Thread Cert.Kernel5Ideal.nD Cert.Kernel5Ideal.τ).loc Cert.Kernel5Ideal.main_v30_5) = v5 c
          ∧ r.2.mem ((c.tc : Thread Cert.Kernel5Ideal.nD Cert.Kernel5Ideal.τ).loc Cert.Kernel5Ideal.main_v30_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v85) = v0 c
          ∧ r.2.mem ((c.tc : Thread Cert.Reference5Ideal.nD Cert.Reference5Ideal.τ).loc Cert.Reference5Ideal.main_v86) = v1 c
          ∧ r.2.mem ((c.tc : Thread Cert.Reference5Ideal.nD Cert.Reference5Ideal.τ).loc Cert.Reference5Ideal.main_v87) = v2 c
          ∧ r.2.mem ((c.tc : Thread Cert.Reference5Ideal.nD Cert.Reference5Ideal.τ).loc Cert.Reference5Ideal.main_v84) = v3 c
          ∧ r.2.mem ((c.tc : Thread Cert.Reference5Ideal.nD Cert.Reference5Ideal.τ).loc Cert.Reference5Ideal.main_v90) = v4 c
          ∧ r.2.mem ((c.tc : Thread Cert.Reference5Ideal.nD Cert.Reference5Ideal.τ).loc Cert.Reference5Ideal.main_v91) = v5 c
          ∧ r.2.mem ((c.tc : Thread Cert.Reference5Ideal.nD Cert.Reference5Ideal.τ).loc Cert.Reference5Ideal.main_v92) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "mask" .f32 0xF149F2CA#32 ⊥

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v76) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  IdealRules.named_const.Statement Cert.Kernel7Ideal.κ "mask" .f32 0xF149F2CA#32 ⊥

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite7 : Cert.Pre_finite7.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite.lean ====
abbrev S2x16384x512 : Shape := ⟨3, ![2, 16384, 512]⟩
abbrev S2x16384x128 : Shape := ⟨3, ![2, 16384, 128]⟩
abbrev S4x512 : Shape := ⟨2, ![4, 512]⟩
abbrev S_ : Shape := ⟨0, ![]⟩
abbrev S2x16384x12 : Shape := ⟨3, ![2, 16384, 12]⟩

class Facts : Prop where
  bitsLt_bf16_f32 : FTy.bits .bf16 < FTy.bits .f32
  bcast_S_S2x16384x512 : S_.BroadcastsInDim S2x16384x512 (![] : Fin 0 → Fin S2x16384x512.rank)
  slices_S2x16384x128_S2x16384x12_0_0_0 : S2x16384x128.Slices ![0, 0, 0] S2x16384x12
  bcast_S_S2x16384x12 : S_.BroadcastsInDim S2x16384x12 (![] : Fin 0 → Fin S2x16384x12.rank)

variable [Facts]

def fn {F : FTy → Type} [FloatOps F] (main_arg0 : FVec F S2x16384x512 .bf16) (main_arg1 : FVec F S2x16384x512 .bf16) (main_arg2 : FVec F S2x16384x512 .bf16) (main_arg3 : FVec F S2x16384x128 .f32) (main_arg4 : FVec F S4x512 .f32) : IVec S2x16384x512 1 × IVec S2x16384x512 1 × IVec S2x16384x512 1 × IVec S2x16384x12 1 :=
  let main_v0 : FVec F S2x16384x512 .f32 := (extf .f32 · bitsLt_bf16_f32) main_arg0
  let main_v1 : FVec F S2x16384x512 .f32 := Host.absf main_v0
  let main_cst : FVec F S_ .f32 := constant S_ .f32 0x7F800000#32
  let main_v2 : FVec F S2x16384x512 .f32 := broadcastInDim S2x16384x512 ![] bcast_S_S2x16384x512 main_cst
  let main_v3 : IVec S2x16384x512 1 := cmpf .olt main_v1 main_v2
  let main_v4 : FVec F S2x16384x512 .f32 := (extf .f32 · bitsLt_bf16_f32) main_arg1
  let main_v5 : FVec F S2x16384x512 .f32 := Host.absf main_v4
  let main_cst_0 : FVec F S_ .f32 := constant S_ .f32 0x7F800000#32
  let main_v6 : FVec F S2x16384x512 .f32 := broadcastInDim S2x16384x512 ![] bcast_S_S2x16384x512 main_cst_0
  let main_v7 : IVec S2x16384x512 1 := cmpf .olt main_v5 main_v6
  let main_v8 : FVec F S2x16384x512 .f32 := (extf .f32 · bitsLt_bf16_f32) main_arg2
  let main_v9 : FVec F S2x16384x512 .f32 := Host.absf main_v8
  let main_cst_1 : FVec F S_ .f32 := constant S_ .f32 0x7F800000#32
  let main_v10 : FVec F S2x16384x512 .f32 := broadcastInDim S2x16384x512 ![] bcast_S_S2x16384x512 main_cst_1
  let main_v11 : IVec S2x16384x512 1 := cmpf .olt main_v9 main_v10
  let main_v12 : FVec F S2x16384x12 .f32 := (extractStridedSlice S2x16384x12 ![0, 0, 0] · slices_S2x16384x128_S2x16384x12_0_0_0) main_arg3
  let main_v13 : FVec F S2x16384x12 .f32 := Host.absf main_v12
  let main_cst_2 : FVec F S_ .f32 := constant S_ .f32 0x7F800000#32
  let main_v14 : FVec F S2x16384x12 .f32 := broadcastInDim S2x16384x12 ![] bcast_S_S2x16384x12 main_cst_2
  let main_v15 : IVec S2x16384x12 1 := cmpf .olt main_v13 main_v14
  (main_v3, main_v7, main_v11, main_v15)
-- ==== Pre_finite7.lean ====
abbrev S2x16384x128 : Shape := ⟨3, ![2, 16384, 128]⟩
abbrev S4x8 : Shape := ⟨2, ![4, 8]⟩
abbrev S4x4 : Shape := ⟨2, ![4, 4]⟩
abbrev S2x16384x1024 : Shape := ⟨3, ![2, 16384, 1024]⟩
abbrev S2x16384x8 : Shape := ⟨3, ![2, 16384, 8]⟩
abbrev S_ : Shape := ⟨0, ![]⟩
abbrev S1x8 : Shape := ⟨2, ![1, 8]⟩

class Facts : Prop where
  slices_S2x16384x128_S2x16384x8_0_0_0 : S2x16384x128.Slices ![0, 0, 0] S2x16384x8
  bcast_S_S2x16384x8 : S_.BroadcastsInDim S2x16384x8 (![] : Fin 0 → Fin S2x16384x8.rank)
  slices_S4x8_S1x8_0_0 : S4x8.Slices ![0, 0] S1x8
  bcast_S_S1x8 : S_.BroadcastsInDim S1x8 (![] : Fin 0 → Fin S1x8.rank)

variable [Facts]

def fn {F : FTy → Type} [FloatOps F] (main_arg0 : FVec F S2x16384x128 .f32) (main_arg1 : FVec F S4x8 .f32) (main_arg2 : FVec F S4x4 .f32) (main_arg3 : FVec F S4x4 .f32) (main_arg4 : FVec F S2x16384x1024 .bf16) : IVec S2x16384x8 1 × IVec S1x8 1 :=
  let main_v0 : FVec F S2x16384x8 .f32 := (extractStridedSlice S2x16384x8 ![0, 0, 0] · slices_S2x16384x128_S2x16384x8_0_0_0) main_arg0
  let main_v1 : FVec F S2x16384x8 .f32 := Host.absf main_v0
  let main_cst : FVec F S_ .f32 := constant S_ .f32 0x7F800000#32
  let main_v2 : FVec F S2x16384x8 .f32 := broadcastInDim S2x16384x8 ![] bcast_S_S2x16384x8 main_cst
  let main_v3 : IVec S2x16384x8 1 := cmpf .olt main_v1 main_v2
  let main_v4 : FVec F S1x8 .f32 := (extractStridedSlice S1x8 ![0, 0] · slices_S4x8_S1x8_0_0) main_arg1
  let main_v5 : FVec F S1x8 .f32 := Host.absf main_v4
  let main_cst_0 : FVec F S_ .f32 := constant S_ .f32 0x7F800000#32
  let main_v6 : FVec F S1x8 .f32 := broadcastInDim S1x8 ![] bcast_S_S1x8 main_cst_0
  let main_v7 : IVec S1x8 1 := cmpf .olt main_v5 main_v6
  (main_v3, main_v7)
-- ==== Kernel2.lean ====
abbrev S2x16384x1024 : Shape := ⟨3, ![2, 16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S32768x1024 : Shape := ⟨2, ![32768, 1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 13
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S32768x1024, .f32⟩
  | .hbm, ⟨7, _⟩ => ⟨S4x1x1024, .f32⟩
  | .hbm, ⟨8, _⟩ => ⟨S4x1024x2816, .bf16⟩
  | .hbm, ⟨9, _⟩ => ⟨S4x1024x2816, .bf16⟩
  | .hbm, ⟨10, _⟩ => ⟨S4x2816x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2x16384x1024 : Shape := ⟨3, ![2, 16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x16384x2816 : Shape := ⟨3, ![2, 16384, 2816]⟩
abbrev S32768x1024 : Shape := ⟨2, ![32768, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S2x16384x1024, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x1024, .f32⟩
  | .hbm, ⟨20, _⟩ => ⟨S2x16384x1024, .f32⟩
  | .hbm, ⟨21, _⟩ => ⟨S1x1x1024, .f32⟩
  | .hbm, ⟨22, _⟩ => ⟨S2x16384x1024, .f32⟩
  | .hbm, ⟨23, _⟩ => ⟨S2x16384x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S_, .f32⟩
  | .hbm, ⟨34, _⟩ => ⟨S2x16384x2816, .f32⟩
  | .hbm, ⟨35, _⟩ => ⟨S2x16384x2816, .f32⟩
  | .hbm, ⟨36, _⟩ => ⟨S_, .f32⟩
  | .hbm, ⟨37, _⟩ => ⟨S2x16384x2816, .f32⟩
  | .hbm, ⟨38, _⟩ => ⟨S2x16384x2816, .f32⟩
  | .hbm, ⟨39, _⟩ => ⟨S2x16384x2816, .f32⟩
  | .hbm, ⟨40, _⟩ => ⟨S2x16384x2816, .f32⟩
  | .hbm, ⟨41, _⟩ => ⟨S2x16384x2816, .f32⟩
  | .hbm, ⟨42, _⟩ => ⟨S2x16384x1024, .f32⟩
  | .hbm, ⟨43, _⟩ => ⟨S_, .f32⟩
  | .hbm, ⟨44, _⟩ => ⟨S2x16384x1024, .f32⟩
  | .hbm, ⟨45, _⟩ => ⟨S2x16384x1024, .f32⟩
  | .hbm, ⟨46, _⟩ => ⟨S2x16384x1024, .f32⟩
  | .hbm, ⟨47, _⟩ => ⟨S2x16384x1024, .f32⟩
  | .hbm, ⟨48, _⟩ => ⟨S_, .f32⟩
  | .hbm, ⟨49, _⟩ => ⟨S2x16384, .f32⟩
  | .hbm, ⟨50, _⟩ => ⟨S2x16384x1, .f32⟩
  | .hbm, ⟨51, _⟩ => ⟨S_, .f32⟩
  | .hbm, ⟨52, _⟩ => ⟨S2x16384x1, .f32⟩
  | .hbm, ⟨53, _⟩ => ⟨S2x16384x1, .f32⟩
  | .hbm, ⟨54, _⟩ => ⟨S_, .f32⟩
  | .hbm, ⟨55, _⟩ => ⟨S2x16384x1, .f32⟩
  | .hbm, ⟨56, _⟩ => ⟨S2x16384x1, .f32⟩
  | .hbm, ⟨57, _⟩ => ⟨S2x16384x1, .f32⟩
  | .hbm, ⟨58, _⟩ => ⟨S2x16384x1024, .f32⟩
  | .hbm, ⟨59, _⟩ => ⟨S2x16384x1024, .f32⟩
  | .hbm, ⟨60, _⟩ => ⟨S1x1x1024, .f32⟩
  | .hbm, ⟨61, _⟩ => ⟨S2x16384x1024, .f32⟩
  | .hbm, ⟨62, _⟩ => ⟨S2x16384x1024, .f32⟩
  | .hbm, ⟨63, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel3.lean ====
abbrev S2x16384x1024 : Shape := ⟨3, ![2, 16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S32768x1024 : Shape := ⟨2, ![32768, 1024]⟩
abbrev S4x1x1024 : Shape := ⟨3, ![4, 1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 11
  | .vmem => 8
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S32768x1024, .f32⟩
  | .hbm, ⟨6, _⟩ => ⟨S4x1x1024, .f32⟩
  | .hbm, ⟨7, _⟩ => ⟨S4x1024x2816, .bf16⟩
  | .hbm, ⟨8, _⟩ => ⟨S4x1024x2816, .bf16⟩
  | .hbm, ⟨9, _⟩ => ⟨S4x2816x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S2x16384x1024 : Shape := ⟨3, ![2, 16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x16384x2816 : Shape := ⟨3, ![2, 16384, 2816]⟩
abbrev S32768x1024 : Shape := ⟨2, ![32768, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1x1024, .f32⟩
  | .hbm, ⟨6, _⟩ => ⟨S1024, .f32⟩
  | .hbm, ⟨7, _⟩ => ⟨S2x16384x1024, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x1024, .f32⟩
  | .hbm, ⟨19, _⟩ => ⟨S2x16384x1024, .f32⟩
  | .hbm, ⟨20, _⟩ => ⟨S1x1x1024, .f32⟩
  | .hbm, ⟨21, _⟩ => ⟨S2x16384x1024, .f32⟩
  | .hbm, ⟨22, _⟩ => ⟨S2x16384x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S2x16384x2816, .f32⟩
  | .hbm, ⟨30, _⟩ => ⟨S2x16384x2816, .f32⟩
  | .hbm, ⟨31, _⟩ => ⟨S2x16384x2816, .f32⟩
  | .hbm, ⟨32, _⟩ => ⟨S_, .f32⟩
  | .hbm, ⟨33, _⟩ => ⟨S2x16384x2816, .f32⟩
  | .hbm, ⟨34, _⟩ => ⟨S2x16384x2816, .f32⟩
  | .hbm, ⟨35, _⟩ => ⟨S_, .f32⟩
  | .hbm, ⟨36, _⟩ => ⟨S2x16384x2816, .f32⟩
  | .hbm, ⟨37, _⟩ => ⟨S2x16384x2816, .f32⟩
  | .hbm, ⟨38, _⟩ => ⟨S2x16384x2816, .f32⟩
  | .hbm, ⟨39, _⟩ => ⟨S2x16384x2816, .f32⟩
  | .hbm, ⟨40, _⟩ => ⟨S2x16384x2816, .f32⟩
  | .hbm, ⟨41, _⟩ => ⟨S2x16384x1024, .f32⟩
  | .hbm, ⟨42, _⟩ => ⟨S_, .f32⟩
  | .hbm, ⟨43, _⟩ => ⟨S2x16384x1024, .f32⟩
  | .hbm, ⟨44, _⟩ => ⟨S2x16384x1024, .f32⟩
  | .hbm, ⟨45, _⟩ => ⟨S2x16384x1024, .f32⟩
  | .hbm, ⟨46, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x16384x512 : Shape := ⟨3, ![2, 16384, 512]⟩
abbrev S4x1024 : Shape := ⟨2, ![4, 1024]⟩
abbrev S4x1024x7696 : Shape := ⟨3, ![4, 1024, 7696]⟩
abbrev S4x512 : Shape := ⟨2, ![4, 512]⟩
abbrev S4x4x128x128 : Shape := ⟨4, ![4, 4, 128, 128]⟩
abbrev S4x4x128 : Shape := ⟨3, ![4, 4, 128]⟩
abbrev S4x512x1024 : Shape := ⟨3, ![4, 512, 1024]⟩
abbrev S4x1024x1024 : Shape := ⟨3, ![4, 1024, 1024]⟩
abbrev S4x128x4 : Shape := ⟨3, ![4, 128, 4]⟩
abbrev S4x128x4x128 : Shape := ⟨4, ![4, 128, 4, 128]⟩
abbrev S4x128x512 : Shape := ⟨3, ![4, 128, 512]⟩
abbrev S1x4x1x128x1x512 : Shape := ⟨6, ![1, 4, 1, 128, 1, 512]⟩
abbrev S1x4x4x128x1x512 : Shape := ⟨6, ![1, 4, 4, 128, 1, 512]⟩
abbrev S4x512x512 : Shape := ⟨3, ![4, 512, 512]⟩
abbrev S32768x1024 : Shape := ⟨2, ![32768, 1024]⟩
abbrev S32768x512 : Shape := ⟨2, ![32768, 512]⟩
abbrev S4x1x1024 : Shape := ⟨3, ![4, 1, 1024]⟩
abbrev S4x1024x512 : Shape := ⟨3, ![4, 1024, 512]⟩
abbrev S4x1024x3072 : Shape := ⟨3, ![4, 1024, 3072]⟩
abbrev S4x1x512 : Shape := ⟨3, ![4, 1, 512]⟩
abbrev S512x1024 : Shape := ⟨2, ![512, 1024]⟩
abbrev S512x512 : Shape := ⟨2, ![512, 512]⟩
abbrev S1x1x1024 : Shape := ⟨3, ![1, 1, 1024]⟩
abbrev S1x1024x512 : Shape := ⟨3, ![1, 1024, 512]⟩
abbrev S1x1024x1024 : Shape := ⟨3, ![1, 1024, 1024]⟩
abbrev S1x1024x3072 : Shape := ⟨3, ![1, 1024, 3072]⟩
abbrev S1x1x512 : Shape := ⟨3, ![1, 1, 512]⟩
abbrev S1x4x128x128 : Shape := ⟨4, ![1, 4, 128, 128]⟩
abbrev S1x512x512 : Shape := ⟨3, ![1, 512, 512]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩
abbrev S1x512 : Shape := ⟨2, ![1, 512]⟩
abbrev S128x128 : Shape := ⟨2, ![128, 128]⟩
abbrev S1x1x128x128 : Shape := ⟨4, ![1, 1, 128, 128]⟩
abbrev S512x128 : Shape := ⟨2, ![512, 128]⟩

abbrev nBuf : Space → Nat
  | .hbm => 34
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .f32⟩
  | .hbm, ⟨3, _⟩ => ⟨S4x1024, .f32⟩
  | .hbm, ⟨4, _⟩ => ⟨S4x1024x7696, .f32⟩
  | .hbm, ⟨5, _⟩ => ⟨S4x512, .f32⟩
  | .hbm, ⟨6, _⟩ => ⟨S4x4x128x128, .f32⟩
  | .hbm, ⟨7, _⟩ => ⟨S4x4x128, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S4x1024x1024, .f32⟩
  | .hbm, ⟨12, _⟩ => ⟨S4x128x4, .f32⟩
  | .hbm, ⟨13, _⟩ => ⟨S4x128x4x128, .f32⟩
  | .hbm, ⟨14, _⟩ => ⟨S4x128x512, .f32⟩
  | .hbm, ⟨15, _⟩ => ⟨S1x4x1x128x1x512, .f32⟩
  | .hbm, ⟨16, _⟩ => ⟨S1x4x4x128x1x512, .f32⟩
  | .hbm, ⟨17, _⟩ => ⟨S4x512x512, .f32⟩
  | .hbm, ⟨18, _⟩ => ⟨S32768x1024, .f32⟩
  | .hbm, ⟨19, _⟩ => ⟨S32768x512, .bf16⟩
  | .hbm, ⟨20, _⟩ => ⟨S32768x512, .f32⟩
  | .hbm, ⟨21, _⟩ => ⟨S4x1x1024, .f32⟩
  | .hbm, ⟨22, _⟩ => ⟨S4x1024x512, .f32⟩
  | .hbm, ⟨23, _⟩ => ⟨S4x1024x512, .bf16⟩
  | .hbm, ⟨24, _⟩ => ⟨S4x1024x1024, .f32⟩
  | .hbm, ⟨25, _⟩ => ⟨S4x1024x1024, .bf16⟩
  | .hbm, ⟨26, _⟩ => ⟨S4x1024x3072, .f32⟩
  | .hbm, ⟨27, _⟩ => ⟨S4x1024x3072, .bf16⟩
  | .hbm, ⟨28, _⟩ => ⟨S4x1x512, .f32⟩
  | .hbm, ⟨29, _⟩ => ⟨S4x512x1024, .bf16⟩
  | .hbm, ⟨30, _⟩ => ⟨S4x512x1024, .bf16⟩
  | .hbm, ⟨31, _⟩ => ⟨S4x512x1024, .bf16⟩
  | .hbm, ⟨32, _⟩ => ⟨S4x1024x1024, .bf16⟩
  | .hbm, ⟨33, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S1x1x1024, .f32⟩
  | .local _ .vmem, ⟨7, _⟩ => ⟨S1x1024x512, .bf16⟩
  | .local _ .vmem, ⟨8, _⟩ => ⟨S1x1024x1024, .bf16⟩
  | .local _ .vmem, ⟨9, _⟩ => ⟨S1x1024x3072, .bf16⟩
  | .local _ .vmem, ⟨10, _⟩ => ⟨S1x1x512, .f32⟩
  | .local _ .vmem, ⟨11, _⟩ => ⟨S1x4x128x128, .f32⟩
  | .local _ .vmem, ⟨12, _⟩ => ⟨S1x512x512, .f32⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024x1024, .bf16⟩
  | .local _ .vmem, ⟨17, _⟩ => ⟨S512x1024, .f32⟩
  | .local _ .vmem, ⟨18, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S2x16384x1024 : Shape := ⟨3, ![2, 16384, 1024]⟩
abbrev S2x16384x512 : Shape := ⟨3, ![2, 16384, 512]⟩
abbrev S4x1024 : Shape := ⟨2, ![4, 1024]⟩
abbrev S4x1024x7696 : Shape := ⟨3, ![4, 1024, 7696]⟩
abbrev S4x512 : Shape := ⟨2, ![4, 512]⟩
abbrev S4x4x128x128 : Shape := ⟨4, ![4, 4, 128, 128]⟩
abbrev S4x4x128 : Shape := ⟨3, ![4, 4, 128]⟩
abbrev S4x512x1024 : Shape := ⟨3, ![4, 512, 1024]⟩
abbrev S4x1024x1024 : Shape := ⟨3, ![4, 1024, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x7696 : Shape := ⟨3, ![1, 1024, 7696]⟩
abbrev S1024x7696 : Shape := ⟨2, ![1024, 7696]⟩
abbrev S2x16384x7696 : Shape := ⟨3, ![2, 16384, 7696]⟩
abbrev S2x16384x1536 : Shape := ⟨3, ![2, 16384, 1536]⟩
abbrev S2x16384x8 : Shape := ⟨3, ![2, 16384, 8]⟩
abbrev S2x16384x4 : Shape := ⟨3, ![2, 16384, 4]⟩
abbrev S2x16384x3072 : Shape := ⟨3, ![2, 16384, 3072]⟩
abbrev S1x512 : Shape := ⟨2, ![1, 512]⟩
abbrev S512 : Shape := ⟨1, ![512]⟩
abbrev S1x1x512 : Shape := ⟨3, ![1, 1, 512]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S2x128x128x4x128 : Shape := ⟨5, ![2, 128, 128, 4, 128]⟩
abbrev S128x128 : Shape := ⟨2, ![128, 128]⟩
abbrev S4x2x128x128x128 : Shape := ⟨5, ![4, 2, 128, 128, 128]⟩
abbrev S128x4 : Shape := ⟨2, ![128, 4]⟩
abbrev S1x1x128x4x1 : Shape := ⟨5, ![1, 1, 128, 4, 1]⟩
abbrev S2x16384x3x1024 : Shape := ⟨4, ![2, 16384, 3, 1024]⟩
abbrev S2x16384x1x1024 : Shape := ⟨4, ![2, 16384, 1, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S32768x1024 : Shape := ⟨2, ![32768, 1024]⟩

abbrev nBuf : Space → Nat
  | .hbm => 152
  | .vmem => 0
  | .smem => 0
  | _ => 0

abbrev hbmTy0_0 (i : Nat) : BufTy := match i % 128 with
  | 0 => ⟨S2x16384x1024, .f32⟩
  | 1 => ⟨S2x16384x512, .bf16⟩
  | 2 => ⟨S2x16384x512, .f32⟩
  | 3 => ⟨S4x1024, .f32⟩
  | 4 => ⟨S4x1024x7696, .f32⟩
  | 5 => ⟨S4x512, .f32⟩
  | 6 => ⟨S4x4x128x128, .f32⟩
  | 7 => ⟨S4x4x128, .f32⟩
  | 8 => ⟨S4x512x1024, .f32⟩
  | 9 => ⟨S4x512x1024, .f32⟩
  | 10 => ⟨S4x512x1024, .f32⟩
  | 11 => ⟨S4x1024x1024, .f32⟩
  | 12 => ⟨S1x1024, .f32⟩
  | 13 => ⟨S1024, .f32⟩
  | 14 => ⟨S2x16384x1024, .f32⟩
  | 15 => ⟨S_, .f32⟩
  | 16 => ⟨S2x16384, .f32⟩
  | 17 => ⟨S2x16384x1, .f32⟩
  | 18 => ⟨S_, .f32⟩
  | 19 => ⟨S2x16384x1, .f32⟩
  | 20 => ⟨S2x16384x1, .f32⟩
  | 21 => ⟨S_, .f32⟩
  | 22 => ⟨S2x16384x1, .f32⟩
  | 23 => ⟨S2x16384x1, .f32⟩
  | 24 => ⟨S2x16384x1, .f32⟩
  | 25 => ⟨S2x16384x1024, .f32⟩
  | 26 => ⟨S2x16384x1024, .f32⟩
  | 27 => ⟨S1x1x1024, .f32⟩
  | 28 => ⟨S2x16384x1024, .f32⟩
  | 29 => ⟨S2x16384x1024, .f32⟩
  | 30 => ⟨S1x1024x7696, .f32⟩
  | 31 => ⟨S1024x7696, .f32⟩
  | 32 => ⟨S2x16384x7696, .f32⟩
  | 33 => ⟨S2x16384x1536, .f32⟩
  | 34 => ⟨S2x16384x8, .f32⟩
  | 35 => ⟨S2x16384x1024, .f32⟩
  | 36 => ⟨S2x16384x512, .f32⟩
  | 37 => ⟨S2x16384x4, .f32⟩
  | 38 => ⟨S2x16384x4, .f32⟩
  | 39 => ⟨S2x16384x512, .f32⟩
  | 40 => ⟨S2x16384x1024, .f32⟩
  | 41 => ⟨S2x16384x3072, .f32⟩
  | 42 => ⟨S2x16384x512, .f32⟩
  | 43 => ⟨S2x16384x512, .f32⟩
  | 44 => ⟨S_, .f32⟩
  | 45 => ⟨S2x16384x512, .f32⟩
  | 46 => ⟨S2x16384x512, .f32⟩
  | 47 => ⟨S_, .f32⟩
  | 48 => ⟨S2x16384x512, .f32⟩
  | 49 => ⟨S2x16384x512, .f32⟩
  | 50 => ⟨S2x16384x512, .f32⟩
  | 51 => ⟨S2x16384x1024, .f32⟩
  | 52 => ⟨S2x16384x1024, .f32⟩
  | 53 => ⟨S_, .f32⟩
  | 54 => ⟨S2x16384x1024, .f32⟩
  | 55 => ⟨S2x16384x1024, .f32⟩
  | 56 => ⟨S2x16384x1024, .f32⟩
  | 57 => ⟨S_, .f32⟩
  | 58 => ⟨S2x16384x1024, .f32⟩
  | 59 => ⟨S2x16384x1024, .f32⟩
  | 60 => ⟨S2x16384x1024, .f32⟩
  | 61 => ⟨S_, .f32⟩
  | 62 => ⟨S2x16384x1024, .f32⟩
  | 63 => ⟨S2x16384x1024, .f32⟩
  | 64 => ⟨S_, .f32⟩
  | 65 => ⟨S2x16384x1024, .f32⟩
  | 66 => ⟨S2x16384x1024, .f32⟩
  | 67 => ⟨S2x16384x1024, .f32⟩
  | 68 => ⟨S2x16384x512, .f32⟩
  | 69 => ⟨S2x16384x512, .f32⟩
  | 70 => ⟨S1x512, .f32⟩
  | 71 => ⟨S512, .f32⟩
  | 72 => ⟨S2x16384x512, .f32⟩
  | 73 => ⟨S_, .f32⟩
  | 74 => ⟨S2x16384, .f32⟩
  | 75 => ⟨S2x16384x1, .f32⟩
  | 76 => ⟨S_, .f32⟩
  | 77 => ⟨S2x16384x1, .f32⟩
  | 78 => ⟨S2x16384x1, .f32⟩
  | 79 => ⟨S_, .f32⟩
  | 80 => ⟨S2x16384x1, .f32⟩
  | 81 => ⟨S2x16384x1, .f32⟩
  | 82 => ⟨S2x16384x1, .f32⟩
  | 83 => ⟨S2x16384x512, .f32⟩
  | 84 => ⟨S2x16384x512, .f32⟩
  | 85 => ⟨S1x1x512, .f32⟩
  | 86 => ⟨S2x16384x512, .f32⟩
  | 87 => ⟨S2x16384x512, .f32⟩
  | 88 => ⟨S1x4x128x128, .f32⟩
  | 89 => ⟨S4x128x128, .f32⟩
  | 90 => ⟨S1x4x128, .f32⟩
  | 91 => ⟨S4x128, .f32⟩
  | 92 => ⟨S2x128x128x4x128, .f32⟩
  | 93 => ⟨S_, .i1⟩
  | 94 => ⟨S128x128, .i1⟩
  | 95 => ⟨S128x128, .i32⟩
  | 96 => ⟨S_, .i32⟩
  | 97 => ⟨S128x128, .i32⟩
  | 98 => ⟨S128x128, .i32⟩
  | 99 => ⟨S128x128, .i32⟩
  | 100 => ⟨S128x128, .i1⟩
  | 101 => ⟨S_, .i1⟩
  | 102 => ⟨S128x128, .i1⟩
  | 103 => ⟨S128x128, .i1⟩
  | 104 => ⟨S_, .f32⟩
  | 105 => ⟨S_, .f32⟩
  | 106 => ⟨S4x128x128, .i1⟩
  | 107 => ⟨S4x128x128, .f32⟩
  | 108 => ⟨S4x128x128, .f32⟩
  | 109 => ⟨S4x2x128x128x128, .f32⟩
  | 110 => ⟨S2x128x128x4x128, .f32⟩
  | 111 => ⟨S128x4, .f32⟩
  | 112 => ⟨S1x1x128x4x1, .f32⟩
  | 113 => ⟨S2x128x128x4x128, .f32⟩
  | 114 => ⟨S2x128x128x4x128, .f32⟩
  | 115 => ⟨S2x16384x512, .f32⟩
  | 116 => ⟨S2x16384x512, .f32⟩
  | 117 => ⟨S2x16384x3072, .f32⟩
  | 118 => ⟨S2x16384x3072, .f32⟩
  | 119 => ⟨S_, .f32⟩
  | 120 => ⟨S2x16384x3072, .f32⟩
  | 121 => ⟨S2x16384x3072, .f32⟩
  | 122 => ⟨S_, .f32⟩
  | 123 => ⟨S2x16384x3072, .f32⟩
  | 124 => ⟨S2x16384x3072, .f32⟩
  | 125 => ⟨S2x16384x3x1024, .f32⟩
  | 126 => ⟨S2x16384x1x1024, .f32⟩
  | 127 => ⟨S2x16384x1024, .f32⟩
  | _ => ⟨S2x16384x1024, .f32⟩

abbrev hbmTy0_1 (i : Nat) : BufTy := match i % 128 with
  | 0 => ⟨S2x16384x512, .f32⟩
  | 1 => ⟨S1x512x1024, .f32⟩
  | 2 => ⟨S512x1024, .f32⟩
  | 3 => ⟨S2x16384x1024, .f32⟩
  | 4 => ⟨S2x16384x1024, .f32⟩
  | 5 => ⟨S2x16384x1x1024, .f32⟩
  | 6 => ⟨S2x16384x1024, .f32⟩
  | 7 => ⟨S1x512x1024, .f32⟩
  | 8 => ⟨S512x1024, .f32⟩
  | 9 => ⟨S2x16384x1024, .f32⟩
  | 10 => ⟨S2x16384x1024, .f32⟩
  | 11 => ⟨S2x16384x1024, .f32⟩
  | 12 => ⟨S2x16384x1x1024, .f32⟩
  | 13 => ⟨S2x16384x1024, .f32⟩
  | 14 => ⟨S1x512x1024, .f32⟩
  | 15 => ⟨S512x1024, .f32⟩
  | 16 => ⟨S2x16384x1024, .f32⟩
  | 17 => ⟨S2x16384x1024, .f32⟩
  | 18 => ⟨S2x16384x1024, .f32⟩
  | 19 => ⟨S1x1024x1024, .f32⟩
  | 20 => ⟨S1024x1024, .f32⟩
  | 21 => ⟨S2x16384x1024, .f32⟩
  | 22 => ⟨S2x16384x1024, .f32⟩
  | 23 => ⟨S32768x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c : Ref sig .tc := ⟨.hbm, 93, rfl⟩
abbrev main_v69 : Ref sig .tc := ⟨.hbm, 94, rfl⟩
abbrev main_call0_v0 : Ref sig .tc := ⟨.hbm, 95, rfl⟩
abbrev main_call0_c : Ref sig .tc := ⟨.hbm, 96, rfl⟩
abbrev main_call0_v1 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_c_0 : Ref sig .tc := ⟨.hbm, 101, rfl⟩
abbrev main_call0_v5 : Ref sig .tc := ⟨.hbm, 102, rfl⟩
abbrev main_v70 : Ref sig .tc := ⟨.hbm, 103, rfl⟩
abbrev main_cst_11 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_12 : Ref sig .tc := ⟨.hbm, 119, rfl⟩
abbrev main_v82 : Ref sig .tc := ⟨.hbm, 120, rfl⟩
abbrev main_v83 : Ref sig .tc := ⟨.hbm, 121, rfl⟩
abbrev main_cst_13 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩

abbrev nD : Nat := 1
abbrev τ : Topo := Topo.v7x

variable {F : FTy → Type} [FloatOps F]
-- ==== Kernel5.lean ====
abbrev S2x16384x1024 : Shape := ⟨3, ![2, 16384, 1024]⟩
abbrev S4x1024 : Shape := ⟨2, ![4, 1024]⟩
abbrev S4x1024x7696 : Shape := ⟨3, ![4, 1024, 7696]⟩
abbrev S4x4x1024 : Shape := ⟨3, ![4, 4, 1024]⟩
abbrev S4x1024x8 : Shape := ⟨3, ![4, 1024, 8]⟩
abbrev S4x1024x4 : Shape := ⟨3, ![4, 1024, 4]⟩
abbrev S_ : Shape := ⟨0, ![]⟩
abbrev S4x1024x112 : Shape := ⟨3, ![4, 1024, 112]⟩
abbrev S4x1024x128 : Shape := ⟨3, ![4, 1024, 128]⟩
abbrev S4x1024x512 : Shape := ⟨3, ![4, 1024, 512]⟩
abbrev S4x1024x8x64 : Shape := ⟨4, ![4, 1024, 8, 64]⟩
abbrev S4x1024x8x80 : Shape := ⟨4, ![4, 1024, 8, 80]⟩
abbrev S4x1024x640 : Shape := ⟨3, ![4, 1024, 640]⟩
abbrev S4x1024x8x128 : Shape := ⟨4, ![4, 1024, 8, 128]⟩
abbrev S4x1024x1024 : Shape := ⟨3, ![4, 1024, 1024]⟩
abbrev S4x1x1024 : Shape := ⟨3, ![4, 1, 1024]⟩
abbrev S4x640x1024 : Shape := ⟨3, ![4, 640, 1024]⟩
abbrev S2x8x32x80x512 : Shape := ⟨5, ![2, 8, 32, 80, 512]⟩
abbrev S2x8x64x80x256 : Shape := ⟨5, ![2, 8, 64, 80, 256]⟩
abbrev S2x16384x128 : Shape := ⟨3, ![2, 16384, 128]⟩
abbrev S2x16384x512 : Shape := ⟨3, ![2, 16384, 512]⟩
abbrev S1x1024x1024 : Shape := ⟨3, ![1, 1024, 1024]⟩
abbrev S1x8x1024 : Shape := ⟨3, ![1, 8, 1024]⟩
abbrev S1x1x1024 : Shape := ⟨3, ![1, 1, 1024]⟩
abbrev S1x640x1024 : Shape := ⟨3, ![1, 640, 1024]⟩
abbrev S1x1024x128 : Shape := ⟨3, ![1, 1024, 128]⟩
abbrev S1x1024x512 : Shape := ⟨3, ![1, 1024, 512]⟩
abbrev S1x4x1024 : Shape := ⟨3, ![1, 4, 1024]⟩
abbrev S1x8x2x80x512 : Shape := ⟨5, ![1, 8, 2, 80, 512]⟩
abbrev S1x8x4x80x256 : Shape := ⟨5, ![1, 8, 4, 80, 256]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S640x1024 : Shape := ⟨2, ![640, 1024]⟩
abbrev S640x512 : Shape := ⟨2, ![640, 512]⟩
abbrev S8x80x512 : Shape := ⟨3, ![8, 80, 512]⟩
abbrev S1x8x1x80x512 : Shape := ⟨5, ![1, 8, 1, 80, 512]⟩
abbrev S640x256 : Shape := ⟨2, ![640, 256]⟩
abbrev S8x80x256 : Shape := ⟨3, ![8, 80, 256]⟩
abbrev S1x8x1x80x256 : Shape := ⟨5, ![1, 8, 1, 80, 256]⟩
abbrev S1024x128 : Shape := ⟨2, ![1024, 128]⟩
abbrev S1024x512 : Shape := ⟨2, ![1024, 512]⟩
abbrev S8x1024 : Shape := ⟨2, ![8, 1024]⟩
abbrev S8 : Shape := ⟨1, ![8]⟩
abbrev S8x1 : Shape := ⟨2, ![8, 1]⟩
abbrev S1032x1024 : Shape := ⟨2, ![1032, 1024]⟩

abbrev nBuf : Space → Nat
  | .hbm => 49
  | .vmem => 26
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S4x1024x7696, .f32⟩
  | .hbm, ⟨3, _⟩ => ⟨S4x4x1024, .f32⟩
  | .hbm, ⟨4, _⟩ => ⟨S4x1024x8, .f32⟩
  | .hbm, ⟨5, _⟩ => ⟨S4x1024x4, .f32⟩
  | .hbm, ⟨6, _⟩ => ⟨S4x1024x4, .f32⟩
  | .hbm, ⟨7, _⟩ => ⟨S_, .f32⟩
  | .hbm, ⟨8, _⟩ => ⟨S4x1024x112, .f32⟩
  | .hbm, ⟨9, _⟩ => ⟨S4x1024x128, .f32⟩
  | .hbm, ⟨10, _⟩ => ⟨S4x1024x512, .f32⟩
  | .hbm, ⟨11, _⟩ => ⟨S4x1024x8x64, .f32⟩
  | .hbm, ⟨12, _⟩ => ⟨S_, .i32⟩
  | .hbm, ⟨13, _⟩ => ⟨S_, .f32⟩
  | .hbm, ⟨14, _⟩ => ⟨S4x1024x8x80, .f32⟩
  | .hbm, ⟨15, _⟩ => ⟨S4x1024x640, .f32⟩
  | .hbm, ⟨16, _⟩ => ⟨S_, .f32⟩
  | .hbm, ⟨17, _⟩ => ⟨S4x1024x640, .f32⟩
  | .hbm, ⟨18, _⟩ => ⟨S4x1024x640, .f32⟩
  | .hbm, ⟨19, _⟩ => ⟨S4x1024x512, .f32⟩
  | .hbm, ⟨20, _⟩ => ⟨S4x1024x8x64, .f32⟩
  | .hbm, ⟨21, _⟩ => ⟨S_, .i32⟩
  | .hbm, ⟨22, _⟩ => ⟨S_, .f32⟩
  | .hbm, ⟨23, _⟩ => ⟨S4x1024x8x128, .f32⟩
  | .hbm, ⟨24, _⟩ => ⟨S4x1024x1024, .f32⟩
  | .hbm, ⟨25, _⟩ => ⟨S4x1024x512, .f32⟩
  | .hbm, ⟨26, _⟩ => ⟨S4x1024x8x64, .f32⟩
  | .hbm, ⟨27, _⟩ => ⟨S_, .i32⟩
  | .hbm, ⟨28, _⟩ => ⟨S_, .f32⟩
  | .hbm, ⟨29, _⟩ => ⟨S4x1024x8x80, .f32⟩
  | .hbm, ⟨30, _⟩ => ⟨S4x1024x640, .f32⟩
  | .hbm, ⟨31, _⟩ => ⟨S4x1x1024, .f32⟩
  | .hbm, ⟨32, _⟩ => ⟨S4x640x1024, .f32⟩
  | .hbm, ⟨33, _⟩ => ⟨S4x640x1024, .bf16⟩
  | .hbm, ⟨34, _⟩ => ⟨S4x1024x1024, .bf16⟩
  | .hbm, ⟨35, _⟩ => ⟨S4x640x1024, .f32⟩
  | .hbm, ⟨36, _⟩ => ⟨S4x640x1024, .bf16⟩
  | .hbm, ⟨37, _⟩ => ⟨S4x1024x128, .bf16⟩
  | .hbm, ⟨38, _⟩ => ⟨S4x1024x1024, .f32⟩
  | .hbm, ⟨39, _⟩ => ⟨S4x1024x1024, .bf16⟩
  | .hbm, ⟨40, _⟩ => ⟨S4x1024x512, .f32⟩
  | .hbm, ⟨41, _⟩ => ⟨S4x1024x512, .bf16⟩
  | .hbm, ⟨42, _⟩ => ⟨S2x8x32x80x512, .bf16⟩
  | .hbm, ⟨43, _⟩ => ⟨S2x16384x1024, .bf16⟩
  | .hbm, ⟨44, _⟩ => ⟨S2x8x64x80x256, .bf16⟩
  | .hbm, ⟨45, _⟩ => ⟨S2x16384x128, .f32⟩
  | .hbm, ⟨46, _⟩ => ⟨S2x16384x512, .bf16⟩
  | .hbm, ⟨47, _⟩ => ⟨S2x16384x512, .bf16⟩
  | .hbm, ⟨48, _⟩ => ⟨S2x16384x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1x1024, .f32⟩
  | .local _ .vmem, ⟨5, _⟩ => ⟨S1x640x1024, .bf16⟩
  | .local _ .vmem, ⟨6, _⟩ => ⟨S1x1024x1024, .bf16⟩
  | .local _ .vmem, ⟨7, _⟩ => ⟨S1x640x1024, .bf16⟩
  | .local _ .vmem, ⟨8, _⟩ => ⟨S1x1024x128, .bf16⟩
  | .local _ .vmem, ⟨9, _⟩ => ⟨S1x1024x1024, .bf16⟩
  | .local _ .vmem, ⟨10, _⟩ => ⟨S1x1024x512, .bf16⟩
  | .local _ .vmem, ⟨11, _⟩ => ⟨S1x4x1024, .f32⟩
  | .local _ .vmem, ⟨12, _⟩ => ⟨S1x8x2x80x512, .bf16⟩
  | .local _ .vmem, ⟨13, _⟩ => ⟨S1x8x2x80x512, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x8x4x80x256, .bf16⟩
  | .local _ .vmem, ⟨17, _⟩ => ⟨S1x8x4x80x256, .bf16⟩
  | .local _ .vmem, ⟨18, _⟩ => ⟨S1x1024x128, .f32⟩
  | .local _ .vmem, ⟨19, _⟩ => ⟨S1x1024x128, .f32⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_call2_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_v30_3 : Ref sig .tc := ⟨.hbm, 45, rfl⟩
abbrev main_v30_4 : Ref sig .tc := ⟨.hbm, 46, rfl⟩
abbrev main_v30_5 : Ref sig .tc := ⟨.hbm, 47, rfl⟩
abbrev main_v30_6 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x640x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x640x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x2x80x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x4x80x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference5Ideal.lean ====
abbrev S2x16384x1024 : Shape := ⟨3, ![2, 16384, 1024]⟩
abbrev S4x1024 : Shape := ⟨2, ![4, 1024]⟩
abbrev S4x1024x7696 : Shape := ⟨3, ![4, 1024, 7696]⟩
abbrev S4x4x1024 : Shape := ⟨3, ![4, 4, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x7696 : Shape := ⟨3, ![1, 1024, 7696]⟩
abbrev S1024x7696 : Shape := ⟨2, ![1024, 7696]⟩
abbrev S2x16384x7696 : Shape := ⟨3, ![2, 16384, 7696]⟩
abbrev S2x16384x1536 : Shape := ⟨3, ![2, 16384, 1536]⟩
abbrev S2x16384x8 : Shape := ⟨3, ![2, 16384, 8]⟩
abbrev S2x16384x512 : Shape := ⟨3, ![2, 16384, 512]⟩
abbrev S2x16384x4 : Shape := ⟨3, ![2, 16384, 4]⟩
abbrev S2x16384x3072 : Shape := ⟨3, ![2, 16384, 3072]⟩
abbrev S2x16384x8x64 : Shape := ⟨4, ![2, 16384, 8, 64]⟩
abbrev S1x4x1024 : Shape := ⟨3, ![1, 4, 1024]⟩
abbrev S2x16387x1024 : Shape := ⟨3, ![2, 16387, 1024]⟩
abbrev S2x16384x8x3 : Shape := ⟨4, ![2, 16384, 8, 3]⟩
abbrev S2x16384x8x13 : Shape := ⟨4, ![2, 16384, 8, 13]⟩
abbrev S2x16384x8x80 : Shape := ⟨4, ![2, 16384, 8, 80]⟩
abbrev S2x32x512x8x80 : Shape := ⟨5, ![2, 32, 512, 8, 80]⟩
abbrev S2x8x32x80x512 : Shape := ⟨5, ![2, 8, 32, 80, 512]⟩
abbrev S2x16384x8x128 : Shape := ⟨4, ![2, 16384, 8, 128]⟩
abbrev S2x16384x8x1 : Shape := ⟨4, ![2, 16384, 8, 1]⟩
abbrev S2x16384x8x15 : Shape := ⟨4, ![2, 16384, 8, 15]⟩
abbrev S2x64x256x8x80 : Shape := ⟨5, ![2, 64, 256, 8, 80]⟩
abbrev S2x8x64x80x256 : Shape := ⟨5, ![2, 8, 64, 80, 256]⟩
abbrev S2x16384x112 : Shape := ⟨3, ![2, 16384, 112]⟩
abbrev S2x16384x128 : Shape := ⟨3, ![2, 16384, 128]⟩

abbrev nBuf : Space → Nat
  | .hbm => 119
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S4x1024x7696, .f32⟩
  | .hbm, ⟨3, _⟩ => ⟨S4x4x1024, .f32⟩
  | .hbm, ⟨4, _⟩ => ⟨S1x1024, .f32⟩
  | .hbm, ⟨5, _⟩ => ⟨S1024, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S1x1024x7696, .f32⟩
  | .hbm, ⟨23, _⟩ => ⟨S1024x7696, .f32⟩
  | .hbm, ⟨24, _⟩ => ⟨S2x16384x7696, .f32⟩
  | .hbm, ⟨25, _⟩ => ⟨S2x16384x1536, .f32⟩
  | .hbm, ⟨26, _⟩ => ⟨S2x16384x8, .f32⟩
  | .hbm, ⟨27, _⟩ => ⟨S2x16384x1024, .f32⟩
  | .hbm, ⟨28, _⟩ => ⟨S2x16384x512, .f32⟩
  | .hbm, ⟨29, _⟩ => ⟨S2x16384x4, .f32⟩
  | .hbm, ⟨30, _⟩ => ⟨S2x16384x4, .f32⟩
  | .hbm, ⟨31, _⟩ => ⟨S2x16384x512, .f32⟩
  | .hbm, ⟨32, _⟩ => ⟨S2x16384x1024, .f32⟩
  | .hbm, ⟨33, _⟩ => ⟨S2x16384x3072, .f32⟩
  | .hbm, ⟨34, _⟩ => ⟨S2x16384x512, .f32⟩
  | .hbm, ⟨35, _⟩ => ⟨S2x16384x512, .f32⟩
  | .hbm, ⟨36, _⟩ => ⟨S2x16384x512, .f32⟩
  | .hbm, ⟨37, _⟩ => ⟨S2x16384x8x64, .f32⟩
  | .hbm, ⟨38, _⟩ => ⟨S2x16384x8x64, .f32⟩
  | .hbm, ⟨39, _⟩ => ⟨S2x16384x8x64, .f32⟩
  | .hbm, ⟨40, _⟩ => ⟨S1x4x1024, .f32⟩
  | .hbm, ⟨41, _⟩ => ⟨S4x1024, .f32⟩
  | .hbm, ⟨42, _⟩ => ⟨S_, .i32⟩
  | .hbm, ⟨43, _⟩ => ⟨S_, .f32⟩
  | .hbm, ⟨44, _⟩ => ⟨S2x16387x1024, .f32⟩
  | .hbm, ⟨45, _⟩ => ⟨S1x1024, .f32⟩
  | .hbm, ⟨46, _⟩ => ⟨S1024, .f32⟩
  | .hbm, ⟨47, _⟩ => ⟨S2x16384x1024, .f32⟩
  | .hbm, ⟨48, _⟩ => ⟨S1x1x1024, .f32⟩
  | .hbm, ⟨49, _⟩ => ⟨S2x16384x1024, .f32⟩
  | .hbm, ⟨50, _⟩ => ⟨S2x16384x1024, .f32⟩
  | .hbm, ⟨51, _⟩ => ⟨S_, .f32⟩
  | .hbm, ⟨52, _⟩ => ⟨S2x16384x1024, .f32⟩
  | .hbm, ⟨53, _⟩ => ⟨S2x16384x1024, .f32⟩
  | .hbm, ⟨54, _⟩ => ⟨S1x1024, .f32⟩
  | .hbm, ⟨55, _⟩ => ⟨S1024, .f32⟩
  | .hbm, ⟨56, _⟩ => ⟨S2x16384x1024, .f32⟩
  | .hbm, ⟨57, _⟩ => ⟨S1x1x1024, .f32⟩
  | .hbm, ⟨58, _⟩ => ⟨S2x16384x1024, .f32⟩
  | .hbm, ⟨59, _⟩ => ⟨S2x16384x1024, .f32⟩
  | .hbm, ⟨60, _⟩ => ⟨S2x16384x1024, .f32⟩
  | .hbm, ⟨61, _⟩ => ⟨S1x1024, .f32⟩
  | .hbm, ⟨62, _⟩ => ⟨S1024, .f32⟩
  | .hbm, ⟨63, _⟩ => ⟨S2x16384x1024, .f32⟩
  | .hbm, ⟨64, _⟩ => ⟨S1x1x1024, .f32⟩
  | .hbm, ⟨65, _⟩ => ⟨S2x16384x1024, .f32⟩
  | .hbm, ⟨66, _⟩ => ⟨S2x16384x1024, .f32⟩
  | .hbm, ⟨67, _⟩ => ⟨S2x16384x1024, .f32⟩
  | .hbm, ⟨68, _⟩ => ⟨S1x1024, .f32⟩
  | .hbm, ⟨69, _⟩ => ⟨S1024, .f32⟩
  | .hbm, ⟨70, _⟩ => ⟨S2x16384x1024, .f32⟩
  | .hbm, ⟨71, _⟩ => ⟨S1x1x1024, .f32⟩
  | .hbm, ⟨72, _⟩ => ⟨S2x16384x1024, .f32⟩
  | .hbm, ⟨73, _⟩ => ⟨S2x16384x1024, .f32⟩
  | .hbm, ⟨74, _⟩ => ⟨S2x16384x1024, .f32⟩
  | .hbm, ⟨75, _⟩ => ⟨S2x16384x1024, .f32⟩
  | .hbm, ⟨76, _⟩ => ⟨S2x16384x1024, .f32⟩
  | .hbm, ⟨77, _⟩ => ⟨S_, .f32⟩
  | .hbm, ⟨78, _⟩ => ⟨S2x16384x1024, .f32⟩
  | .hbm, ⟨79, _⟩ => ⟨S2x16384x1024, .f32⟩
  | .hbm, ⟨80, _⟩ => ⟨S_, .f32⟩
  | .hbm, ⟨81, _⟩ => ⟨S2x16384x1024, .f32⟩
  | .hbm, ⟨82, _⟩ => ⟨S2x16384x1024, .f32⟩
  | .hbm, ⟨83, _⟩ => ⟨S2x16384x1024, .f32⟩
  | .hbm, ⟨84, _⟩ => ⟨S2x16384x512, .f32⟩
  | .hbm, ⟨85, _⟩ => ⟨S2x16384x512, .f32⟩
  | .hbm, ⟨86, _⟩ => ⟨S_, .f32⟩
  | .hbm, ⟨87, _⟩ => ⟨S2x16384x8x64, .f32⟩
  | .hbm, ⟨88, _⟩ => ⟨S2x16384x8x64, .f32⟩
  | .hbm, ⟨89, _⟩ => ⟨S_, .f32⟩
  | .hbm, ⟨90, _⟩ => ⟨S2x16384x8x3, .f32⟩
  | .hbm, ⟨91, _⟩ => ⟨S_, .f32⟩
  | .hbm, ⟨92, _⟩ => ⟨S2x16384x8x13, .f32⟩
  | .hbm, ⟨93, _⟩ => ⟨S2x16384x8x80, .f32⟩
  | .hbm, ⟨94, _⟩ => ⟨S2x32x512x8x80, .f32⟩
  | .hbm, ⟨95, _⟩ => ⟨S2x8x32x80x512, .f32⟩
  | .hbm, ⟨96, _⟩ => ⟨S_, .f32⟩
  | .hbm, ⟨97, _⟩ => ⟨S2x16384x8x64, .f32⟩
  | .hbm, ⟨98, _⟩ => ⟨S2x16384x8x128, .f32⟩
  | .hbm, ⟨99, _⟩ => ⟨S2x16384x1024, .f32⟩
  | .hbm, ⟨100, _⟩ => ⟨S_, .f32⟩
  | .hbm, ⟨101, _⟩ => ⟨S2x16384x8x1, .f32⟩
  | .hbm, ⟨102, _⟩ => ⟨S_, .f32⟩
  | .hbm, ⟨103, _⟩ => ⟨S2x16384x8x15, .f32⟩
  | .hbm, ⟨104, _⟩ => ⟨S2x16384x8x80, .f32⟩
  | .hbm, ⟨105, _⟩ => ⟨S2x64x256x8x80, .f32⟩
  | .hbm, ⟨106, _⟩ => ⟨S2x8x64x80x256, .f32⟩
  | .hbm, ⟨107, _⟩ => ⟨S_, .f32⟩
  | .hbm, ⟨108, _⟩ => ⟨S2x16384x112, .f32⟩
  | .hbm, ⟨109, _⟩ => ⟨S2x16384x128, .f32⟩
  | .hbm, ⟨110, _⟩ => ⟨S2x8x32x80x512, .bf16⟩
  | .hbm, ⟨111, _⟩ => ⟨S2x16384x1024, .bf16⟩
  | .hbm, ⟨112, _⟩ => ⟨S2x8x64x80x256, .bf16⟩
  | .hbm, ⟨113, _⟩ => ⟨S_, .f32⟩
  | .hbm, ⟨114, _⟩ => ⟨S2x16384x512, .f32⟩
  | .hbm, ⟨115, _⟩ => ⟨S2x16384x512, .f32⟩
  | .hbm, ⟨116, _⟩ => ⟨S2x16384x512, .bf16⟩
  | .hbm, ⟨117, _⟩ => ⟨S2x16384x512, .bf16⟩
  | .hbm, ⟨118, _⟩ => ⟨S2x16384x512, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c : Ref sig .tc := ⟨.hbm, 42, rfl⟩
abbrev main_call0_v0 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_3 : Ref sig .tc := ⟨.hbm, 86, rfl⟩
abbrev main_v68 : Ref sig .tc := ⟨.hbm, 87, rfl⟩
abbrev main_v69 : Ref sig .tc := ⟨.hbm, 88, rfl⟩
abbrev main_cst_4 : Ref sig .tc := ⟨.hbm, 89, rfl⟩
abbrev main_v70 : Ref sig .tc := ⟨.hbm, 90, rfl⟩
abbrev main_cst_5 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_6 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_7 : Ref sig .tc := ⟨.hbm, 100, rfl⟩
abbrev main_v78 : Ref sig .tc := ⟨.hbm, 101, rfl⟩
abbrev main_cst_8 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_9 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_10 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩

abbrev nD : Nat := 1
abbrev τ : Topo := Topo.v7x

variable {F : FTy → Type} [FloatOps F]
-- ==== Kernel6.lean ====
abbrev S2x16384x512 : Shape := ⟨3, ![2, 16384, 512]⟩
abbrev S2x16384x128 : Shape := ⟨3, ![2, 16384, 128]⟩
abbrev S4x512 : Shape := ⟨2, ![4, 512]⟩
abbrev S2x16384x16 : Shape := ⟨3, ![2, 16384, 16]⟩
abbrev S2x16x16384 : Shape := ⟨3, ![2, 16, 16384]⟩
abbrev S4x1x512 : Shape := ⟨3, ![4, 1, 512]⟩
abbrev S384x1536 : Shape := ⟨2, ![384, 1536]⟩
abbrev S_ : Shape := ⟨0, ![]⟩
abbrev S1x512x512 : Shape := ⟨3, ![1, 512, 512]⟩
abbrev S1x512x128 : Shape := ⟨3, ![1, 512, 128]⟩
abbrev S1x16x512 : Shape := ⟨3, ![1, 16, 512]⟩
abbrev S1x1x512 : Shape := ⟨3, ![1, 1, 512]⟩
abbrev S4x128x256 : Shape := ⟨3, ![4, 128, 256]⟩
abbrev S4x1x128 : Shape := ⟨3, ![4, 1, 128]⟩
abbrev S128x128 : Shape := ⟨2, ![128, 128]⟩
abbrev S1x128x256 : Shape := ⟨3, ![1, 128, 256]⟩
abbrev S128x256 : Shape := ⟨2, ![128, 256]⟩
abbrev S1x1x128 : Shape := ⟨3, ![1, 1, 128]⟩
abbrev S1x128 : Shape := ⟨2, ![1, 128]⟩
abbrev S1x128x128 : Shape := ⟨3, ![1, 128, 128]⟩
abbrev S128x384 : Shape := ⟨2, ![128, 384]⟩
abbrev S128x1536 : Shape := ⟨2, ![128, 1536]⟩
abbrev S1x256 : Shape := ⟨2, ![1, 256]⟩

abbrev nBuf : Space → Nat
  | .hbm => 53
  | .vmem => 16
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x16384x512, .bf16⟩
  | .hbm, ⟨3, _⟩ => ⟨S2x16384x128, .f32⟩
  | .hbm, ⟨4, _⟩ => ⟨S4x512, .f32⟩
  | .hbm, ⟨5, _⟩ => ⟨S2x16384x16, .f32⟩
  | .hbm, ⟨6, _⟩ => ⟨S2x16x16384, .f32⟩
  | .hbm, ⟨7, _⟩ => ⟨S4x1x512, .f32⟩
  | .hbm, ⟨8, _⟩ => ⟨S384x1536, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S384x1536, .i32⟩
  | .hbm, ⟨16, _⟩ => ⟨S384x1536, .i32⟩
  | .hbm, ⟨17, _⟩ => ⟨S_, .i32⟩
  | .hbm, ⟨18, _⟩ => ⟨S384x1536, .i32⟩
  | .hbm, ⟨19, _⟩ => ⟨S384x1536, .i1⟩
  | .hbm, ⟨20, _⟩ => ⟨S_, .i32⟩
  | .hbm, ⟨21, _⟩ => ⟨S384x1536, .i32⟩
  | .hbm, ⟨22, _⟩ => ⟨S384x1536, .i1⟩
  | .hbm, ⟨23, _⟩ => ⟨S_, .i32⟩
  | .hbm, ⟨24, _⟩ => ⟨S_, .i1⟩
  | .hbm, ⟨25, _⟩ => ⟨S384x1536, .i1⟩
  | .hbm, ⟨26, _⟩ => ⟨S384x1536, .i1⟩
  | .hbm, ⟨27, _⟩ => ⟨S384x1536, .i1⟩
  | .hbm, ⟨28, _⟩ => ⟨S384x1536, .i32⟩
  | .hbm, ⟨29, _⟩ => ⟨S384x1536, .i32⟩
  | .hbm, ⟨30, _⟩ => ⟨S384x1536, .i32⟩
  | .hbm, ⟨31, _⟩ => ⟨S384x1536, .i32⟩
  | .hbm, ⟨32, _⟩ => ⟨S_, .i32⟩
  | .hbm, ⟨33, _⟩ => ⟨S_, .i32⟩
  | .hbm, ⟨34, _⟩ => ⟨S384x1536, .i32⟩
  | .hbm, ⟨35, _⟩ => ⟨S384x1536, .i32⟩
  | .hbm, ⟨36, _⟩ => ⟨S384x1536, .i32⟩
  | .hbm, ⟨37, _⟩ => ⟨S_, .i32⟩
  | .hbm, ⟨38, _⟩ => ⟨S384x1536, .i32⟩
  | .hbm, ⟨39, _⟩ => ⟨S384x1536, .i1⟩
  | .hbm, ⟨40, _⟩ => ⟨S384x1536, .i32⟩
  | .hbm, ⟨41, _⟩ => ⟨S384x1536, .i32⟩
  | .hbm, ⟨42, _⟩ => ⟨S_, .i32⟩
  | .hbm, ⟨43, _⟩ => ⟨S384x1536, .i32⟩
  | .hbm, ⟨44, _⟩ => ⟨S384x1536, .i1⟩
  | .hbm, ⟨45, _⟩ => ⟨S384x1536, .i1⟩
  | .hbm, ⟨46, _⟩ => ⟨S_, .i32⟩
  | .hbm, ⟨47, _⟩ => ⟨S384x1536, .i32⟩
  | .hbm, ⟨48, _⟩ => ⟨S384x1536, .i32⟩
  | .hbm, ⟨49, _⟩ => ⟨S384x1536, .i32⟩
  | .hbm, ⟨50, _⟩ => ⟨S384x1536, .i1⟩
  | .hbm, ⟨51, _⟩ => ⟨S384x1536, .bf16⟩
  | .hbm, ⟨52, _⟩ => ⟨S2x16384x512, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x128, .f32⟩
  | .local _ .vmem, ⟨7, _⟩ => ⟨S1x512x128, .f32⟩
  | .local _ .vmem, ⟨8, _⟩ => ⟨S1x16x512, .f32⟩
  | .local _ .vmem, ⟨9, _⟩ => ⟨S1x16x512, .f32⟩
  | .local _ .vmem, ⟨10, _⟩ => ⟨S384x1536, .bf16⟩
  | .local _ .vmem, ⟨11, _⟩ => ⟨S1x1x512, .f32⟩
  | .local _ .vmem, ⟨12, _⟩ => ⟨S1x512x512, .f32⟩
  | .local _ .vmem, ⟨13, _⟩ => ⟨S1x512x512, .f32⟩
  | .local _ .vmem, ⟨14, _⟩ => ⟨S4x128x256, .f32⟩
  | .local _ .vmem, ⟨15, _⟩ => ⟨S4x1x128, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S384x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel6Ideal.lean ====
variable {F : FTy → Type} [FloatOps F] [Named F]
def κ : String → Option EReal := fun
  | "mask" => some ⊥
  | _ => none
-- ==== Reference6Ideal.lean ====
abbrev S2x16384x512 : Shape := ⟨3, ![2, 16384, 512]⟩
abbrev S2x16384x128 : Shape := ⟨3, ![2, 16384, 128]⟩
abbrev S4x512 : Shape := ⟨2, ![4, 512]⟩
abbrev S2x16384x4x128 : Shape := ⟨4, ![2, 16384, 4, 128]⟩
abbrev S2x4x16384x128 : Shape := ⟨4, ![2, 4, 16384, 128]⟩
abbrev S2x16384x4 : Shape := ⟨3, ![2, 16384, 4]⟩
abbrev S2x4x16384 : Shape := ⟨3, ![2, 4, 16384]⟩
abbrev S2x4x128x128 : Shape := ⟨4, ![2, 4, 128, 128]⟩
abbrev S2x4x128x1 : Shape := ⟨4, ![2, 4, 128, 1]⟩
abbrev S2x4x128 : Shape := ⟨3, ![2, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S2x4x1x128 : Shape := ⟨4, ![2, 4, 1, 128]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x4x16384x1 : Shape := ⟨4, ![2, 4, 16384, 1]⟩
abbrev S2x4x1x16384 : Shape := ⟨4, ![2, 4, 1, 16384]⟩
abbrev S2x4x16384x16384 : Shape := ⟨4, ![2, 4, 16384, 16384]⟩
abbrev S1x512 : Shape := ⟨2, ![1, 512]⟩
abbrev S512 : Shape := ⟨1, ![512]⟩
abbrev S4x128 : Shape := ⟨2, ![4, 128]⟩
abbrev S2x16384x4x1 : Shape := ⟨4, ![2, 16384, 4, 1]⟩
abbrev S1x1x4x128 : Shape := ⟨4, ![1, 1, 4, 128]⟩

abbrev nBuf : Space → Nat
  | .hbm => 97
  | .vmem => 0
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x16384x512, .bf16⟩
  | .hbm, ⟨3, _⟩ => ⟨S2x16384x128, .f32⟩
  | .hbm, ⟨4, _⟩ => ⟨S4x512, .f32⟩
  | .hbm, ⟨5, _⟩ => ⟨S2x16384x512, .f32⟩
  | .hbm, ⟨6, _⟩ => ⟨S2x16384x4x128, .f32⟩
  | .hbm, ⟨7, _⟩ => ⟨S2x4x16384x128, .f32⟩
  | .hbm, ⟨8, _⟩ => ⟨S2x16384x512, .f32⟩
  | .hbm, ⟨9, _⟩ => ⟨S2x16384x4x128, .f32⟩
  | .hbm, ⟨10, _⟩ => ⟨S2x4x16384x128, .f32⟩
  | .hbm, ⟨11, _⟩ => ⟨S2x16384x512, .f32⟩
  | .hbm, ⟨12, _⟩ => ⟨S2x16384x4x128, .f32⟩
  | .hbm, ⟨13, _⟩ => ⟨S2x4x16384x128, .f32⟩
  | .hbm, ⟨14, _⟩ => ⟨S2x16384x4, .f32⟩
  | .hbm, ⟨15, _⟩ => ⟨S2x4x16384, .f32⟩
  | .hbm, ⟨16, _⟩ => ⟨S2x16384x4, .f32⟩
  | .hbm, ⟨17, _⟩ => ⟨S2x4x16384, .f32⟩
  | .hbm, ⟨18, _⟩ => ⟨S2x4x16384, .f32⟩
  | .hbm, ⟨19, _⟩ => ⟨S2x4x128x128, .f32⟩
  | .hbm, ⟨20, _⟩ => ⟨S2x4x128x1, .f32⟩
  | .hbm, ⟨21, _⟩ => ⟨S2x4x128, .f32⟩
  | .hbm, ⟨22, _⟩ => ⟨S128, .i32⟩
  | .hbm, ⟨23, _⟩ => ⟨S1x128, .i32⟩
  | .hbm, ⟨24, _⟩ => ⟨S128, .i32⟩
  | .hbm, ⟨25, _⟩ => ⟨S128x1, .i32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S2x4x1x128, .f32⟩
  | .hbm, ⟨30, _⟩ => ⟨S_, .f32⟩
  | .hbm, ⟨31, _⟩ => ⟨S_, .f32⟩
  | .hbm, ⟨32, _⟩ => ⟨S2x4x128x128, .i1⟩
  | .hbm, ⟨33, _⟩ => ⟨S2x4x128x128, .f32⟩
  | .hbm, ⟨34, _⟩ => ⟨S2x4x128x128, .f32⟩
  | .hbm, ⟨35, _⟩ => ⟨S2x4x128x128, .f32⟩
  | .hbm, ⟨36, _⟩ => ⟨S_, .f32⟩
  | .hbm, ⟨37, _⟩ => ⟨S2x4x128, .f32⟩
  | .hbm, ⟨38, _⟩ => ⟨S2x4x128x128, .f32⟩
  | .hbm, ⟨39, _⟩ => ⟨S2x4x128x1, .f32⟩
  | .hbm, ⟨40, _⟩ => ⟨S2x4x128x128, .f32⟩
  | .hbm, ⟨41, _⟩ => ⟨S2x4x128x128, .f32⟩
  | .hbm, ⟨42, _⟩ => ⟨S2x4x16384, .f32⟩
  | .hbm, ⟨43, _⟩ => ⟨S16384, .i32⟩
  | .hbm, ⟨44, _⟩ => ⟨S1x16384, .i32⟩
  | .hbm, ⟨45, _⟩ => ⟨S16384, .i32⟩
  | .hbm, ⟨46, _⟩ => ⟨S16384x1, .i32⟩
  | .hbm, ⟨47, _⟩ => ⟨S16384x16384, .i32⟩
  | .hbm, ⟨48, _⟩ => ⟨S16384x16384, .i32⟩
  | .hbm, ⟨49, _⟩ => ⟨S16384x16384, .i1⟩
  | .hbm, ⟨50, _⟩ => ⟨S2x4x16384x1, .f32⟩
  | .hbm, ⟨51, _⟩ => ⟨S2x4x1x16384, .f32⟩
  | .hbm, ⟨52, _⟩ => ⟨S2x4x16384x16384, .f32⟩
  | .hbm, ⟨53, _⟩ => ⟨S2x4x16384x16384, .f32⟩
  | .hbm, ⟨54, _⟩ => ⟨S2x4x16384x16384, .f32⟩
  | .hbm, ⟨55, _⟩ => ⟨S2x4x1x16384, .f32⟩
  | .hbm, ⟨56, _⟩ => ⟨S2x4x16384x16384, .f32⟩
  | .hbm, ⟨57, _⟩ => ⟨S2x4x16384x16384, .f32⟩
  | .hbm, ⟨58, _⟩ => ⟨S2x4x16384x16384, .f32⟩
  | .hbm, ⟨59, _⟩ => ⟨S_, .f32⟩
  | .hbm, ⟨60, _⟩ => ⟨S_, .f32⟩
  | .hbm, ⟨61, _⟩ => ⟨S2x4x16384x16384, .i1⟩
  | .hbm, ⟨62, _⟩ => ⟨S2x4x16384x16384, .f32⟩
  | .hbm, ⟨63, _⟩ => ⟨S2x4x16384x16384, .f32⟩
  | .hbm, ⟨64, _⟩ => ⟨S2x4x16384x16384, .f32⟩
  | .hbm, ⟨65, _⟩ => ⟨S2x4x16384x16384, .f32⟩
  | .hbm, ⟨66, _⟩ => ⟨S2x4x16384x128, .f32⟩
  | .hbm, ⟨67, _⟩ => ⟨S_, .f32⟩
  | .hbm, ⟨68, _⟩ => ⟨S2x4x16384, .f32⟩
  | .hbm, ⟨69, _⟩ => ⟨S2x4x16384, .f32⟩
  | .hbm, ⟨70, _⟩ => ⟨S_, .f32⟩
  | .hbm, ⟨71, _⟩ => ⟨S2x4x16384, .f32⟩
  | .hbm, ⟨72, _⟩ => ⟨S2x4x16384, .f32⟩
  | .hbm, ⟨73, _⟩ => ⟨S2x4x16384x1, .f32⟩
  | .hbm, ⟨74, _⟩ => ⟨S2x4x16384x128, .f32⟩
  | .hbm, ⟨75, _⟩ => ⟨S2x4x16384x128, .f32⟩
  | .hbm, ⟨76, _⟩ => ⟨S2x16384x4x128, .f32⟩
  | .hbm, ⟨77, _⟩ => ⟨S1x512, .f32⟩
  | .hbm, ⟨78, _⟩ => ⟨S512, .f32⟩
  | .hbm, ⟨79, _⟩ => ⟨S4x128, .f32⟩
  | .hbm, ⟨80, _⟩ => ⟨S2x16384x4x128, .f32⟩
  | .hbm, ⟨81, _⟩ => ⟨S_, .f32⟩
  | .hbm, ⟨82, _⟩ => ⟨S2x16384x4, .f32⟩
  | .hbm, ⟨83, _⟩ => ⟨S2x16384x4x1, .f32⟩
  | .hbm, ⟨84, _⟩ => ⟨S_, .f32⟩
  | .hbm, ⟨85, _⟩ => ⟨S2x16384x4x1, .f32⟩
  | .hbm, ⟨86, _⟩ => ⟨S2x16384x4x1, .f32⟩
  | .hbm, ⟨87, _⟩ => ⟨S_, .f32⟩
  | .hbm, ⟨88, _⟩ => ⟨S2x16384x4x1, .f32⟩
  | .hbm, ⟨89, _⟩ => ⟨S2x16384x4x1, .f32⟩
  | .hbm, ⟨90, _⟩ => ⟨S2x16384x4x1, .f32⟩
  | .hbm, ⟨91, _⟩ => ⟨S2x16384x4x128, .f32⟩
  | .hbm, ⟨92, _⟩ => ⟨S2x16384x4x128, .f32⟩
  | .hbm, ⟨93, _⟩ => ⟨S1x1x4x128, .f32⟩
  | .hbm, ⟨94, _⟩ => ⟨S2x16384x4x128, .f32⟩
  | .hbm, ⟨95, _⟩ => ⟨S2x16384x4x128, .f32⟩
  | .hbm, ⟨96, _⟩ => ⟨S2x16384x512, .f32⟩
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_1 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_2 : Ref sig .tc := ⟨.hbm, 67, rfl⟩
abbrev main_v52 : Ref sig .tc := ⟨.hbm, 68, rfl⟩
abbrev main_v53 : Ref sig .tc := ⟨.hbm, 69, rfl⟩
abbrev main_cst_3 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_4 : Ref sig .tc := ⟨.hbm, 81, rfl⟩
abbrev main_v64 : Ref sig .tc := ⟨.hbm, 82, rfl⟩
abbrev main_v65 : Ref sig .tc := ⟨.hbm, 83, rfl⟩
abbrev main_cst_5 : Ref sig .tc := ⟨.hbm, 84, rfl⟩
abbrev main_v66 : Ref sig .tc := ⟨.hbm, 85, rfl⟩
abbrev main_v67 : Ref sig .tc := ⟨.hbm, 86, rfl⟩
abbrev main_cst_6 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Kernel7.lean ====
abbrev S2x16384x128 : Shape := ⟨3, ![2, 16384, 128]⟩
abbrev S4x8 : Shape := ⟨2, ![4, 8]⟩
abbrev S4x4 : Shape := ⟨2, ![4, 4]⟩
abbrev S2x16384x1024 : Shape := ⟨3, ![2, 16384, 1024]⟩
abbrev S_ : Shape := ⟨0, ![]⟩
abbrev S4x112 : Shape := ⟨2, ![4, 112]⟩
abbrev S4x128 : Shape := ⟨2, ![4, 128]⟩
abbrev S4x1x128 : Shape := ⟨3, ![4, 1, 128]⟩
abbrev S2x16x16384 : Shape := ⟨3, ![2, 16, 16384]⟩
abbrev S2x8x128 : Shape := ⟨3, ![2, 8, 128]⟩
abbrev S2x32x8x128 : Shape := ⟨4, ![2, 32, 8, 128]⟩
abbrev S1x512x128 : Shape := ⟨3, ![1, 512, 128]⟩
abbrev S1x1x128 : Shape := ⟨3, ![1, 1, 128]⟩
abbrev S1x512x1024 : Shape := ⟨3, ![1, 512, 1024]⟩
abbrev S1x16x512 : Shape := ⟨3, ![1, 16, 512]⟩
abbrev S1x8x128 : Shape := ⟨3, ![1, 8, 128]⟩
abbrev S1x1x8x128 : Shape := ⟨4, ![1, 1, 8, 128]⟩
abbrev S1x128 : Shape := ⟨2, ![1, 128]⟩
abbrev S512x128 : Shape := ⟨2, ![512, 128]⟩
abbrev S512x512 : Shape := ⟨2, ![512, 512]⟩
abbrev S512x384 : Shape := ⟨2, ![512, 384]⟩
abbrev S128x128 : Shape := ⟨2, ![128, 128]⟩
abbrev S384x128 : Shape := ⟨2, ![384, 128]⟩
abbrev S128x512 : Shape := ⟨2, ![128, 512]⟩
abbrev S16x512 : Shape := ⟨2, ![16, 512]⟩
abbrev S384x1024 : Shape := ⟨2, ![384, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S8x128 : Shape := ⟨2, ![8, 128]⟩
abbrev S256x128 : Shape := ⟨2, ![256, 128]⟩
abbrev S128 : Shape := ⟨1, ![128]⟩

abbrev nBuf : Space → Nat
  | .hbm => 14
  | .vmem => 17
  | .smem => 0
  | _ => 0

abbrev bufTy : (tb : Table) → Fin (tcTables nBuf tb) → BufTy
  | .hbm, ⟨0, _⟩ => ⟨S2x16384x128, .f32⟩
  | .hbm, ⟨1, _⟩ => ⟨S4x8, .f32⟩
  | .hbm, ⟨2, _⟩ => ⟨S4x4, .f32⟩
  | .hbm, ⟨3, _⟩ => ⟨S4x4, .f32⟩
  | .hbm, ⟨4, _⟩ => ⟨S2x16384x1024, .bf16⟩
  | .hbm, ⟨5, _⟩ => ⟨S_, .f32⟩
  | .hbm, ⟨6, _⟩ => ⟨S4x112, .f32⟩
  | .hbm, ⟨7, _⟩ => ⟨S4x128, .f32⟩
  | .hbm, ⟨8, _⟩ => ⟨S4x1x128, .f32⟩
  | .hbm, ⟨9, _⟩ => ⟨S2x16384x128, .f32⟩
  | .hbm, ⟨10, _⟩ => ⟨S2x16x16384, .f32⟩
  | .hbm, ⟨11, _⟩ => ⟨S2x16384x1024, .bf16⟩
  | .hbm, ⟨12, _⟩ => ⟨S2x8x128, .f32⟩
  | .hbm, ⟨13, _⟩ => ⟨S2x32x8x128, .f32⟩
  | .local _ .vmem, ⟨0, _⟩ => ⟨S1x512x128, .f32⟩
  | .local _ .vmem, ⟨1, _⟩ => ⟨S1x512x128, .f32⟩
  | .local _ .vmem, ⟨2, _⟩ => ⟨S1x1x128, .f32⟩
  | .local _ .vmem, ⟨3, _⟩ => ⟨S1x512x1024, .bf16⟩
  | .local _ .vmem, ⟨4, _⟩ => ⟨S1x512x1024, .bf16⟩
  | .local _ .vmem, ⟨5, _⟩ => ⟨S1x512x128, .f32⟩
  | .local _ .vmem, ⟨6, _⟩ => ⟨S1x512x128, .f32⟩
  | .local _ .vmem, ⟨7, _⟩ => ⟨S1x16x512, .f32⟩
  | .local _ .vmem, ⟨8, _⟩ => ⟨S1x16x512, .f32⟩
  | .local _ .vmem, ⟨9, _⟩ => ⟨S1x512x1024, .bf16⟩
  | .local _ .vmem, ⟨10, _⟩ => ⟨S1x512x1024, .bf16⟩
  | .local _ .vmem, ⟨11, _⟩ => ⟨S1x8x128, .f32⟩
  | .local _ .vmem, ⟨12, _⟩ => ⟨S1x8x128, .f32⟩
  | .local _ .vmem, ⟨13, _⟩ => ⟨S1x1x8x128, .f32⟩
  | .local _ .vmem, ⟨14, _⟩ => ⟨S1x1x8x128, .f32⟩
  | .local _ .vmem, ⟨15, _⟩ => ⟨S1x128, .f32⟩
  | .local _ .vmem, ⟨16, _⟩ => ⟨S1x128, .f32⟩
  | _, _ => ⟨S2x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel7Ideal.lean ====
variable {F : FTy → Type} [FloatOps F] [Named F]
def κ : String → Option EReal := fun
  | "mask" => some ⊥
  | _ => none
-- ==== Reference7Ideal.lean ====
abbrev S2x16384x128 : Shape := ⟨3, ![2, 16384, 128]⟩
abbrev S4x8 : Shape := ⟨2, ![4, 8]⟩
abbrev S4x4 : Shape := ⟨2, ![4, 4]⟩
abbrev S2x16384x1024 : Shape := ⟨3, ![2, 16384, 1024]⟩
abbrev S2x16384x8 : Shape := ⟨3, ![2, 16384, 8]⟩
abbrev S1x8 : Shape := ⟨2, ![1, 8]⟩
abbrev S8 : Shape := ⟨1, ![8]⟩
abbrev S1x1x8 : Shape := ⟨3, ![1, 1, 8]⟩
abbrev S_ : Shape := ⟨0, ![]⟩
abbrev S2x16384x8x1 : Shape := ⟨4, ![2, 16384, 8, 1]⟩
abbrev S2x16384x8x128 : Shape := ⟨4, ![2, 16384, 8, 128]⟩

abbrev nBuf : Space → Nat
  | .hbm => 41
  | .vmem => 0
  | .smem => 0
  | _ => 0

abbrev bufTy : (tb : Table) → Fin (tcTables nBuf tb) → BufTy
  | .hbm, ⟨0, _⟩ => ⟨S2x16384x128, .f32⟩
  | .hbm, ⟨1, _⟩ => ⟨S4x8, .f32⟩
  | .hbm, ⟨2, _⟩ => ⟨S4x4, .f32⟩
  | .hbm, ⟨3, _⟩ => ⟨S4x4, .f32⟩
  | .hbm, ⟨4, _⟩ => ⟨S2x16384x1024, .bf16⟩
  | .hbm, ⟨5, _⟩ => ⟨S2x16384x8, .f32⟩
  | .hbm, ⟨6, _⟩ => ⟨S1x8, .f32⟩
  | .hbm, ⟨7, _⟩ => ⟨S8, .f32⟩
  | .hbm, ⟨8, _⟩ => ⟨S1x1x8, .f32⟩
  | .hbm, ⟨9, _⟩ => ⟨S2x16384x8, .f32⟩
  | .hbm, ⟨10, _⟩ => ⟨S2x16384x8, .f32⟩
  | .hbm, ⟨11, _⟩ => ⟨S2x16384x8, .f32⟩
  | .hbm, ⟨12, _⟩ => ⟨S_, .f32⟩
  | .hbm, ⟨13, _⟩ => ⟨S2x16384x8, .f32⟩
  | .hbm, ⟨14, _⟩ => ⟨S2x16384x8, .f32⟩
  | .hbm, ⟨15, _⟩ => ⟨S2x16384x8, .f32⟩
  | .hbm, ⟨16, _⟩ => ⟨S2x16384x8, .f32⟩
  | .hbm, ⟨17, _⟩ => ⟨S2x16384x8, .i1⟩
  | .hbm, ⟨18, _⟩ => ⟨S2x16384x8, .f32⟩
  | .hbm, ⟨19, _⟩ => ⟨S2x16384x8, .f32⟩
  | .hbm, ⟨20, _⟩ => ⟨S2x16384x8, .f32⟩
  | .hbm, ⟨21, _⟩ => ⟨S2x16384x8, .f32⟩
  | .hbm, ⟨22, _⟩ => ⟨S2x16384x8, .f32⟩
  | .hbm, ⟨23, _⟩ => ⟨S2x16384x8, .f32⟩
  | .hbm, ⟨24, _⟩ => ⟨S2x16384x8, .f32⟩
  | .hbm, ⟨25, _⟩ => ⟨S2x16384x8, .f32⟩
  | .hbm, ⟨26, _⟩ => ⟨S2x16384x8, .f32⟩
  | .hbm, ⟨27, _⟩ => ⟨S_, .f32⟩
  | .hbm, ⟨28, _⟩ => ⟨S_, .f32⟩
  | .hbm, ⟨29, _⟩ => ⟨S2x16384x8, .f32⟩
  | .hbm, ⟨30, _⟩ => ⟨S_, .f32⟩
  | .hbm, ⟨31, _⟩ => ⟨S2x16384x8, .f32⟩
  | .hbm, ⟨32, _⟩ => ⟨S2x16384x8, .f32⟩
  | .hbm, ⟨33, _⟩ => ⟨S2x16384x8x1, .f32⟩
  | .hbm, ⟨34, _⟩ => ⟨S_, .i32⟩
  | .hbm, ⟨35, _⟩ => ⟨S_, .f32⟩
  | .hbm, ⟨36, _⟩ => ⟨S2x16384x8x128, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .bf16⟩
  | _, _ => ⟨S2x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v6 : Ref sig .tc := ⟨.hbm, 26, rfl⟩
abbrev main_call1_call0_cst : Ref sig .tc := ⟨.hbm, 27, rfl⟩
abbrev main_call1_call0_v0 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c : Ref sig .tc := ⟨.hbm, 34, rfl⟩
abbrev main_call2_v0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩

abbrev nD : Nat := 1
abbrev τ : Topo := Topo.v7x

variable {F : FTy → Type} [FloatOps F]
-- ==== Proof.FfnRow.lean ====
module

public import Idealize.ShloMosaic.Lib.Pointwise
public import Idealize.ShloMosaic.PureOps.Ideal.Laws

/-! One row of the SwiGLU feed-forward block over the extended reals: the vocabulary in which the kernel's block and the
    host's array are both read. -/

@[expose] public section

noncomputable section

namespace Cert.FfnRow

open Idealize.ShloMosaic
open scoped BigOperators

/-- The root-mean-square norm of a row of 1024, with gains `g`. -/
def rmsRow (x g : Fin 1024 → EReal) (j : Fin 1024) : EReal :=
  x j * Ideal.rsqrt (Ideal.div (∑ k, x k * x k) (Ideal.ofBits FTy.f32 1149239296#32) + Ideal.ofBits FTy.f32 897988541#32) * g j

/-- A row of 1024 through a weight matrix into the hidden width. -/
def hid (h : Fin 1024 → EReal) (w : Fin 1024 → Fin 2816 → EReal) (f : Fin 2816) : EReal := ∑ k, h k * w k f

/-- The row plus half its gated feed-forward image. -/
def ffnRow (x g : Fin 1024 → EReal) (wg wu : Fin 1024 → Fin 2816 → EReal) (wd : Fin 2816 → Fin 1024 → EReal)
    (j : Fin 1024) : EReal :=
  x j + Ideal.ofBits FTy.f32 1056964608#32 *
    ∑ f, hid (rmsRow x g) wg f * Ideal.logistic (hid (rmsRow x g) wg f) * hid (rmsRow x g) wu f * wd f j

end Cert.FfnRow
end
-- ==== Proof.Ffn2.lean ====
module

public import proofs.«01_k».proof.Proof.Gen.Kernel2Ideal.Value
public import proofs.«01_k».proof.Proof.Gen.Reference2Ideal.Read
public import proofs.«01_k».proof.Proof.FfnRow
public import Idealize.ShloMosaic.Lib.Pointwise
public import Idealize.ShloMosaic.PureOps.Ideal.Laws
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.Ffn2

open Cert.FfnRow

section Kernel

open Cert.Kernel2Ideal Cert.Kernel2Ideal.Gen

/-- The block before the last norm, row by row. -/
theorem pay2_apply (x : Vec Ideal S512x1024 .f32) (g : Vec Ideal S1x1x1024 .f32) (wg wu : Vec Ideal S1x1024x2816 .bf16)
    (wd : Vec Ideal S1x2816x1024 .bf16) (r : Fin 512) (j : Fin 1024) :
    k0_pay2 x g wg wu wd (ix2 r j) = ffnRow (fun k => x (ix2 r k)) (fun k => g (ix3 0 0 k)) (fun k f => wg (ix3 0 k f))
      (fun k f => wu (ix3 0 k f)) (fun f k => wd (ix3 0 f k)) j := by
  unfold k0_pay2 ffnRow hid rmsRow
  pointwise

/-- The block a grid point writes, row by row. -/
theorem pay1_apply (x : Vec Ideal S512x1024 .f32) (g : Vec Ideal S1x1024 .f32) (r : Fin 512) (j : Fin 1024) :
    k0_pay1 x (k0_pay3 g) (mulf x x) (ix2 r j) = rmsRow (fun k => x (ix2 r k)) (fun k => g (ix2 0 k)) j := by
  unfold k0_pay1 k0_pay3 rmsRow
  pointwise

end Kernel

section Host

open Cert.Reference2Ideal Cert.Reference2Ideal.Read

theorem v28_apply (x0 : Vec Ideal S2x16384x1024 .f32) (x1 : Vec Ideal S4x1024 .f32) (x2 x3 : Vec Ideal S4x1024x2816 .f32)
    (x4 : Vec Ideal S4x2816x1024 .f32) (b : Fin 2) (s : Fin 16384) (j : Fin 1024) :
    val_main_v28 x0 x1 x2 x3 x4 (ix3 b s j) = ffnRow (fun k => x0 (ix3 b s k)) (fun k => x1 (ix2 3 k)) (fun k f => x2 (ix3 3 k f))
      (fun k f => x3 (ix3 3 k f)) (fun f k => x4 (ix3 3 f k)) j := by
  unfold val_main_v28 val_main_v27 val_main_v26 val_main_v25 val_main_v24 val_main_v23 val_main_v22 val_main_call0_v5
    val_main_call0_v4 val_main_call0_v3 val_main_call0_v2 val_main_call0_v1 val_main_call0_v0 val_main_v21
    val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3 val_main_v2
    val_main_v1 val_main_v0 val_main_cst val_main_cst_0 val_main_cst_1 val_main_cst_2 val_main_call0_cst val_main_call0_cst_0
  unfold ffnRow hid rmsRow
  pointwise
  rfl

/-- The host's result, row by row. -/
theorem v42_apply (x0 : Vec Ideal S2x16384x1024 .f32) (x1 : Vec Ideal S4x1024 .f32) (x2 x3 : Vec Ideal S4x1024x2816 .f32)
    (x4 : Vec Ideal S4x2816x1024 .f32) (x5 : Vec Ideal S1024 .f32) (R : Fin 32768) (j : Fin 1024) :
    val_main_v42 x0 x1 x2 x3 x4 x5 (ix2 R j) = rmsRow (ffnRow (fun k => x0 (ix3 ⟨R / 16384, by omega⟩ ⟨R % 16384, by omega⟩ k))
      (fun k => x1 (ix2 3 k)) (fun k f => x2 (ix3 3 k f)) (fun k f => x3 (ix3 3 k f)) (fun f k => x4 (ix3 3 f k)))
      (fun k => x5 (ix1 k)) j := by
  unfold val_main_v42 val_main_v41 val_main_v40 val_main_v39 val_main_v38 val_main_v37 val_main_v36 val_main_v35 val_main_v34
    val_main_v33 val_main_v32 val_main_v31 val_main_v30 val_main_v29 val_main_cst_3 val_main_cst_4 val_main_cst_5 rmsRow
  pointwise [v28_apply]

end Host

section Value

open Cert.Kernel2Ideal Cert.Kernel2Ideal.Gen
open Idealize.ShloMosaic.Pipeline (Dat)

variable (m : (ℓ : Loc nD τ sig) → Buf (Elt Ideal) ℓ)

/-- The array the kernel leaves, over its arguments. -/
def out (c : Dev nD) : Vec Ideal S32768x1024 .f32 :=
  Cert.Reference2Ideal.Read.val_main_v42 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

theorem idx : ∀ t : Fin cfg0.N, win0_0.index t = ![t.val, 0] ∧ win0_1.index t = ![3, 0, 0] ∧ win0_2.index t = ![3, 0, 0] ∧
    win0_3.index t = ![3, 0, 0] ∧ win0_4.index t = ![3, 0, 0] ∧ win0_5.index t = ![0, 0] ∧ win0_6.index t = ![t.val, 0] :=
  (by decide +kernel : ∀ t : Fin grid0.N, _)

theorem rd0 (c : Dev nD) (t : Fin cfg0.N) (r : Fin 512) (k : Fin 1024) (h : t.val * 512 + r.val < 32768) :
    (iblk m c 0 t : Vec Ideal S512x1024 .f32) (ix2 r k)
      = m ((c : Thread nD τ).loc main_arg0) (ix3 ⟨(t.val * 512 + r.val) / 16384, by omega⟩ ⟨(t.val * 512 + r.val) % 16384, by omega⟩ k) := by
  blk_simp [iblk]
  entry_read
  pointwise
  blk_ext [idx t]

theorem rd1 (c : Dev nD) (t : Fin cfg0.N) (k : Fin 1024) :
    (iblk m c 1 t : Vec Ideal S1x1x1024 .f32) (ix3 0 0 k) = m ((c : Thread nD τ).loc main_arg1) (ix2 3 k) := by
  blk_simp [iblk]
  entry_read
  pointwise
  blk_ext [idx t]

theorem rd2 (c : Dev nD) (t : Fin cfg0.N) (k : Fin 1024) (f : Fin 2816) :
    (iblk m c 2 t : Vec Ideal S1x1024x2816 .bf16) (ix3 0 k f) = m ((c : Thread nD τ).loc main_arg2) (ix3 3 k f) := by
  blk_simp [iblk]
  entry_read
  pointwise
  blk_ext [idx t]

theorem rd3 (c : Dev nD) (t : Fin cfg0.N) (k : Fin 1024) (f : Fin 2816) :
    (iblk m c 3 t : Vec Ideal S1x1024x2816 .bf16) (ix3 0 k f) = m ((c : Thread nD τ).loc main_arg3) (ix3 3 k f) := by
  blk_simp [iblk]
  entry_read
  pointwise
  blk_ext [idx t]

theorem rd4 (c : Dev nD) (t : Fin cfg0.N) (f : Fin 2816) (k : Fin 1024) :
    (iblk m c 4 t : Vec Ideal S1x2816x1024 .bf16) (ix3 0 f k) = m ((c : Thread nD τ).loc main_arg4) (ix3 3 f k) := by
  blk_simp [iblk]
  entry_read
  pointwise
  blk_ext [idx t]

theorem rd5 (c : Dev nD) (t : Fin cfg0.N) (k : Fin 1024) :
    (iblk m c 5 t : Vec Ideal S1x1024 .f32) (ix2 0 k) = m ((c : Thread nD τ).loc main_arg5) (ix1 k) := by
  blk_simp [iblk]
  entry_read
  pointwise
  blk_ext [idx t]

theorem point (c : Dev nD) (t : Fin cfg0.N) (r : Fin 512) (j : Fin 1024) :
    k0_pay1 (k0_pay2 (iblk m c 0 t) (iblk m c 1 t) (iblk m c 2 t) (iblk m c 3 t) (iblk m c 4 t)) (k0_pay3 (iblk m c 5 t))
      (k0_pay4 (iblk m c 0 t) (iblk m c 1 t) (iblk m c 2 t) (iblk m c 3 t) (iblk m c 4 t)) (ix2 r j)
      = out m c (((cfg0.win 6).blk t).view.emb (ix2 r j)) := by
  have hN : t.val < 64 := lt_of_lt_of_eq t.isLt N_0
  have hR : t.val * 512 + r.val < 32768 := by omega
  have he : (((cfg0.win 6).blk t).view.emb (ix2 r j)) = (ix2 ⟨t.val * 512 + r.val, hR⟩ j : S32768x1024.Idx) := by
    blk_ext [idx t]
  rw [he]
  unfold out k0_pay4
  rw [v42_apply, pay1_apply]
  simp only [pay2_apply, rd0 m c t r _ hR, rd1, rd2, rd3, rd4, rd5]

theorem final (c : Dev nD) : (dats m 0 c).arrAt 6 (cfgs 0).N = out m c := by
  refine (dats m 0 c).arrAt_eq_of_covers 6 _ (by decide +kernel) fun t _ y => ?_
  blk_simp
  rw [after0_6]
  frame_out
  obtain ⟨r, j, rfl⟩ : ∃ (r : Fin 512) (j : Fin 1024), y = ix2 r j := ⟨y 0, y 1, eq_ix2 y⟩
  exact point m c t r j

end Value

end Cert.Ffn2
end
-- ==== Proof.Ffn3.lean ====
module

public import proofs.«01_k».proof.Proof.Gen.Kernel3Ideal.Value
public import proofs.«01_k».proof.Proof.Gen.Reference3Ideal.Read
public import proofs.«01_k».proof.Proof.FfnRow
public import Idealize.ShloMosaic.Lib.Pointwise
public import Idealize.ShloMosaic.PureOps.Ideal.Laws
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.Ffn3

open Cert.FfnRow

section Kernel

open Cert.Kernel3Ideal Cert.Kernel3Ideal.Gen

/-- The block a grid point writes, row by row. -/
theorem pay1_apply (x : Vec Ideal S512x1024 .f32) (g : Vec Ideal S1x1x1024 .f32) (wg wu : Vec Ideal S1x1024x2816 .bf16)
    (wd : Vec Ideal S1x2816x1024 .bf16) (r : Fin 512) (j : Fin 1024) :
    k0_pay1 x g wg wu wd (ix2 r j) = ffnRow (fun k => x (ix2 r k)) (fun k => g (ix3 0 0 k)) (fun k f => wg (ix3 0 k f))
      (fun k f => wu (ix3 0 k f)) (fun f k => wd (ix3 0 f k)) j := by
  unfold k0_pay1 ffnRow hid rmsRow
  pointwise

end Kernel

section Host

open Cert.Reference3Ideal Cert.Reference3Ideal.Read

theorem v28_apply (x0 : Vec Ideal S2x16384x1024 .f32) (x1 : Vec Ideal S4x1024 .f32) (x2 x3 : Vec Ideal S4x1024x2816 .f32)
    (x4 : Vec Ideal S4x2816x1024 .f32) (b : Fin 2) (s : Fin 16384) (j : Fin 1024) :
    val_main_v28 x0 x1 x2 x3 x4 (ix3 b s j) = ffnRow (fun k => x0 (ix3 b s k)) (fun k => x1 (ix2 0 k)) (fun k f => x2 (ix3 0 k f))
      (fun k f => x3 (ix3 0 k f)) (fun f k => x4 (ix3 0 f k)) j := by
  unfold val_main_v28 val_main_v27 val_main_v26 val_main_v25 val_main_v24 val_main_v23 val_main_v22 val_main_call0_v5
    val_main_call0_v4 val_main_call0_v3 val_main_call0_v2 val_main_call0_v1 val_main_call0_v0 val_main_v21
    val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3 val_main_v2
    val_main_v1 val_main_v0 val_main_cst val_main_cst_0 val_main_cst_1 val_main_cst_2 val_main_call0_cst val_main_call0_cst_0
  unfold ffnRow hid rmsRow
  pointwise
  rfl

/-- The host's result, row by row. -/
theorem v29_apply (x0 : Vec Ideal S2x16384x1024 .f32) (x1 : Vec Ideal S4x1024 .f32) (x2 x3 : Vec Ideal S4x1024x2816 .f32)
    (x4 : Vec Ideal S4x2816x1024 .f32) (R : Fin 32768) (j : Fin 1024) :
    val_main_v29 x0 x1 x2 x3 x4 (ix2 R j) = ffnRow (fun k => x0 (ix3 ⟨R / 16384, by omega⟩ ⟨R % 16384, by omega⟩ k))
      (fun k => x1 (ix2 0 k)) (fun k f => x2 (ix3 0 k f)) (fun k f => x3 (ix3 0 k f)) (fun f k => x4 (ix3 0 f k)) j := by
  unfold val_main_v29
  pointwise [v28_apply]

end Host

section Value

open Cert.Kernel3Ideal Cert.Kernel3Ideal.Gen
open Idealize.ShloMosaic.Pipeline (Dat)

variable (m : (ℓ : Loc nD τ sig) → Buf (Elt Ideal) ℓ)

/-- The array the kernel leaves, over its arguments. -/
def out (c : Dev nD) : Vec Ideal S32768x1024 .f32 :=
  Cert.Reference3Ideal.Read.val_main_v29 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem idx : ∀ t : Fin cfg0.N, win0_0.index t = ![t.val, 0] ∧ win0_1.index t = ![0, 0, 0] ∧ win0_2.index t = ![0, 0, 0] ∧
    win0_3.index t = ![0, 0, 0] ∧ win0_4.index t = ![0, 0, 0] ∧ win0_5.index t = ![t.val, 0] :=
  (by decide +kernel : ∀ t : Fin grid0.N, _)

theorem rd0 (c : Dev nD) (t : Fin cfg0.N) (r : Fin 512) (k : Fin 1024) (h : t.val * 512 + r.val < 32768) :
    (iblk m c 0 t : Vec Ideal S512x1024 .f32) (ix2 r k)
      = m ((c : Thread nD τ).loc main_arg0) (ix3 ⟨(t.val * 512 + r.val) / 16384, by omega⟩ ⟨(t.val * 512 + r.val) % 16384, by omega⟩ k) := by
  blk_simp [iblk]
  entry_read
  pointwise
  blk_ext [idx t]

theorem rd1 (c : Dev nD) (t : Fin cfg0.N) (k : Fin 1024) :
    (iblk m c 1 t : Vec Ideal S1x1x1024 .f32) (ix3 0 0 k) = m ((c : Thread nD τ).loc main_arg1) (ix2 0 k) := by
  blk_simp [iblk]
  entry_read
  pointwise
  blk_ext [idx t]

theorem rd2 (c : Dev nD) (t : Fin cfg0.N) (k : Fin 1024) (f : Fin 2816) :
    (iblk m c 2 t : Vec Ideal S1x1024x2816 .bf16) (ix3 0 k f) = m ((c : Thread nD τ).loc main_arg2) (ix3 0 k f) := by
  blk_simp [iblk]
  entry_read
  pointwise
  blk_ext [idx t]

theorem rd3 (c : Dev nD) (t : Fin cfg0.N) (k : Fin 1024) (f : Fin 2816) :
    (iblk m c 3 t : Vec Ideal S1x1024x2816 .bf16) (ix3 0 k f) = m ((c : Thread nD τ).loc main_arg3) (ix3 0 k f) := by
  blk_simp [iblk]
  entry_read
  pointwise
  blk_ext [idx t]

theorem rd4 (c : Dev nD) (t : Fin cfg0.N) (f : Fin 2816) (k : Fin 1024) :
    (iblk m c 4 t : Vec Ideal S1x2816x1024 .bf16) (ix3 0 f k) = m ((c : Thread nD τ).loc main_arg4) (ix3 0 f k) := by
  blk_simp [iblk]
  entry_read
  pointwise
  blk_ext [idx t]

theorem point (c : Dev nD) (t : Fin cfg0.N) (r : Fin 512) (j : Fin 1024) :
    k0_pay1 (iblk m c 0 t) (iblk m c 1 t) (iblk m c 2 t) (iblk m c 3 t) (iblk m c 4 t) (ix2 r j)
      = out m c (((cfg0.win 5).blk t).view.emb (ix2 r j)) := by
  have hN : t.val < 64 := lt_of_lt_of_eq t.isLt N_0
  have hR : t.val * 512 + r.val < 32768 := by omega
  have he : (((cfg0.win 5).blk t).view.emb (ix2 r j)) = (ix2 ⟨t.val * 512 + r.val, hR⟩ j : S32768x1024.Idx) := by
    blk_ext [idx t]
  rw [he]
  unfold out
  rw [v29_apply, pay1_apply]
  simp only [rd0 m c t r _ hR, rd1, rd2, rd3, rd4]

theorem final (c : Dev nD) : (dats m 0 c).arrAt 5 (cfgs 0).N = out m c := by
  refine (dats m 0 c).arrAt_eq_of_covers 5 _ (by decide +kernel) fun t _ y => ?_
  blk_simp
  rw [after0_5]
  frame_out
  obtain ⟨r, j, rfl⟩ : ∃ (r : Fin 512) (j : Fin 1024), y = ix2 r j := ⟨y 0, y 1, eq_ix2 y⟩
  exact point m c t r j

end Value

end Cert.Ffn3
end
-- ==== Proof.MergeRow.lean ====
module

public import Idealize.ShloMosaic.Lib.Pointwise
public import Idealize.ShloMosaic.PureOps.Ideal.Laws
public import proofs.«01_k».proof.Proof.FfnRow

/-! One row of the branch merge over the extended reals: the vocabulary in which the kernel's block and the host's array
    are both read. -/

@[expose] public section

noncomputable section

namespace Cert.MergeRow

open Idealize.ShloMosaic Cert.FfnRow
open scoped BigOperators

/-- A row through a weight matrix. -/
def lin {n p : Nat} (h : Fin n → EReal) (w : Fin n → Fin p → EReal) (f : Fin p) : EReal := ∑ k, h k * w k f

/-- The hyperbolic tangent form of the Gaussian error linear unit. -/
def gelu (z : EReal) : EReal :=
  Ideal.ofBits FTy.f32 1056964608#32 * z *
    (1 + Ideal.tanh (Ideal.ofBits FTy.f32 1061962282#32 * (z + Ideal.ofBits FTy.f32 1027024659#32 * (z * z * z))))

/-- The root-mean-square norm of a row of 512, with gains `g`. -/
def rms512 (x g : Fin 512 → EReal) (j : Fin 512) : EReal :=
  x j * Ideal.rsqrt (Ideal.div (∑ k, x k * x k) (Ideal.ofBits FTy.f32 1140850688#32) + Ideal.ofBits FTy.f32 897988541#32) * g j

/-- The normed second half of a row of the spatial gating branch. -/
def vRow (z : Fin 1024 → EReal) (g : Fin 512 → EReal) (j : Fin 512) : EReal :=
  rms512 (fun k => gelu (z ⟨512 + k.val, by omega⟩)) g j

/-- A column of a chunk mixed by a lower triangular matrix, at row `t`. -/
def mixCol (w : Fin 128 → Fin 128 → EReal) (t : Fin 128) (v : Fin 128 → EReal) : EReal :=
  ∑ s, (if s.val ≤ t.val then w t s else 0) * v s

/-- The gated half of the spatial gating branch, at one position: `u` the row's projection, `b` the bias. -/
def gateCol (u : EReal) (w : Fin 128 → Fin 128 → EReal) (t : Fin 128) (v : Fin 128 → EReal) (b : EReal) : EReal :=
  gelu u * (mixCol w t v + b)

/-- A row of the merge: the three branches through their matrices, gated, summed, projected and added to the row. -/
def mergeRow (x h : Fin 1024 → EReal) (ya hm yg : Fin 512 → EReal) (wmo : Fin 1024 → Fin 512 → EReal)
    (g0 g1 g2 : Fin 1024 → Fin 1024 → EReal) (wa wm wg : Fin 512 → Fin 1024 → EReal)
    (wo : Fin 1024 → Fin 1024 → EReal) (j : Fin 1024) : EReal :=
  x j + lin (fun f => Ideal.logistic (lin h g0 f) * lin ya wa f
    + Ideal.logistic (lin h g1 f) * lin (fun k => Ideal.logistic (lin h wmo k) * hm k) wm f
    + Ideal.logistic (lin h g2 f) * lin yg wg f) wo j

end Cert.MergeRow
end
-- ==== Proof.Merge.lean ====
module

public import proofs.«01_k».proof.Proof.Gen.Kernel4Ideal.Value
public import proofs.«01_k».proof.Proof.Gen.Reference4Ideal.Read
public import proofs.«01_k».proof.Proof.MergeRow
public import Idealize.ShloMosaic.Lib.Pointwise
public import Idealize.ShloMosaic.PureOps.Ideal.Laws
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.Merge

open Cert.FfnRow Cert.MergeRow

section Kernel

open Cert.Kernel4Ideal Cert.Kernel4Ideal.Gen

theorem pay3_apply (x : Vec Ideal S512x1024 .f32) (g : Vec Ideal S1x1x1024 .f32) (r : Fin 512) (j : Fin 1024) :
    k0_pay3 (F := Ideal) x g (ix2 r j) = rmsRow (fun k => x (ix2 r k)) (fun k => g (ix3 0 0 k)) j := by
  unfold k0_pay3 k0_pay2 rmsRow
  pointwise

theorem pay8_apply (z : Vec Ideal S512x1024 .f32) (r : Fin 512) (j : Fin 1024) :
    k0_pay8 (F := Ideal) z (ix2 r j) = gelu (z (ix2 r j)) := by
  unfold k0_pay8 gelu
  pointwise

theorem vn_apply (z : Vec Ideal S512x1024 .f32) (g : Vec Ideal S1x1x512 .f32) (r : Fin 512) (j : Fin 512) :
    k0_pay13 (F := Ideal) (k0_pay10 z) (k0_pay11 g) (k0_pay12 z) (ix2 r j) = vRow (fun k => z (ix2 r k)) (fun k => g (ix3 0 0 k)) j := by
  unfold k0_pay13 k0_pay12 k0_pay11 k0_pay10 vRow rms512
  pointwise [pay8_apply]

theorem sel_le (a b : Nat) (ha : a < 128) (hb : b < 128) (x : EReal) :
    Scalar.select (IntOp.cmpi CmpIPredicate.sle (BitVec.ofNat 32 a) (BitVec.ofNat 32 b)) x 0 = if a ≤ b then x else 0 := by
  word_cmp

theorem sel_term (a b c : Nat) (ha : a < 128) (hb : b < 128) (h : b = c) (x x' y y' : EReal) (hx : x = x') (hy : y = y') :
    Scalar.select (IntOp.cmpi CmpIPredicate.sle (BitVec.ofNat 32 a) (BitVec.ofNat 32 b)) (x * y) 0
      = (if a ≤ c then x' else 0) * y' := by
  subst h hx hy
  rw [sel_le a b ha hb, ite_mul, zero_mul]

theorem pay14_apply (v61 v72 : Vec Ideal S512x512 .f32) (v63 : Vec Ideal S1x512 .f32) (w : Vec Ideal S1x1x128x128 .f32)
    (r : Fin 512) (d : Fin 128) :
    k0_pay14 (F := Ideal) v61 v63 v72 w (ix2 r d) = mixCol (fun t s => w (ix4 0 0 t s)) ⟨r.val % 128, by omega⟩
      (fun s => k0_pay13 (F := Ideal) v61 v63 v72 (ix2 ⟨r.val / 128 * 128 + s.val, by omega⟩ ⟨d.val, by omega⟩)) := by
  unfold k0_pay14 mixCol
  generalize k0_pay13 (F := Ideal) v61 v63 v72 = v
  pointwise
  split
  · exact Finset.sum_congr rfl fun s _ => sel_term _ _ _ (by omega) (by omega) (by omega) _ _ _ _ (by blk_ext) (by blk_ext)
  split
  · exact Finset.sum_congr rfl fun s _ => sel_term _ _ _ (by omega) (by omega) (by omega) _ _ _ _ (by blk_ext) (by blk_ext)
  split
  · exact Finset.sum_congr rfl fun s _ => sel_term _ _ _ (by omega) (by omega) (by omega) _ _ _ _ (by blk_ext) (by blk_ext)
  · exact Finset.sum_congr rfl fun s _ => sel_term _ _ _ (by omega) (by omega) (by omega) _ _ _ _ (by blk_ext) (by blk_ext)

theorem pay15_apply (v61 v72 : Vec Ideal S512x512 .f32) (v63 : Vec Ideal S1x512 .f32) (w : Vec Ideal S1x1x128x128 .f32)
    (r : Fin 512) (d : Fin 128) :
    k0_pay15 (F := Ideal) v61 v63 v72 w (ix2 r d) = mixCol (fun t s => w (ix4 0 0 t s)) ⟨r.val % 128, by omega⟩
      (fun s => k0_pay13 (F := Ideal) v61 v63 v72 (ix2 ⟨r.val / 128 * 128 + s.val, by omega⟩ ⟨128 + d.val, by omega⟩)) := by
  unfold k0_pay15 mixCol
  generalize k0_pay13 (F := Ideal) v61 v63 v72 = v
  pointwise
  split
  · exact Finset.sum_congr rfl fun s _ => sel_term _ _ _ (by omega) (by omega) (by omega) _ _ _ _ (by blk_ext) (by blk_ext)
  split
  · exact Finset.sum_congr rfl fun s _ => sel_term _ _ _ (by omega) (by omega) (by omega) _ _ _ _ (by blk_ext) (by blk_ext)
  split
  · exact Finset.sum_congr rfl fun s _ => sel_term _ _ _ (by omega) (by omega) (by omega) _ _ _ _ (by blk_ext) (by blk_ext)
  · exact Finset.sum_congr rfl fun s _ => sel_term _ _ _ (by omega) (by omega) (by omega) _ _ _ _ (by blk_ext) (by blk_ext)

theorem W_eq (W : Fin 4 → Fin 128 → Fin 128 → EReal) {a b : Fin 4} {c d : Fin 128} (h : a.val = b.val) (h' : c.val = d.val)
    (s : Fin 128) : W a c s = W b d s := by
  rw [Fin.ext h, Fin.ext h']

/-- The gated, mixed half of the spatial gating branch: its four column groups, each mixed by its own triangular matrix. -/
theorem pay18_apply (v60 : Vec Ideal S512x512 .f32) (v76 : FVec Ideal S512x512 .bf16) (v93 v108 : Vec Ideal S512x128 .f32)
    (w0 w1 w2 w3 : Vec Ideal S1x1x128x128 .f32) (b : Vec Ideal S1x512x512 .f32)
    (h0 : ∀ (r : Fin 512) (d : Fin 128), v93 (ix2 r d) = mixCol (fun t s => w0 (ix4 0 0 t s)) ⟨r.val % 128, by omega⟩
      (fun s => v76 (ix2 ⟨r.val / 128 * 128 + s.val, by omega⟩ ⟨d.val, by omega⟩)))
    (h1 : ∀ (r : Fin 512) (d : Fin 128), v108 (ix2 r d) = mixCol (fun t s => w1 (ix4 0 0 t s)) ⟨r.val % 128, by omega⟩
      (fun s => v76 (ix2 ⟨r.val / 128 * 128 + s.val, by omega⟩ ⟨128 + d.val, by omega⟩)))
    (W : Fin 4 → Fin 128 → Fin 128 → EReal) (hw0 : ∀ t s, w0 (ix4 0 0 t s) = W 0 t s) (hw1 : ∀ t s, w1 (ix4 0 0 t s) = W 1 t s)
    (hw2 : ∀ t s, w2 (ix4 0 0 t s) = W 2 t s) (hw3 : ∀ t s, w3 (ix4 0 0 t s) = W 3 t s)
    (r : Fin 512) (j : Fin 512) :
    k0_pay18 (F := Ideal) v60 v76 (iota .tc S128x128 32 [0] iota_S128x128_d0_w32) (iota .tc S128x128 32 [1] iota_S128x128_d1_w32)
      v93 v108 k0_pay16 w2 w3 b (ix2 r j) = v60 (ix2 r j) * (mixCol (W ⟨j.val / 128, by omega⟩) ⟨r.val % 128, by omega⟩
        (fun s => v76 (ix2 ⟨r.val / 128 * 128 + s.val, by omega⟩ j)) + b (ix3 0 r j)) := by
  unfold k0_pay18 k0_pay16
  pointwise [h0, h1, hw2, hw3]
  refine congrArg (fun z => v60 (ix2 r j) * (z + b (ix3 0 r j))) ?_
  unfold mixCol
  dsimp only
  split
  · exact Finset.sum_congr rfl fun s _ => congrArg₂ (· * ·) (if_congr Iff.rfl ((hw0 _ _).trans (W_eq W (by show 0 = j.val / 128; omega) rfl s)) rfl) rfl
  split
  · exact Finset.sum_congr rfl fun s _ => congrArg₂ (· * ·) (if_congr Iff.rfl ((hw1 _ _).trans (W_eq W (by show 1 = j.val / 128; omega) rfl s)) rfl) (by blk_ext)
  split
  · split
    · exact Finset.sum_congr rfl fun s _ => sel_term _ _ _ (by omega) (by omega) (by omega) _ _ _ _ (W_eq W (by show 2 = j.val / 128; omega) (by dsimp only; omega) s) (by blk_ext)
    split
    · exact Finset.sum_congr rfl fun s _ => sel_term _ _ _ (by omega) (by omega) (by omega) _ _ _ _ (W_eq W (by show 2 = j.val / 128; omega) (by dsimp only; omega) s) (by blk_ext)
    split
    · exact Finset.sum_congr rfl fun s _ => sel_term _ _ _ (by omega) (by omega) (by omega) _ _ _ _ (W_eq W (by show 2 = j.val / 128; omega) (by dsimp only; omega) s) (by blk_ext)
    · exact Finset.sum_congr rfl fun s _ => sel_term _ _ _ (by omega) (by omega) (by omega) _ _ _ _ (W_eq W (by show 2 = j.val / 128; omega) (by dsimp only; omega) s) (by blk_ext)
  · split
    · exact Finset.sum_congr rfl fun s _ => sel_term _ _ _ (by omega) (by omega) (by omega) _ _ _ _ (W_eq W (by show 3 = j.val / 128; omega) (by dsimp only; omega) s) (by blk_ext)
    split
    · exact Finset.sum_congr rfl fun s _ => sel_term _ _ _ (by omega) (by omega) (by omega) _ _ _ _ (W_eq W (by show 3 = j.val / 128; omega) (by dsimp only; omega) s) (by blk_ext)
    split
    · exact Finset.sum_congr rfl fun s _ => sel_term _ _ _ (by omega) (by omega) (by omega) _ _ _ _ (W_eq W (by show 3 = j.val / 128; omega) (by dsimp only; omega) s) (by blk_ext)
    · exact Finset.sum_congr rfl fun s _ => sel_term _ _ _ (by omega) (by omega) (by omega) _ _ _ _ (W_eq W (by show 3 = j.val / 128; omega) (by dsimp only; omega) s) (by blk_ext)

theorem pay9_apply (z : Vec Ideal S512x1024 .f32) (r : Fin 512) (j : Fin 512) :
    k0_pay9 (F := Ideal) z (ix2 r j) = gelu (z (ix2 r ⟨j.val, by omega⟩)) := by
  unfold k0_pay9
  pointwise [pay8_apply]

theorem pay4_apply (x : Vec Ideal S512x1024 .f32) (g : Vec Ideal S1x1x1024 .f32) (w : Vec Ideal S1x1024x1024 .bf16) (r : Fin 512) (j : Fin 1024) :
    k0_pay4 (F := Ideal) x g w (ix2 r j) = lin (rmsRow (fun k => x (ix2 r k)) (fun k => g (ix3 0 0 k))) (fun k f => w (ix3 0 k f)) j := by
  unfold k0_pay4 lin
  pointwise [pay3_apply]

theorem pay5_apply (x : Vec Ideal S512x1024 .f32) (g : Vec Ideal S1x1x1024 .f32) (w : Vec Ideal S1x1024x512 .bf16) (r : Fin 512) (j : Fin 512) :
    k0_pay5 (F := Ideal) x g w (ix2 r j) = lin (rmsRow (fun k => x (ix2 r k)) (fun k => g (ix3 0 0 k))) (fun k f => w (ix3 0 k f)) j := by
  unfold k0_pay5 lin
  pointwise [pay3_apply]

theorem pay6_apply (x : Vec Ideal S512x1024 .f32) (g : Vec Ideal S1x1x1024 .f32) (w : Vec Ideal S1x1024x1024 .bf16)
    (ya : Vec Ideal S512x512 .bf16) (wa : Vec Ideal S1x512x1024 .bf16) (r : Fin 512) (j : Fin 1024) :
    k0_pay6 (F := Ideal) x g w ya wa (ix2 r j)
      = Ideal.logistic (lin (rmsRow (fun k => x (ix2 r k)) (fun k => g (ix3 0 0 k))) (fun k f => w (ix3 0 k f)) j)
        * lin (fun k => ya (ix2 r k)) (fun k f => wa (ix3 0 k f)) j := by
  unfold k0_pay6 lin
  pointwise [pay3_apply]

theorem pay7_apply (h : Vec Ideal S512x1024 .bf16) (mo : Vec Ideal S512x512 .f32) (v : Vec Ideal S512x1024 .f32)
    (hm : Vec Ideal S512x512 .f32) (w : Vec Ideal S1x1024x1024 .bf16) (wm : Vec Ideal S1x512x1024 .bf16) (r : Fin 512) (j : Fin 1024) :
    k0_pay7 (F := Ideal) h mo v hm w wm (ix2 r j)
      = v (ix2 r j) + Ideal.logistic (lin (fun k => h (ix2 r k)) (fun k f => w (ix3 0 k f)) j)
        * lin (fun k => Ideal.logistic (mo (ix2 r k)) * hm (ix2 r k)) (fun k f => wm (ix3 0 k f)) j := by
  unfold k0_pay7 lin
  pointwise

theorem pay17_apply (h : Vec Ideal S512x1024 .bf16) (w : Vec Ideal S1x1024x1024 .bf16) (r : Fin 512) (j : Fin 1024) :
    k0_pay17 (F := Ideal) h w (ix2 r j) = Ideal.logistic (lin (fun k => h (ix2 r k)) (fun k f => w (ix3 0 k f)) j) := by
  unfold k0_pay17 lin
  pointwise

theorem pay1_apply (x v g2 : Vec Ideal S512x1024 .f32) (yg : Vec Ideal S512x512 .bf16) (wg : Vec Ideal S1x512x1024 .bf16)
    (wo : Vec Ideal S1x1024x1024 .bf16) (r : Fin 512) (j : Fin 1024) :
    k0_pay1 (F := Ideal) x v g2 yg wg wo (ix2 r j)
      = x (ix2 r j) + lin (fun f => v (ix2 r f) + g2 (ix2 r f) * lin (fun k => yg (ix2 r k)) (fun k f => wg (ix3 0 k f)) f)
        (fun k f => wo (ix3 0 k f)) j := by
  unfold k0_pay1 lin
  pointwise

theorem pay2_apply (x : Vec Ideal S512x1024 .f32) (r : Fin 512) (j : Fin 1024) : k0_pay2 (F := Ideal) x (ix2 r j) = x (ix2 r j) := by
  unfold k0_pay2
  pointwise

/-- The block a grid point writes, row by row. -/
theorem block_apply (x : Vec Ideal S512x1024 .f32) (ya : Vec Ideal S512x512 .bf16) (hm : Vec Ideal S512x512 .f32)
    (nm : Vec Ideal S1x1x1024 .f32) (wmo : Vec Ideal S1x1024x512 .bf16) (wuv g0 g1 g2 : Vec Ideal S1x1024x1024 .bf16)
    (ng : Vec Ideal S1x1x512 .f32) (w0 w1 w2 w3 : Vec Ideal S1x1x128x128 .f32) (b : Vec Ideal S1x512x512 .f32)
    (wa wm wg : Vec Ideal S1x512x1024 .bf16) (wo : Vec Ideal S1x1024x1024 .bf16)
    (W : Fin 4 → Fin 128 → Fin 128 → EReal) (hw0 : ∀ t s, w0 (ix4 0 0 t s) = W 0 t s) (hw1 : ∀ t s, w1 (ix4 0 0 t s) = W 1 t s)
    (hw2 : ∀ t s, w2 (ix4 0 0 t s) = W 2 t s) (hw3 : ∀ t s, w3 (ix4 0 0 t s) = W 3 t s)
    (r : Fin 512) (j : Fin 1024) :
    k0_pay1 (F := Ideal) (k0_pay2 x) (k0_pay7 (k0_pay3 x nm) (k0_pay5 x nm wmo) (k0_pay6 x nm g0 ya wa) hm g1 wm)
      (k0_pay17 (k0_pay3 x nm) g2)
      (k0_pay18 (k0_pay9 (k0_pay4 x nm wuv)) (k0_pay13 (k0_pay10 (k0_pay4 x nm wuv)) (k0_pay11 ng) (k0_pay12 (k0_pay4 x nm wuv)))
        (iota .tc S128x128 32 [0] iota_S128x128_d0_w32) (iota .tc S128x128 32 [1] iota_S128x128_d1_w32)
        (k0_pay14 (k0_pay10 (k0_pay4 x nm wuv)) (k0_pay11 ng) (k0_pay12 (k0_pay4 x nm wuv)) w0)
        (k0_pay15 (k0_pay10 (k0_pay4 x nm wuv)) (k0_pay11 ng) (k0_pay12 (k0_pay4 x nm wuv)) w1) k0_pay16 w2 w3 b) wg wo (ix2 r j)
    = mergeRow (fun k => x (ix2 r k)) (rmsRow (fun k => x (ix2 r k)) (fun k => nm (ix3 0 0 k)))
        (fun k => ya (ix2 r k)) (fun k => hm (ix2 r k))
        (fun d => gateCol (lin (rmsRow (fun k => x (ix2 r k)) (fun k => nm (ix3 0 0 k))) (fun k f => wuv (ix3 0 k f)) ⟨d.val, by omega⟩)
          (W ⟨d.val / 128, by omega⟩) ⟨r.val % 128, by omega⟩
          (fun s => vRow (lin (rmsRow (fun k => x (ix2 ⟨r.val / 128 * 128 + s.val, by omega⟩ k)) (fun k => nm (ix3 0 0 k)))
            (fun k f => wuv (ix3 0 k f))) (fun k => ng (ix3 0 0 k)) d) (b (ix3 0 r d)))
        (fun k f => wmo (ix3 0 k f)) (fun k f => g0 (ix3 0 k f)) (fun k f => g1 (ix3 0 k f)) (fun k f => g2 (ix3 0 k f))
        (fun k f => wa (ix3 0 k f)) (fun k f => wm (ix3 0 k f)) (fun k f => wg (ix3 0 k f)) (fun k f => wo (ix3 0 k f)) j := by
  have e18 := pay18_apply (k0_pay9 (k0_pay4 x nm wuv)) (k0_pay13 (k0_pay10 (k0_pay4 x nm wuv)) (k0_pay11 ng) (k0_pay12 (k0_pay4 x nm wuv)))
    _ _ w0 w1 w2 w3 b (pay14_apply _ _ _ _) (pay15_apply _ _ _ _) W hw0 hw1 hw2 hw3
  unfold mergeRow gateCol
  rw [pay1_apply]
  simp only [pay2_apply, pay7_apply, pay17_apply, pay6_apply, pay5_apply, pay3_apply, e18, pay9_apply, vn_apply, pay4_apply]

end Kernel

section Host

open Cert.Reference4Ideal Cert.Reference4Ideal.Read

theorem v14_apply (x0 : Vec Ideal S2x16384x1024 .f32) (x3 : Vec Ideal S4x1024 .f32) (b : Fin 2) (s : Fin 16384) (j : Fin 1024) :
    val_main_v14 x0 x3 (ix3 b s j) = rmsRow (fun k => x0 (ix3 b s k)) (fun k => x3 (ix2 0 k)) j := by
  unfold val_main_v14 val_main_v13 val_main_v12 val_main_v11 val_main_v10 val_main_v9 val_main_v8 val_main_v7 val_main_v6 val_main_v5
    val_main_v4 val_main_v3 val_main_v2 val_main_v1 val_main_v0 val_main_cst val_main_cst_0 val_main_cst_1
  unfold rmsRow
  pointwise

theorem v17_apply (x0 : Vec Ideal S2x16384x1024 .f32) (x3 : Vec Ideal S4x1024 .f32) (x4 : Vec Ideal S4x1024x7696 .f32)
    (b : Fin 2) (s : Fin 16384) (j : Fin 7696) :
    val_main_v17 x0 x3 x4 (ix3 b s j) = lin (rmsRow (fun k => x0 (ix3 b s k)) (fun k => x3 (ix2 0 k))) (fun k f => x4 (ix3 0 k f)) j := by
  unfold val_main_v17 val_main_v16 val_main_v15 lin
  pointwise [v14_apply]

/-- The projection's row. -/
abbrev pRow (x0 : Vec Ideal S2x16384x1024 .f32) (x3 : Vec Ideal S4x1024 .f32) (x4 : Vec Ideal S4x1024x7696 .f32) (b : Fin 2) (s : Fin 16384) :
    Fin 7696 → EReal :=
  lin (rmsRow (fun k => x0 (ix3 b s k)) (fun k => x3 (ix2 0 k))) (fun k f => x4 (ix3 0 k f))

theorem v33_apply (x0 : Vec Ideal S2x16384x1024 .f32) (x2 : Vec Ideal S2x16384x512 .f32) (x3 : Vec Ideal S4x1024 .f32) (x4 : Vec Ideal S4x1024x7696 .f32)
    (b : Fin 2) (s : Fin 16384) (j : Fin 512) :
    val_main_v33 x0 x2 x3 x4 (ix3 b s j) = Ideal.logistic (pRow x0 x3 x4 b s ⟨3088 + j.val, by omega⟩) * x2 (ix3 b s j) := by
  unfold val_main_v33 val_main_v32 val_main_v31 val_main_v30 val_main_v29 val_main_v28 val_main_v27 val_main_v24 val_main_cst_2 val_main_cst_3
  pointwise [v17_apply]
  rfl

theorem v46_apply (x0 : Vec Ideal S2x16384x1024 .f32) (x3 : Vec Ideal S4x1024 .f32) (x4 : Vec Ideal S4x1024x7696 .f32)
    (b : Fin 2) (s : Fin 16384) (j : Fin 1024) :
    val_main_v46 x0 x3 x4 (ix3 b s j) = gelu (pRow x0 x3 x4 b s ⟨3600 + j.val, by omega⟩) := by
  unfold val_main_v46 val_main_v45 val_main_v44 val_main_v43 val_main_v42 val_main_v41 val_main_v40 val_main_v39 val_main_v38 val_main_v37
    val_main_v36 val_main_v35 val_main_v34 val_main_v25 val_main_cst_4 val_main_cst_5 val_main_cst_6 val_main_cst_7 gelu
  pointwise [v17_apply]
  rw [← mul_assoc, mul_comm (lin _ _ _) (Ideal.ofBits FTy.f32 1056964608#32)]

theorem v63_apply (x0 : Vec Ideal S2x16384x1024 .f32) (x3 : Vec Ideal S4x1024 .f32) (x4 : Vec Ideal S4x1024x7696 .f32)
    (x5 : Vec Ideal S4x512 .f32) (b : Fin 2) (s : Fin 16384) (j : Fin 512) :
    val_main_v63 x0 x3 x4 x5 (ix3 b s j) = vRow (fun k => pRow x0 x3 x4 b s ⟨3600 + k.val, by omega⟩) (fun k => x5 (ix2 0 k)) j := by
  unfold val_main_v63 val_main_v62 val_main_v61 val_main_v60 val_main_v59 val_main_v58 val_main_v57 val_main_v56 val_main_v55 val_main_v54
    val_main_v53 val_main_v52 val_main_v51 val_main_v50 val_main_v49 val_main_v48 val_main_cst_8 val_main_cst_9 val_main_cst_10 vRow rms512
  pointwise [v46_apply]

theorem v71_apply (x6 : Vec Ideal S4x4x128x128 .f32) (g : Fin 4) (t s : Fin 128) :
    val_main_v71 x6 (ix3 g t s) = if s.val ≤ t.val then x6 (ix4 0 g t s) else 0 := by
  unfold val_main_v71 val_main_call1_v2 val_main_call1_v1 val_main_call1_v0 val_main_cst_11 val_main_v70 val_main_call0_v5 val_main_call0_c_0
    val_main_call0_v4 val_main_call0_v3 val_main_call0_v2 val_main_call0_v1 val_main_call0_c val_main_call0_v0 val_main_v69 val_main_c
    val_main_v65 val_main_v64
  pointwise
  have e0 : (constant (F := Ideal) S_ FTy.f32 0#32) ix0 = 0 := by pointwise
  simp only [id, e0]
  rw [show IntOp.addi (BitVec.ofNat 32 t.val) 0#32 = BitVec.ofNat 32 t.val from BitVec.add_zero _]
  word_cmp
  split <;> rfl

theorem v78_apply (x0 : Vec Ideal S2x16384x1024 .f32) (x3 : Vec Ideal S4x1024 .f32) (x4 : Vec Ideal S4x1024x7696 .f32)
    (x5 : Vec Ideal S4x512 .f32) (x6 : Vec Ideal S4x4x128x128 .f32) (x7 : Vec Ideal S4x4x128 .f32) (b : Fin 2) (s : Fin 16384) (j : Fin 512) :
    val_main_v78 x0 x3 x4 x5 x6 x7 (ix3 b s j) = mixCol (fun t s => x6 (ix4 0 ⟨j.val / 128, by omega⟩ t s)) ⟨s.val % 128, by omega⟩
      (fun s' => vRow (fun k => pRow x0 x3 x4 b ⟨s.val / 128 * 128 + s'.val, by omega⟩ ⟨3600 + k.val, by omega⟩) (fun k => x5 (ix2 0 k)) j)
      + x7 (ix3 0 ⟨j.val / 128, by omega⟩ ⟨s.val % 128, by omega⟩) := by
  unfold val_main_v78 val_main_v77 val_main_v76 val_main_v75 val_main_v74 val_main_v73 val_main_v72 val_main_v68 val_main_v67 val_main_v66 mixCol
  pointwise [v63_apply, v71_apply]
  exact congrArg (· + _) (Finset.sum_congr rfl fun _ _ => mul_comm _ _)

theorem v85_apply (x0 : Vec Ideal S2x16384x1024 .f32) (x3 : Vec Ideal S4x1024 .f32) (x4 : Vec Ideal S4x1024x7696 .f32)
    (b : Fin 2) (s : Fin 16384) (j : Fin 3072) :
    val_main_v85 x0 x3 x4 (ix3 b s j) = Ideal.logistic (pRow x0 x3 x4 b s ⟨4624 + j.val, by omega⟩) := by
  unfold val_main_v85 val_main_v84 val_main_v83 val_main_v82 val_main_v81 val_main_v80 val_main_v26 val_main_cst_12 val_main_cst_13
  pointwise [v17_apply]
  rfl

theorem v93_apply (x0 : Vec Ideal S2x16384x1024 .f32) (x1 : Vec Ideal S2x16384x512 .bf16) (x3 : Vec Ideal S4x1024 .f32)
    (x4 : Vec Ideal S4x1024x7696 .f32) (x8 : Vec Ideal S4x512x1024 .f32) (b : Fin 2) (s : Fin 16384) (j : Fin 1024) :
    val_main_v93 x0 x1 x3 x4 x8 (ix3 b s j) = Ideal.logistic (pRow x0 x3 x4 b s ⟨4624 + j.val, by omega⟩)
      * lin (fun k => x1 (ix3 b s k)) (fun k f => x8 (ix3 0 k f)) j := by
  unfold val_main_v93 val_main_v92 val_main_v91 val_main_v90 val_main_v89 val_main_v88 val_main_v87 val_main_v86
  pointwise [v85_apply]
  unfold lin
  rfl

theorem v99_apply (x0 : Vec Ideal S2x16384x1024 .f32) (x2 : Vec Ideal S2x16384x512 .f32) (x3 : Vec Ideal S4x1024 .f32)
    (x4 : Vec Ideal S4x1024x7696 .f32) (x9 : Vec Ideal S4x512x1024 .f32) (b : Fin 2) (s : Fin 16384) (j : Fin 1024) :
    val_main_v99 x0 x2 x3 x4 x9 (ix3 b s j) = Ideal.logistic (pRow x0 x3 x4 b s ⟨5648 + j.val, by omega⟩)
      * lin (fun k => Ideal.logistic (pRow x0 x3 x4 b s ⟨3088 + k.val, by omega⟩) * x2 (ix3 b s k)) (fun k f => x9 (ix3 0 k f)) j := by
  unfold val_main_v99 val_main_v98 val_main_v97 val_main_v96 val_main_v95 val_main_v94 val_main_v86
  pointwise [v85_apply, v33_apply]
  simp only [← Nat.add_assoc, Nat.reduceAdd]
  rfl

/-- The spatial gating branch, at one position. -/
abbrev yGate (x0 : Vec Ideal S2x16384x1024 .f32) (x3 : Vec Ideal S4x1024 .f32) (x4 : Vec Ideal S4x1024x7696 .f32)
    (x5 : Vec Ideal S4x512 .f32) (x6 : Vec Ideal S4x4x128x128 .f32) (x7 : Vec Ideal S4x4x128 .f32) (b : Fin 2) (s : Fin 16384) (j : Fin 512) : EReal :=
  gateCol (pRow x0 x3 x4 b s ⟨3600 + j.val, by omega⟩) (fun t s => x6 (ix4 0 ⟨j.val / 128, by omega⟩ t s)) ⟨s.val % 128, by omega⟩
      (fun s' => vRow (fun k => pRow x0 x3 x4 b ⟨s.val / 128 * 128 + s'.val, by omega⟩ ⟨3600 + k.val, by omega⟩) (fun k => x5 (ix2 0 k)) j)
      (x7 (ix3 0 ⟨j.val / 128, by omega⟩ ⟨s.val % 128, by omega⟩))

theorem v79_apply (x0 : Vec Ideal S2x16384x1024 .f32) (x3 : Vec Ideal S4x1024 .f32) (x4 : Vec Ideal S4x1024x7696 .f32)
    (x5 : Vec Ideal S4x512 .f32) (x6 : Vec Ideal S4x4x128x128 .f32) (x7 : Vec Ideal S4x4x128 .f32) (b : Fin 2) (s : Fin 16384) (j : Fin 512) :
    val_main_v79 x0 x3 x4 x5 x6 x7 (ix3 b s j) = yGate x0 x3 x4 x5 x6 x7 b s j := by
  unfold val_main_v79 val_main_v47 yGate gateCol
  pointwise [v46_apply, v78_apply]

theorem v106_apply (x0 : Vec Ideal S2x16384x1024 .f32) (x3 : Vec Ideal S4x1024 .f32)
    (x4 : Vec Ideal S4x1024x7696 .f32) (x5 : Vec Ideal S4x512 .f32) (x6 : Vec Ideal S4x4x128x128 .f32) (x7 : Vec Ideal S4x4x128 .f32)
    (x10 : Vec Ideal S4x512x1024 .f32) (b : Fin 2) (s : Fin 16384) (j : Fin 1024) :
    val_main_v106 x0 x3 x4 x5 x6 x7 x10 (ix3 b s j) = Ideal.logistic (pRow x0 x3 x4 b s ⟨6672 + j.val, by omega⟩)
      * lin (yGate x0 x3 x4 x5 x6 x7 b s) (fun k f => x10 (ix3 0 k f)) j := by
  unfold val_main_v106 val_main_v105 val_main_v104 val_main_v103 val_main_v102 val_main_v101 val_main_v86
  pointwise [v85_apply, v79_apply]
  simp only [← Nat.add_assoc, Nat.reduceAdd]
  rfl

theorem v111_apply (x0 : Vec Ideal S2x16384x1024 .f32) (x1 : Vec Ideal S2x16384x512 .bf16) (x2 : Vec Ideal S2x16384x512 .f32)
    (x3 : Vec Ideal S4x1024 .f32) (x4 : Vec Ideal S4x1024x7696 .f32) (x5 : Vec Ideal S4x512 .f32) (x6 : Vec Ideal S4x4x128x128 .f32)
    (x7 : Vec Ideal S4x4x128 .f32) (x8 x9 x10 : Vec Ideal S4x512x1024 .f32) (x11 : Vec Ideal S4x1024x1024 .f32)
    (b : Fin 2) (s : Fin 16384) (j : Fin 1024) :
    val_main_v111 x0 x1 x2 x3 x4 x5 x6 x7 x8 x9 x10 x11 (ix3 b s j)
      = mergeRow (fun k => x0 (ix3 b s k)) (rmsRow (fun k => x0 (ix3 b s k)) (fun k => x3 (ix2 0 k)))
          (fun k => x1 (ix3 b s k)) (fun k => x2 (ix3 b s k)) (yGate x0 x3 x4 x5 x6 x7 b s)
          (fun k f => x4 (ix3 0 k ⟨3088 + f.val, by omega⟩)) (fun k f => x4 (ix3 0 k ⟨4624 + f.val, by omega⟩))
          (fun k f => x4 (ix3 0 k ⟨5648 + f.val, by omega⟩)) (fun k f => x4 (ix3 0 k ⟨6672 + f.val, by omega⟩))
          (fun k f => x8 (ix3 0 k f)) (fun k f => x9 (ix3 0 k f)) (fun k f => x10 (ix3 0 k f)) (fun k f => x11 (ix3 0 k f)) j := by
  unfold val_main_v111 val_main_v110 val_main_v109 val_main_v108 val_main_v107 val_main_v100 mergeRow
  pointwise [v93_apply, v99_apply, v106_apply]
  rfl

/-- The host's result, row by row. -/
theorem v112_apply (x0 : Vec Ideal S2x16384x1024 .f32) (x1 : Vec Ideal S2x16384x512 .bf16) (x2 : Vec Ideal S2x16384x512 .f32)
    (x3 : Vec Ideal S4x1024 .f32) (x4 : Vec Ideal S4x1024x7696 .f32) (x5 : Vec Ideal S4x512 .f32) (x6 : Vec Ideal S4x4x128x128 .f32)
    (x7 : Vec Ideal S4x4x128 .f32) (x8 x9 x10 : Vec Ideal S4x512x1024 .f32) (x11 : Vec Ideal S4x1024x1024 .f32)
    (R : Fin 32768) (j : Fin 1024) :
    val_main_v112 x0 x1 x2 x3 x4 x5 x6 x7 x8 x9 x10 x11 (ix2 R j)
      = val_main_v111 x0 x1 x2 x3 x4 x5 x6 x7 x8 x9 x10 x11 (ix3 ⟨R / 16384, by omega⟩ ⟨R % 16384, by omega⟩ j) := by
  unfold val_main_v112
  pointwise

end Host

section Value

open Cert.Kernel4Ideal Cert.Kernel4Ideal.Gen
open Idealize.ShloMosaic.Pipeline (Dat)

variable (m : (ℓ : Loc nD τ sig) → Buf (Elt Ideal) ℓ)

/-- The array the kernel leaves, over its arguments. -/
def out (c : Dev nD) : Vec Ideal S32768x1024 .f32 :=
  Cert.Reference4Ideal.Read.val_main_v112 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

theorem idx : ∀ t : Fin cfg0.N, win0_0.index t = ![t.val, 0] ∧ win0_1.index t = ![t.val, 0] ∧ win0_2.index t = ![t.val, 0] ∧ win0_3.index t = ![0, 0, 0] ∧ win0_4.index t = ![0, 0, 0] ∧ win0_5.index t = ![0, 0, 0] ∧ win0_6.index t = ![0, 0, 0] ∧ win0_7.index t = ![0, 0, 0] ∧ win0_8.index t = ![0, 0, 0, 0] ∧ win0_9.index t = ![0, 0, 0] ∧ win0_10.index t = ![0, 0, 0] ∧ win0_11.index t = ![0, 0, 0] ∧ win0_12.index t = ![0, 0, 0] ∧ win0_13.index t = ![0, 0, 0] ∧ win0_14.index t = ![t.val, 0] :=
  (by decide +kernel : ∀ t : Fin grid0.N, _)

theorem rd0 (c : Dev nD) (t : Fin cfg0.N) (r : Fin 512) (k : Fin 1024) (h : t.val * 512 + r.val < 32768) :
    (iblk m c 0 t : Vec Ideal S512x1024 .f32) (ix2 r k) = m ((c : Thread nD τ).loc main_arg0) (ix3 ⟨(t.val * 512 + r.val) / 16384, by omega⟩ ⟨(t.val * 512 + r.val) % 16384, by omega⟩ k) := by
  blk_simp [iblk]
  entry_read
  pointwise
  blk_ext [idx t]

theorem rd1 (c : Dev nD) (t : Fin cfg0.N) (r : Fin 512) (k : Fin 512) (h : t.val * 512 + r.val < 32768) :
    (iblk m c 1 t : Vec Ideal S512x512 .bf16) (ix2 r k) = m ((c : Thread nD τ).loc main_arg1) (ix3 ⟨(t.val * 512 + r.val) / 16384, by omega⟩ ⟨(t.val * 512 + r.val) % 16384, by omega⟩ k) := by
  blk_simp [iblk]
  entry_read
  pointwise
  blk_ext [idx t]

theorem rd2 (c : Dev nD) (t : Fin cfg0.N) (r : Fin 512) (k : Fin 512) (h : t.val * 512 + r.val < 32768) :
    (iblk m c 2 t : Vec Ideal S512x512 .f32) (ix2 r k) = m ((c : Thread nD τ).loc main_arg2) (ix3 ⟨(t.val * 512 + r.val) / 16384, by omega⟩ ⟨(t.val * 512 + r.val) % 16384, by omega⟩ k) := by
  blk_simp [iblk]
  entry_read
  pointwise
  blk_ext [idx t]

theorem rd3 (c : Dev nD) (t : Fin cfg0.N) (k : Fin 1024) :
    (iblk m c 3 t : Vec Ideal S1x1x1024 .f32) (ix3 0 0 k) = m ((c : Thread nD τ).loc main_arg3) (ix2 0 k) := by
  blk_simp [iblk]
  entry_read
  pointwise
  blk_ext [idx t]

theorem rd4 (c : Dev nD) (t : Fin cfg0.N) (k : Fin 1024) (f : Fin 512) :
    (iblk m c 4 t : Vec Ideal S1x1024x512 .bf16) (ix3 0 k f) = m ((c : Thread nD τ).loc main_arg4) (ix3 0 k ⟨3088 + f.val, by omega⟩) := by
  blk_simp [iblk]
  entry_read
  pointwise
  blk_ext [idx t]

theorem rd5 (c : Dev nD) (t : Fin cfg0.N) (k : Fin 1024) (f : Fin 1024) :
    (iblk m c 5 t : Vec Ideal S1x1024x1024 .bf16) (ix3 0 k f) = m ((c : Thread nD τ).loc main_arg4) (ix3 0 k ⟨3600 + f.val, by omega⟩) := by
  blk_simp [iblk]
  entry_read
  pointwise
  blk_ext [idx t]

theorem rd6 (c : Dev nD) (t : Fin cfg0.N) (k : Fin 1024) (f : Fin 3072) :
    (iblk m c 6 t : Vec Ideal S1x1024x3072 .bf16) (ix3 0 k f) = m ((c : Thread nD τ).loc main_arg4) (ix3 0 k ⟨4624 + f.val, by omega⟩) := by
  blk_simp [iblk]
  entry_read
  pointwise
  blk_ext [idx t]

theorem rd7 (c : Dev nD) (t : Fin cfg0.N) (k : Fin 512) :
    (iblk m c 7 t : Vec Ideal S1x1x512 .f32) (ix3 0 0 k) = m ((c : Thread nD τ).loc main_arg5) (ix2 0 k) := by
  blk_simp [iblk]
  entry_read
  pointwise
  blk_ext [idx t]

theorem rd8 (c : Dev nD) (t : Fin cfg0.N) (g : Fin 4) (a b : Fin 128) :
    (iblk m c 8 t : Vec Ideal S1x4x128x128 .f32) (ix4 0 g a b) = m ((c : Thread nD τ).loc main_arg6) (ix4 0 g a b) := by
  blk_simp [iblk]
  entry_read
  pointwise
  blk_ext [idx t]

theorem rd9 (c : Dev nD) (t : Fin cfg0.N) (r d : Fin 512) :
    (iblk m c 9 t : Vec Ideal S1x512x512 .f32) (ix3 0 r d) = m ((c : Thread nD τ).loc main_arg7) (ix3 0 ⟨d.val / 128, by omega⟩ ⟨r.val % 128, by omega⟩) := by
  blk_simp [iblk]
  entry_read
  pointwise
  blk_ext [idx t]

theorem rd10 (c : Dev nD) (t : Fin cfg0.N) (k : Fin 512) (f : Fin 1024) :
    (iblk m c 10 t : Vec Ideal S1x512x1024 .bf16) (ix3 0 k f) = m ((c : Thread nD τ).loc main_arg8) (ix3 0 k f) := by
  blk_simp [iblk]
  entry_read
  pointwise
  blk_ext [idx t]

theorem rd11 (c : Dev nD) (t : Fin cfg0.N) (k : Fin 512) (f : Fin 1024) :
    (iblk m c 11 t : Vec Ideal S1x512x1024 .bf16) (ix3 0 k f) = m ((c : Thread nD τ).loc main_arg9) (ix3 0 k f) := by
  blk_simp [iblk]
  entry_read
  pointwise
  blk_ext [idx t]

theorem rd12 (c : Dev nD) (t : Fin cfg0.N) (k : Fin 512) (f : Fin 1024) :
    (iblk m c 12 t : Vec Ideal S1x512x1024 .bf16) (ix3 0 k f) = m ((c : Thread nD τ).loc main_arg10) (ix3 0 k f) := by
  blk_simp [iblk]
  entry_read
  pointwise
  blk_ext [idx t]

theorem rd13 (c : Dev nD) (t : Fin cfg0.N) (k : Fin 1024) (f : Fin 1024) :
    (iblk m c 13 t : Vec Ideal S1x1024x1024 .bf16) (ix3 0 k f) = m ((c : Thread nD τ).loc main_arg11) (ix3 0 k f) := by
  blk_simp [iblk]
  entry_read
  pointwise
  blk_ext [idx t]

theorem ld6_4 (c : Dev nD) (t : Fin cfg0.N) (k : Fin 1024) (f : Fin 1024) :
    (View.ld (iblk m c 6 t : Vec Ideal S1x1024x3072 .bf16) r0_4 : Vec Ideal S1x1024x1024 .bf16) (ix3 0 k f)
      = m ((c : Thread nD τ).loc main_arg4) (ix3 0 k ⟨4624 + f.val, by omega⟩) := by
  have h := rd6 m c t k ⟨0 + f.val, by omega⟩
  simp only [← Nat.add_assoc, Nat.reduceAdd] at h
  rw [← h]
  pointwise

theorem ld6_7 (c : Dev nD) (t : Fin cfg0.N) (k : Fin 1024) (f : Fin 1024) :
    (View.ld (iblk m c 6 t : Vec Ideal S1x1024x3072 .bf16) r0_7 : Vec Ideal S1x1024x1024 .bf16) (ix3 0 k f)
      = m ((c : Thread nD τ).loc main_arg4) (ix3 0 k ⟨5648 + f.val, by omega⟩) := by
  have h := rd6 m c t k ⟨1024 + f.val, by omega⟩
  simp only [← Nat.add_assoc, Nat.reduceAdd] at h
  rw [← h]
  pointwise

theorem ld6_14 (c : Dev nD) (t : Fin cfg0.N) (k : Fin 1024) (f : Fin 1024) :
    (View.ld (iblk m c 6 t : Vec Ideal S1x1024x3072 .bf16) r0_14 : Vec Ideal S1x1024x1024 .bf16) (ix3 0 k f)
      = m ((c : Thread nD τ).loc main_arg4) (ix3 0 k ⟨6672 + f.val, by omega⟩) := by
  have h := rd6 m c t k ⟨2048 + f.val, by omega⟩
  simp only [← Nat.add_assoc, Nat.reduceAdd] at h
  rw [← h]
  pointwise

theorem ld8_0 (c : Dev nD) (t : Fin cfg0.N) (a b : Fin 128) :
    (View.ld (iblk m c 8 t : Vec Ideal S1x4x128x128 .f32) r0_9 : Vec Ideal S1x1x128x128 .f32) (ix4 0 0 a b)
      = m ((c : Thread nD τ).loc main_arg6) (ix4 0 0 a b) := by
  rw [← rd8 m c t 0 a b]
  pointwise

theorem ld8_1 (c : Dev nD) (t : Fin cfg0.N) (a b : Fin 128) :
    (View.ld (iblk m c 8 t : Vec Ideal S1x4x128x128 .f32) r0_10 : Vec Ideal S1x1x128x128 .f32) (ix4 0 0 a b)
      = m ((c : Thread nD τ).loc main_arg6) (ix4 0 1 a b) := by
  rw [← rd8 m c t 1 a b]
  pointwise

theorem ld8_2 (c : Dev nD) (t : Fin cfg0.N) (a b : Fin 128) :
    (View.ld (iblk m c 8 t : Vec Ideal S1x4x128x128 .f32) r0_11 : Vec Ideal S1x1x128x128 .f32) (ix4 0 0 a b)
      = m ((c : Thread nD τ).loc main_arg6) (ix4 0 2 a b) := by
  rw [← rd8 m c t 2 a b]
  pointwise

theorem ld8_3 (c : Dev nD) (t : Fin cfg0.N) (a b : Fin 128) :
    (View.ld (iblk m c 8 t : Vec Ideal S1x4x128x128 .f32) r0_12 : Vec Ideal S1x1x128x128 .f32) (ix4 0 0 a b)
      = m ((c : Thread nD τ).loc main_arg6) (ix4 0 3 a b) := by
  rw [← rd8 m c t 3 a b]
  pointwise

theorem final (c : Dev nD) : (dats m 0 c).arrAt 14 (cfgs 0).N = out m c := by
  refine (dats m 0 c).arrAt_eq_of_covers 14 _ (by decide +kernel) fun t _ y => ?_
  blk_simp
  rw [after0_14]
  unfold_out out0_14
  frame_out
  obtain ⟨r, j, rfl⟩ : ∃ (r : Fin 512) (j : Fin 1024), y = ix2 r j := ⟨y 0, y 1, eq_ix2 y⟩
  have hN : t.val < 64 := lt_of_lt_of_eq t.isLt N_0
  have hR : t.val * 512 + r.val < 32768 := by omega
  have hQ : ∀ s : Fin 128, t.val * 512 + (r.val / 128 * 128 + s.val) < 32768 := fun s => by omega
  have he : (((cfg0.win 14).blk t).view.emb (ix2 r j)) = (ix2 ⟨t.val * 512 + r.val, hR⟩ j : S32768x1024.Idx) := by
    blk_ext [idx t]
  refine Eq.trans ?_ (congrArg (out m c) he).symm
  unfold out
  rw [v112_apply, v111_apply]
  refine (block_apply (iblk m c 0 t) (iblk m c 1 t) (iblk m c 2 t) (iblk m c 3 t) (iblk m c 4 t) (iblk m c 5 t)
    (View.ld (iblk m c 6 t) r0_4) (View.ld (iblk m c 6 t) r0_7) (View.ld (iblk m c 6 t) r0_14) (iblk m c 7 t)
    (View.ld (iblk m c 8 t) r0_9) (View.ld (iblk m c 8 t) r0_10) (View.ld (iblk m c 8 t) r0_11) (View.ld (iblk m c 8 t) r0_12)
    (iblk m c 9 t) (iblk m c 10 t) (iblk m c 11 t) (iblk m c 12 t) (iblk m c 13 t)
    (fun g a b => m ((c : Thread nD τ).loc main_arg6) (ix4 0 g a b)) (ld8_0 m c t) (ld8_1 m c t) (ld8_2 m c t) (ld8_3 m c t) r j).trans ?_
  have q : ∀ (s : Fin 128) (k : Fin 1024), (iblk m c 0 t : Vec Ideal S512x1024 .f32) (ix2 ⟨r.val / 128 * 128 + s.val, by omega⟩ k)
      = m ((c : Thread nD τ).loc main_arg0) (ix3 ⟨(t.val * 512 + r.val) / 16384, by omega⟩
          ⟨(t.val * 512 + r.val) % 16384 / 128 * 128 + s.val, by omega⟩ k) := fun s k => by
    rw [rd0 m c t _ k (hQ s)]
    blk_ext
  simp only [q, rd0 m c t r _ hR, rd1 m c t r _ hR, rd2 m c t r _ hR, rd3, rd4, rd5, ld6_4, ld6_7, ld6_14, rd7, rd9, rd10, rd11, rd12, rd13]
  have e128 : r.val % 128 = (t.val * 512 + r.val) % 16384 % 128 := by omega
  simp only [e128]
  rfl

end Value

end Cert.Merge
end
-- ==== Proof.InprojRow.lean ====
module

public import proofs.«01_k».proof.Proof.Gen.Kernel5Ideal.Skeleton
public import proofs.«01_k».proof.Proof.Gen.Reference5Ideal.Read
public import proofs.«01_k».proof.Proof.MergeRow
public import Idealize.ShloMosaic.Lib.Pointwise
public import Idealize.ShloMosaic.PureOps.Ideal.Laws
public import Idealize.ShloMosaic.Lib.Pipeline.ValueKit
public import Idealize.ShloMosaic.Lib.Claim
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem
open scoped BigOperators

namespace Cert.Inproj

open Cert.FfnRow Cert.MergeRow

theorem sitofp_zero : (FloatOps.sitofp (F := Ideal) FTy.f32 0#32 : EReal) = 0 := by
  show ((((0#32 : BitVec 32).toInt : ℝ)) : EReal) = 0
  simp

/-- A position's value `d` places before `s`, zero before the first. -/
def before {n : Nat} (p : Fin n → EReal) (d : Nat) (s : Fin n) : EReal := if h : d ≤ s.val then p ⟨s.val - d, by omega⟩ else 0

/-- The causal convolution of width four over one channel. -/
def conv4 {n : Nat} (w : Fin 4 → EReal) (p : Fin n → EReal) (s : Fin n) : EReal :=
  w 0 * before p 3 s + w 1 * before p 2 s + w 2 * before p 1 s + w 3 * p s

/-- The same, the four products in the order the kernel adds them. -/
theorem conv4_eq (w0 w1 w2 w3 a b c d : EReal) : d * w3 + a * w0 + b * w1 + c * w2 = w0 * a + w1 * b + w2 * c + w3 * d := by
  rw [mul_comm d, mul_comm a, mul_comm b, mul_comm c]
  abel

section Kernel

open Cert.Kernel5Ideal Cert.Kernel5Ideal.Gen

theorem slotRow (r : Fin 640) (j : Fin 1024) : k0_pay7 (ix2 r j) = BitVec.ofNat 32 (r.val % 80) := by
  have key : ∀ r : Fin 640, k0_pay7 (ix2 r 0) = BitVec.ofNat 32 (r.val % 80) := by
    intro r
    unfold k0_pay7
    pointwise
    revert r
    decide +kernel
  refine Eq.trans ?_ (key r)
  unfold k0_pay7
  pointwise

theorem pay4_apply (x : Vec Ideal S1x1024x1024 .f32) (g : Vec Ideal S1x1x1024 .f32) (r : Fin 1024) (j : Fin 1024) :
    k0_pay4 (F := Ideal) x g (ix2 r j) = rmsRow (fun k => x (ix3 0 r k)) (fun k => g (ix3 0 0 k)) j := by
  unfold k0_pay4 rmsRow
  pointwise

theorem pay8_apply (x : Vec Ideal S1x1024x1024 .f32) (g : Vec Ideal S1x1x1024 .f32) (w : Vec Ideal S1x640x1024 .bf16) (r : Fin 640) (j : Fin 1024) :
    k0_pay8 (F := Ideal) x g w (ix2 r j) = ∑ k, w (ix3 0 r k) * rmsRow (fun k => x (ix3 0 j k)) (fun k => g (ix3 0 0 k)) k := by
  unfold k0_pay8 k0_pay6
  pointwise [pay4_apply]

theorem pay9_apply (v : Vec Ideal S640x1024 .f32) (r : Fin 640) (j : Fin 1024) :
    k0_pay9 (F := Ideal) k0_pay7 v (ix2 r j) = if 64 ≤ r.val % 80 ∧ r.val % 80 < 67 then 1 else v (ix2 r j) := by
  unfold k0_pay9
  pointwise [slotRow]
  word_cmp

theorem pay10_apply (x : Vec Ideal S1x1024x1024 .f32) (g : Vec Ideal S1x1x1024 .f32) (w : Vec Ideal S1x640x1024 .bf16) (r : Fin 640) (j : Fin 1024) :
    k0_pay10 (F := Ideal) (k0_pay6 x g) k0_pay7 w (ix2 r j) = if r.val % 80 = 64 then 1 else
      ∑ k, w (ix3 0 r k) * rmsRow (fun k => x (ix3 0 j k)) (fun k => g (ix3 0 0 k)) k := by
  unfold k0_pay10 k0_pay6
  pointwise [slotRow, pay4_apply]
  word_cmp

theorem pay18_apply (x : Vec Ideal S1x1024x1024 .f32) (g : Vec Ideal S1x1x1024 .f32) (w : Vec Ideal S1x1024x1024 .bf16) (r j : Fin 1024) :
    k0_pay18 (F := Ideal) (k0_pay5 x g) w (ix3 0 r j) = lin (rmsRow (fun k => x (ix3 0 r k)) (fun k => g (ix3 0 0 k))) (fun k f => w (ix3 0 k f)) j := by
  unfold k0_pay18 k0_pay5 lin
  pointwise [pay4_apply]

theorem pay19_apply (x : Vec Ideal S1x1024x1024 .f32) (g : Vec Ideal S1x1x1024 .f32) (w : Vec Ideal S1x1024x128 .bf16) (r : Fin 1024) (j : Fin 128) :
    k0_pay19 (F := Ideal) (k0_pay5 x g) w (ix3 0 r j) = lin (rmsRow (fun k => x (ix3 0 r k)) (fun k => g (ix3 0 0 k))) (fun k f => w (ix3 0 k f)) j := by
  unfold k0_pay19 k0_pay5 lin
  pointwise [pay4_apply]

theorem pay20_apply (x : Vec Ideal S1x1024x1024 .f32) (g : Vec Ideal S1x1x1024 .f32) (w : Vec Ideal S1x1024x512 .bf16) (r : Fin 1024) (j : Fin 512) :
    k0_pay20 (F := Ideal) (k0_pay5 x g) w (ix3 0 r j) = lin (rmsRow (fun k => x (ix3 0 r k)) (fun k => g (ix3 0 0 k))) (fun k f => w (ix3 0 k f)) j := by
  unfold k0_pay20 k0_pay5 lin
  pointwise [pay4_apply]

theorem pay21_apply (a : Fin 16) (v : Vec Ideal S1024x1024 .f32) (x : Vec Ideal S1x8x1024 .f32) (g : Vec Ideal S1x1x1024 .f32)
    (w : Vec Ideal S1x1024x1024 .bf16) (r : Fin 1032) (j : Fin 1024) :
    k0_pay21 (F := Ideal) (BitVec.ofNat 32 a.val) v x g w (ix2 r j) =
      if h : r.val < 8 then (if 0 < a.val then lin (rmsRow (fun k => x (ix3 0 ⟨r.val, h⟩ k)) (fun k => g (ix3 0 0 k))) (fun k f => w (ix3 0 k f)) j else 0)
      else lin (fun k => v (ix2 ⟨r.val - 8, by omega⟩ k)) (fun k f => w (ix3 0 k f)) j := by
  unfold k0_pay21 lin rmsRow
  pointwise
  word_cmp
  by_cases h : r.val < 8
  · simp only [dif_pos h]
    split
    · rfl
    · simp only [zero_mul, Finset.sum_const_zero]
  · simp only [dif_neg h]

theorem pay1_apply (p : Vec Ideal S1032x1024 .f32) (q : Vec Ideal S1024x1024 .f32) (w : Vec Ideal S4x1024 .f32) (r j : Fin 1024) :
    k0_pay1 (F := Ideal) p q w (ix2 r j) =
      (q (ix2 r j) * w (ix2 3 j) + p (ix2 ⟨5 + r.val, by omega⟩ j) * w (ix2 0 j) + p (ix2 ⟨6 + r.val, by omega⟩ j) * w (ix2 1 j)
          + p (ix2 ⟨7 + r.val, by omega⟩ j) * w (ix2 2 j)) *
        Ideal.logistic (q (ix2 r j) * w (ix2 3 j) + p (ix2 ⟨5 + r.val, by omega⟩ j) * w (ix2 0 j) + p (ix2 ⟨6 + r.val, by omega⟩ j) * w (ix2 1 j)
          + p (ix2 ⟨7 + r.val, by omega⟩ j) * w (ix2 2 j)) := by
  unfold k0_pay1
  pointwise

theorem pay2_apply (p : Vec Ideal S1032x1024 .f32) (q : Vec Ideal S1024x1024 .f32) (w : Vec Ideal S4x1024 .f32) (r : Fin 1024) (j : Fin 512) :
    k0_pay2 (F := Ideal) p q w (ix3 0 r j) = k0_pay1 (F := Ideal) p q w (ix2 r ⟨j.val, by omega⟩) * Ideal.ofBits FTy.f32 0x3DB504F3#32 := by
  unfold k0_pay2
  pointwise

theorem pay3_apply (p : Vec Ideal S1032x1024 .f32) (q : Vec Ideal S1024x1024 .f32) (w : Vec Ideal S4x1024 .f32) (r : Fin 1024) (j : Fin 512) :
    k0_pay3 (F := Ideal) p q w (ix3 0 r j) = k0_pay1 (F := Ideal) p q w (ix2 r ⟨512 + j.val, by omega⟩) := by
  unfold k0_pay3
  pointwise

theorem pay22_apply (a : BitVec 32) (v : Vec Ideal S1024x1024 .f32) (x : Vec Ideal S1x8x1024 .f32) (g : Vec Ideal S1x1x1024 .f32)
    (w : Vec Ideal S1x1024x1024 .bf16) (r j : Fin 1024) :
    k0_pay22 (F := Ideal) a v x g w (ix2 r j) = k0_pay21 (F := Ideal) a v x g w (ix2 ⟨8 + r.val, by omega⟩ j) := by
  unfold k0_pay22
  pointwise

theorem pay23_apply (w : Vec Ideal S1x4x1024 .f32) (r : Fin 4) (j : Fin 1024) : k0_pay23 (F := Ideal) w (ix2 r j) = w (ix3 0 r j) := by
  unfold k0_pay23
  pointwise

/-- One tile of the activated convolution, from the projection of the tile and of the eight rows before it. -/
theorem act_core (X : Fin 16384 → Fin 1024 → EReal) (G : Fin 1024 → EReal) (W : Fin 1024 → Fin 1024 → EReal) (CW : Fin 4 → Fin 1024 → EReal)
    (a : Fin 16) (x0 : Vec Ideal S1x1024x1024 .f32) (x1 : Vec Ideal S1x8x1024 .f32) (g : Vec Ideal S1x1x1024 .f32)
    (w : Vec Ideal S1x1024x1024 .bf16) (w9 : Vec Ideal S1x4x1024 .f32)
    (h0 : ∀ r k, x0 (ix3 0 r k) = X ⟨a.val * 1024 + r.val, by omega⟩ k)
    (h1 : ∀ (r : Fin 8) (k : Fin 1024), 0 < a.val → x1 (ix3 0 r k) = X ⟨a.val * 1024 - 8 + r.val, by omega⟩ k)
    (hg : ∀ k, g (ix3 0 0 k) = G k) (hw : ∀ k j, w (ix3 0 k j) = W k j) (h9 : ∀ i j, w9 (ix3 0 i j) = CW i j) (r j : Fin 1024) :
    k0_pay1 (F := Ideal) (k0_pay21 (F := Ideal) (BitVec.ofNat 32 a.val) (k0_pay4 (F := Ideal) x0 g) x1 g w)
      (k0_pay22 (F := Ideal) (BitVec.ofNat 32 a.val) (k0_pay4 (F := Ideal) x0 g) x1 g w) (k0_pay23 (F := Ideal) w9) (ix2 r j) =
      conv4 (fun i => CW i j) (fun s => lin (rmsRow (X s) G) W j) ⟨a.val * 1024 + r.val, by omega⟩ *
        Ideal.logistic (conv4 (fun i => CW i j) (fun s => lin (rmsRow (X s) G) W j) ⟨a.val * 1024 + r.val, by omega⟩) := by
  have hG : (fun k => g (ix3 0 0 k)) = G := funext hg
  have hW : (fun k f => w (ix3 0 k f)) = W := funext fun k => funext fun f => hw k f
  have P : ∀ q : Fin 1032, k0_pay21 (F := Ideal) (BitVec.ofNat 32 a.val) (k0_pay4 (F := Ideal) x0 g) x1 g w (ix2 q j) =
      if h : 8 ≤ a.val * 1024 + q.val then lin (rmsRow (X ⟨a.val * 1024 + q.val - 8, by omega⟩) G) W j else 0 := by
    intro q
    rw [pay21_apply, hG, hW]
    by_cases hq : q.val < 8
    · rw [dif_pos hq]
      by_cases ha : 0 < a.val
      · rw [if_pos ha, dif_pos (by omega)]
        congr 2
        funext k
        rw [h1 ⟨q.val, hq⟩ k ha]
        congr 2
        show a.val * 1024 - 8 + q.val = a.val * 1024 + q.val - 8
        omega
      · rw [if_neg ha, dif_neg (by omega)]
    · rw [dif_neg hq, dif_pos (by omega)]
      congr 1
      funext k
      rw [pay4_apply, hG]
      congr 1
      funext k
      rw [h0]
      congr 2
      show a.val * 1024 + (q.val - 8) = a.val * 1024 + q.val - 8
      omega
  have B : ∀ (d : Nat) (hd : d ≤ 3) (hb : 8 - d + r.val < 1032),
      k0_pay21 (F := Ideal) (BitVec.ofNat 32 a.val) (k0_pay4 (F := Ideal) x0 g) x1 g w (ix2 ⟨8 - d + r.val, hb⟩ j) =
      before (fun s => lin (rmsRow (X s) G) W j) d ⟨a.val * 1024 + r.val, by omega⟩ := by
    intro d hd hb
    rw [P]
    unfold before
    dsimp only
    by_cases hs : d ≤ a.val * 1024 + r.val
    · rw [dif_pos hs, dif_pos (by omega)]
      have e : a.val * 1024 + (8 - d + r.val) - 8 = a.val * 1024 + r.val - d := by omega
      simp only [e]
    · rw [dif_neg hs, dif_neg (by omega)]
  have E : k0_pay22 (F := Ideal) (BitVec.ofNat 32 a.val) (k0_pay4 (F := Ideal) x0 g) x1 g w (ix2 r j) =
      lin (rmsRow (X ⟨a.val * 1024 + r.val, by omega⟩) G) W j := by
    rw [pay22_apply, P, dif_pos (by dsimp only; omega)]
    have e : a.val * 1024 + (8 + r.val) - 8 = a.val * 1024 + r.val := by omega
    simp only [e]
  rw [pay1_apply, E, B 3 (by omega), B 2 (by omega), B 1 (by omega)]
  simp only [pay23_apply, h9, conv4_eq]
  rfl

theorem sum_scale {n : Nat} (f : Fin n → EReal) (c : ℝ) (hc : 0 ≤ c) : ∑ k, f k * (c : EReal) = (∑ k, f k) * (c : EReal) := by
  induction n with
  | zero => simp
  | succ n ih =>
    rw [Fin.sum_univ_succ, Fin.sum_univ_succ, ih,
      EReal.right_distrib_of_nonneg_of_ne_top (by exact_mod_cast hc) (EReal.coe_ne_top c)]

theorem scale_real : ∃ c : ℝ, 0 ≤ c ∧ Ideal.ofBits FTy.f32 1043900987#32 = (c : EReal) := by
  refine ⟨_, ?_, by simp [Ideal.ofBits, Ideal.ieee]; rfl⟩
  norm_num

/-- A feature row of the padded, scaled query block: the scaled projection, then three ones, then zeros. -/
theorem q_core (H : Fin 1024 → Fin 1024 → EReal) (W : Fin 1024 → Fin 640 → EReal)
    (x : Vec Ideal S1x1024x1024 .f32) (g : Vec Ideal S1x1x1024 .f32) (w : Vec Ideal S1x640x1024 .bf16)
    (hH : ∀ j, rmsRow (fun k => x (ix3 0 j k)) (fun k => g (ix3 0 0 k)) = H j)
    (hw : ∀ r k, w (ix3 0 r k) = (if r.val % 80 < 64 then W k r else 0) * Ideal.ofBits FTy.f32 1043900987#32) (r : Fin 640) (j : Fin 1024) :
    k0_pay9 (F := Ideal) k0_pay7 (k0_pay8 (F := Ideal) x g w) (ix2 r j) =
      if r.val % 80 < 64 then lin (H j) W r * Ideal.ofBits FTy.f32 1043900987#32 else if r.val % 80 - 64 < 3 then 1 else 0 := by
  rw [pay9_apply, pay8_apply]
  simp only [hw, hH]
  obtain ⟨c, hc, e⟩ := scale_real
  rw [e]
  by_cases h : r.val % 80 < 64
  · rw [if_neg (by omega)]
    simp only [if_pos h]
    unfold lin
    rw [← sum_scale _ c hc]
    refine Finset.sum_congr rfl fun k _ => ?_
    rw [mul_assoc, mul_comm (c : EReal), ← mul_assoc, mul_comm (W k r)]
  · simp only [if_neg h, zero_mul, Finset.sum_const_zero]
    by_cases h' : r.val % 80 - 64 < 3
    · rw [if_pos (by omega), if_pos h']
    · rw [if_neg (by omega), if_neg h']

/-- The same of the value block: the projection, then a one, then zeros. -/
theorem v_core (H : Fin 1024 → Fin 1024 → EReal) (W : Fin 1024 → Fin 640 → EReal)
    (x : Vec Ideal S1x1024x1024 .f32) (g : Vec Ideal S1x1x1024 .f32) (w : Vec Ideal S1x640x1024 .bf16)
    (hH : ∀ j, rmsRow (fun k => x (ix3 0 j k)) (fun k => g (ix3 0 0 k)) = H j)
    (hw : ∀ r k, w (ix3 0 r k) = if r.val % 80 < 64 then W k r else 0) (r : Fin 640) (j : Fin 1024) :
    k0_pay10 (F := Ideal) (k0_pay6 x g) k0_pay7 w (ix2 r j) =
      if r.val % 80 < 64 then lin (H j) W r else if r.val % 80 - 64 < 1 then 1 else 0 := by
  rw [pay10_apply]
  simp only [hw, hH]
  by_cases h : r.val % 80 < 64
  · rw [if_neg (by omega)]
    simp only [if_pos h]
    unfold lin
    exact Finset.sum_congr rfl fun k _ => mul_comm _ _
  · simp only [if_neg h, zero_mul, Finset.sum_const_zero]
    by_cases h' : r.val % 80 - 64 < 1
    · rw [if_pos (by omega), if_pos h']
    · rw [if_neg (by omega), if_neg h']

end Kernel

end Cert.Inproj
end
-- ==== Proof.InprojRef.lean ====
module

public import proofs.«01_k».proof.Proof.Gen.Kernel5Ideal.Skeleton
public import proofs.«01_k».proof.Proof.Gen.Reference5Ideal.Read
public import proofs.«01_k».proof.Proof.InprojRow
public import Idealize.ShloMosaic.Lib.Pointwise
public import Idealize.ShloMosaic.PureOps.Ideal.Laws
public import Idealize.ShloMosaic.Lib.Pipeline.ValueKit
public import Idealize.ShloMosaic.Lib.Claim
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem
open scoped BigOperators

namespace Cert.Inproj

open Cert.FfnRow Cert.MergeRow

section Host

open Cert.Reference5Ideal Cert.Reference5Ideal.Read

theorem v14_apply (x0 : Vec Ideal S2x16384x1024 .f32) (x1 : Vec Ideal S4x1024 .f32) (b : Fin 2) (s : Fin 16384) (j : Fin 1024) :
    val_main_v14 x0 x1 (ix3 b s j) = rmsRow (fun k => x0 (ix3 b s k)) (fun k => x1 (ix2 0 k)) j := by
  unfold val_main_v14 val_main_v13 val_main_v12 val_main_v11 val_main_v10 val_main_v9 val_main_v8 val_main_v7 val_main_v6 val_main_v5
    val_main_v4 val_main_v3 val_main_v2 val_main_v1 val_main_v0 val_main_cst val_main_cst_0 val_main_cst_1
  unfold rmsRow
  pointwise

/-- The projection's row. -/
abbrev pRow (x0 : Vec Ideal S2x16384x1024 .f32) (x1 : Vec Ideal S4x1024 .f32) (x2 : Vec Ideal S4x1024x7696 .f32) (b : Fin 2) (s : Fin 16384) :
    Fin 7696 → EReal :=
  lin (rmsRow (fun k => x0 (ix3 b s k)) (fun k => x1 (ix2 0 k))) (fun k f => x2 (ix3 0 k f))

theorem v17_apply (x0 : Vec Ideal S2x16384x1024 .f32) (x1 : Vec Ideal S4x1024 .f32) (x2 : Vec Ideal S4x1024x7696 .f32)
    (b : Fin 2) (s : Fin 16384) (j : Fin 7696) :
    val_main_v17 x0 x1 x2 (ix3 b s j) = pRow x0 x1 x2 b s j := by
  unfold val_main_v17 val_main_v16 val_main_v15 pRow lin
  pointwise [v14_apply]

theorem v35_apply (x0 : Vec Ideal S2x16384x1024 .f32) (x1 : Vec Ideal S4x1024 .f32) (x2 : Vec Ideal S4x1024x7696 .f32)
    (b : Fin 2) (s : Fin 16387) (j : Fin 1024) :
    val_main_v35 x0 x1 x2 (ix3 b s j) = if h : 3 ≤ s.val then pRow x0 x1 x2 b ⟨s.val - 3, by omega⟩ ⟨1544 + j.val, by omega⟩ else 0 := by
  unfold val_main_v35 val_main_v20 val_main_call0_v0 val_main_c
  pointwise [v17_apply]
  by_cases h : 3 ≤ s.val
  · rw [dif_pos h, dif_pos ⟨h, by omega⟩]
  · rw [dif_neg h, dif_neg (fun hh => h hh.1)]
    exact sitofp_zero

theorem v65_apply (x0 : Vec Ideal S2x16384x1024 .f32) (x1 : Vec Ideal S4x1024 .f32) (x2 : Vec Ideal S4x1024x7696 .f32) (x3 : Vec Ideal S4x4x1024 .f32)
    (b : Fin 2) (s : Fin 16384) (j : Fin 1024) :
    val_main_v65 x0 x1 x2 x3 (ix3 b s j) =
      conv4 (fun i => x3 (ix3 0 i j)) (fun s => pRow x0 x1 x2 b s ⟨1544 + j.val, by omega⟩) s *
        Ideal.logistic (conv4 (fun i => x3 (ix3 0 i j)) (fun s => pRow x0 x1 x2 b s ⟨1544 + j.val, by omega⟩) s) := by
  unfold val_main_v65 val_main_call1_v5 val_main_call1_v4 val_main_call1_cst_0 val_main_call1_v3 val_main_call1_v2 val_main_call1_cst val_main_call1_v1
    val_main_call1_v0
  have e : val_main_v64 x0 x1 x2 x3 (ix3 b s j) = conv4 (fun i => x3 (ix3 0 i j)) (fun s => pRow x0 x1 x2 b s ⟨1544 + j.val, by omega⟩) s := by
    unfold val_main_v64 val_main_v63 val_main_v62 val_main_v61 val_main_v60 val_main_v59 val_main_v58 val_main_v57 val_main_v56 val_main_v55 val_main_v54
      val_main_v53 val_main_v52 val_main_v51 val_main_v50 val_main_v49 val_main_v48 val_main_v47 val_main_v46 val_main_v45 val_main_v44 val_main_v43
      val_main_v42 val_main_cst_2 val_main_v41 val_main_v40 val_main_v39 val_main_v38 val_main_v37 val_main_v36 val_main_v34 val_main_v33
    pointwise [v35_apply]
    unfold conv4 before
    simp only [show (3 ≤ 1 + s.val) = (2 ≤ s.val) from propext (by omega), show (3 ≤ 2 + s.val) = (1 ≤ s.val) from propext (by omega),
      show 1 + s.val - 3 = s.val - 2 by omega, show 2 + s.val - 3 = s.val - 1 by omega]
  pointwise [e]
  rfl

theorem v76_apply (x0 : Vec Ideal S2x16384x1024 .f32) (x1 : Vec Ideal S4x1024 .f32) (x2 : Vec Ideal S4x1024x7696 .f32) (b : Fin 2) (s : Fin 16384) (h : Fin 8) (f : Fin 128) :
    val_main_v76 (F := Ideal) x0 x1 x2 (ix4 b s h f) =
      if hf : f.val < 64 then pRow x0 x1 x2 b s ⟨512 + (h.val * 64 + f.val), by omega⟩ else 0 := by
  unfold val_main_v76 val_main_v75 val_main_v31 val_main_v28 val_main_v18 val_main_cst_6
  pointwise [v17_apply]

theorem idx77 (b : Fin 2) (s : Fin 16384) (j : Fin 1024) :
    idx_main_v77 (ix3 b s j) = ix4 b s ⟨j.val / 128, by omega⟩ ⟨j.val % 128, by omega⟩ := by
  have hb := b.isLt
  have hs := s.isLt
  have hj := j.isLt
  funext a
  match a with
  | ⟨0, _⟩ => exact Fin.ext (show ((b.val * 16384 + s.val) * 1024 + j.val) / 16777216 = b.val by omega)
  | ⟨1, _⟩ => exact Fin.ext (show ((b.val * 16384 + s.val) * 1024 + j.val) / 1024 % 16384 = s.val by omega)
  | ⟨2, _⟩ => exact Fin.ext (show ((b.val * 16384 + s.val) * 1024 + j.val) / 128 % 8 = j.val / 128 by omega)
  | ⟨3, _⟩ => exact Fin.ext (show ((b.val * 16384 + s.val) * 1024 + j.val) % 128 = j.val % 128 by omega)

theorem v86_at (x0 : Vec Ideal S2x16384x1024 .f32) (x1 : Vec Ideal S4x1024 .f32) (x2 : Vec Ideal S4x1024x7696 .f32) (b : Fin 2) (s : Fin 16384) (j : Fin 1024) :
    val_main_v86 (F := Ideal) x0 x1 x2 (ix3 b s j) = val_main_v76 (F := Ideal) x0 x1 x2 (ix4 b s ⟨j.val / 128, by omega⟩ ⟨j.val % 128, by omega⟩) := by
  rw [val_main_v86_apply, val_main_v77_apply, idx77]
  rfl

theorem v86_apply (x0 : Vec Ideal S2x16384x1024 .f32) (x1 : Vec Ideal S4x1024 .f32) (x2 : Vec Ideal S4x1024x7696 .f32) (b : Fin 2) (s : Fin 16384) (j : Fin 1024) :
    val_main_v86 (F := Ideal) x0 x1 x2 (ix3 b s j) =
      if h : j.val % 128 < 64 then pRow x0 x1 x2 b s ⟨512 + (j.val / 128 * 64 + j.val % 128), by omega⟩ else 0 := by
  rw [v86_at, v76_apply]

theorem v72_apply (x0 : Vec Ideal S2x16384x1024 .f32) (x1 : Vec Ideal S4x1024 .f32) (x2 : Vec Ideal S4x1024x7696 .f32) (b : Fin 2) (s : Fin 16384) (h : Fin 8) (f : Fin 80) :
    val_main_v72 (F := Ideal) x0 x1 x2 (ix4 b s h f) =
      if hf : f.val < 64 then pRow x0 x1 x2 b s ⟨h.val * 64 + f.val, by omega⟩ * Ideal.ofBits FTy.f32 1043900987#32
      else if f.val - 64 < 3 then 1 else 0 := by
  unfold val_main_v72 val_main_v71 val_main_v70 val_main_v69 val_main_v68 val_main_v30 val_main_v27 val_main_v18
    val_main_cst_3 val_main_cst_4 val_main_cst_5
  pointwise [v17_apply]
  split
  · rfl
  · split <;> rfl

theorem idx73 (b : Fin 2) (hd : Fin 8) (s : Fin 32) (f : Fin 80) (q : Fin 512) :
    idx_main_v73 (idx_main_v74 (ix5 b hd s f q)) = ix4 b ⟨s.val * 512 + q.val, by omega⟩ hd f := by
  have hb := b.isLt
  have hh := hd.isLt
  have hs := s.isLt
  have hf := f.isLt
  have hq := q.isLt
  funext a
  match a with
  | ⟨0, _⟩ => exact Fin.ext (show ((((b.val * 32 + s.val) * 512 + q.val) * 8 + hd.val) * 80 + f.val) / 10485760 = b.val by omega)
  | ⟨1, _⟩ => exact Fin.ext (show ((((b.val * 32 + s.val) * 512 + q.val) * 8 + hd.val) * 80 + f.val) / 640 % 16384 = s.val * 512 + q.val by omega)
  | ⟨2, _⟩ => exact Fin.ext (show ((((b.val * 32 + s.val) * 512 + q.val) * 8 + hd.val) * 80 + f.val) / 80 % 8 = hd.val by omega)
  | ⟨3, _⟩ => exact Fin.ext (show ((((b.val * 32 + s.val) * 512 + q.val) * 8 + hd.val) * 80 + f.val) % 80 = f.val by omega)

theorem v85_at (x0 : Vec Ideal S2x16384x1024 .f32) (x1 : Vec Ideal S4x1024 .f32) (x2 : Vec Ideal S4x1024x7696 .f32) (b : Fin 2) (hd : Fin 8) (s : Fin 32) (f : Fin 80) (q : Fin 512) :
    val_main_v85 (F := Ideal) x0 x1 x2 (ix5 b hd s f q) = val_main_v72 (F := Ideal) x0 x1 x2 (ix4 b ⟨s.val * 512 + q.val, by omega⟩ hd f) := by
  rw [val_main_v85_apply, val_main_v74_apply, val_main_v73_apply, idx73]
  rfl

theorem v85_apply (x0 : Vec Ideal S2x16384x1024 .f32) (x1 : Vec Ideal S4x1024 .f32) (x2 : Vec Ideal S4x1024x7696 .f32) (b : Fin 2) (hd : Fin 8) (s : Fin 32) (f : Fin 80) (q : Fin 512) :
    val_main_v85 (F := Ideal) x0 x1 x2 (ix5 b hd s f q) =
      if hf : f.val < 64 then pRow x0 x1 x2 b ⟨s.val * 512 + q.val, by omega⟩ ⟨hd.val * 64 + f.val, by omega⟩ * Ideal.ofBits FTy.f32 1043900987#32
      else if f.val - 64 < 3 then 1 else 0 := by
  rw [v85_at, v72_apply]

theorem v80_apply (x0 : Vec Ideal S2x16384x1024 .f32) (x1 : Vec Ideal S4x1024 .f32) (x2 : Vec Ideal S4x1024x7696 .f32) (b : Fin 2) (s : Fin 16384) (h : Fin 8) (f : Fin 80) :
    val_main_v80 (F := Ideal) x0 x1 x2 (ix4 b s h f) =
      if hf : f.val < 64 then pRow x0 x1 x2 b s ⟨1024 + (h.val * 64 + f.val), by omega⟩
      else if f.val - 64 < 1 then 1 else 0 := by
  unfold val_main_v80 val_main_v79 val_main_v78 val_main_v32 val_main_v29 val_main_v18 val_main_cst_7 val_main_cst_8
  pointwise [v17_apply]
  split
  · rfl
  · split <;> rfl

theorem idx81 (b : Fin 2) (hd : Fin 8) (s : Fin 64) (f : Fin 80) (q : Fin 256) :
    idx_main_v81 (idx_main_v82 (ix5 b hd s f q)) = ix4 b ⟨s.val * 256 + q.val, by omega⟩ hd f := by
  have hb := b.isLt
  have hh := hd.isLt
  have hs := s.isLt
  have hf := f.isLt
  have hq := q.isLt
  funext a
  match a with
  | ⟨0, _⟩ => exact Fin.ext (show ((((b.val * 64 + s.val) * 256 + q.val) * 8 + hd.val) * 80 + f.val) / 10485760 = b.val by omega)
  | ⟨1, _⟩ => exact Fin.ext (show ((((b.val * 64 + s.val) * 256 + q.val) * 8 + hd.val) * 80 + f.val) / 640 % 16384 = s.val * 256 + q.val by omega)
  | ⟨2, _⟩ => exact Fin.ext (show ((((b.val * 64 + s.val) * 256 + q.val) * 8 + hd.val) * 80 + f.val) / 80 % 8 = hd.val by omega)
  | ⟨3, _⟩ => exact Fin.ext (show ((((b.val * 64 + s.val) * 256 + q.val) * 8 + hd.val) * 80 + f.val) % 80 = f.val by omega)

theorem v87_at (x0 : Vec Ideal S2x16384x1024 .f32) (x1 : Vec Ideal S4x1024 .f32) (x2 : Vec Ideal S4x1024x7696 .f32) (b : Fin 2) (hd : Fin 8) (s : Fin 64) (f : Fin 80) (q : Fin 256) :
    val_main_v87 (F := Ideal) x0 x1 x2 (ix5 b hd s f q) = val_main_v80 (F := Ideal) x0 x1 x2 (ix4 b ⟨s.val * 256 + q.val, by omega⟩ hd f) := by
  rw [val_main_v87_apply, val_main_v82_apply, val_main_v81_apply, idx81]
  rfl

theorem v87_apply (x0 : Vec Ideal S2x16384x1024 .f32) (x1 : Vec Ideal S4x1024 .f32) (x2 : Vec Ideal S4x1024x7696 .f32) (b : Fin 2) (hd : Fin 8) (s : Fin 64) (f : Fin 80) (q : Fin 256) :
    val_main_v87 (F := Ideal) x0 x1 x2 (ix5 b hd s f q) =
      if hf : f.val < 64 then pRow x0 x1 x2 b ⟨s.val * 256 + q.val, by omega⟩ ⟨1024 + (hd.val * 64 + f.val), by omega⟩
      else if f.val - 64 < 1 then 1 else 0 := by
  rw [v87_at, v80_apply]

theorem v84_apply (x0 : Vec Ideal S2x16384x1024 .f32) (x1 : Vec Ideal S4x1024 .f32) (x2 : Vec Ideal S4x1024x7696 .f32) (b : Fin 2) (s : Fin 16384) (j : Fin 128) :
    val_main_v84 (F := Ideal) x0 x1 x2 (ix3 b s j) =
      if h : j.val < 8 then pRow x0 x1 x2 b s ⟨1536 + j.val, by omega⟩
      else if h : j.val - 8 < 4 then pRow x0 x1 x2 b s ⟨3080 + (j.val - 8), by omega⟩
      else if h : j.val - 8 - 4 < 4 then pRow x0 x1 x2 b s ⟨3084 + (j.val - 8 - 4), by omega⟩ else 0 := by
  unfold val_main_v84 val_main_v83 val_main_v19 val_main_v22 val_main_v23 val_main_cst_9
  pointwise [v17_apply]

theorem v92_apply (x0 : Vec Ideal S2x16384x1024 .f32) (x1 : Vec Ideal S4x1024 .f32) (x2 : Vec Ideal S4x1024x7696 .f32) (b : Fin 2) (s : Fin 16384) (j : Fin 512) :
    val_main_v92 (F := Ideal) x0 x1 x2 (ix3 b s j) = pRow x0 x1 x2 b s ⟨2568 + j.val, by omega⟩ := by
  unfold val_main_v92 val_main_v21
  pointwise [v17_apply]

theorem v90_apply (x0 : Vec Ideal S2x16384x1024 .f32) (x1 : Vec Ideal S4x1024 .f32) (x2 : Vec Ideal S4x1024x7696 .f32) (x3 : Vec Ideal S4x4x1024 .f32)
    (b : Fin 2) (s : Fin 16384) (j : Fin 512) :
    val_main_v90 (F := Ideal) x0 x1 x2 x3 (ix3 b s j) = val_main_v65 (F := Ideal) x0 x1 x2 x3 (ix3 b s ⟨j.val, by omega⟩) * Ideal.ofBits FTy.f32 0x3DB504F3#32 := by
  unfold val_main_v90 val_main_v89 val_main_v88 val_main_v66 val_main_cst_10
  pointwise

theorem v91_apply (x0 : Vec Ideal S2x16384x1024 .f32) (x1 : Vec Ideal S4x1024 .f32) (x2 : Vec Ideal S4x1024x7696 .f32) (x3 : Vec Ideal S4x4x1024 .f32)
    (b : Fin 2) (s : Fin 16384) (j : Fin 512) :
    val_main_v91 (F := Ideal) x0 x1 x2 x3 (ix3 b s j) = val_main_v65 (F := Ideal) x0 x1 x2 x3 (ix3 b s ⟨512 + j.val, by omega⟩) := by
  unfold val_main_v91 val_main_v67
  pointwise

end Host
end Cert.Inproj
end
-- ==== Proof.Inproj.lean ====
module

public import proofs.«01_k».proof.Proof.Gen.Kernel5Ideal.Value
public import proofs.«01_k».proof.Proof.Gen.Reference5Ideal.Read
public import proofs.«01_k».proof.Proof.InprojRef
public import Idealize.ShloMosaic.Lib.Pointwise
public import Idealize.ShloMosaic.PureOps.Ideal.Laws
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open scoped BigOperators

namespace Cert.Inproj

open Cert.FfnRow Cert.MergeRow

section Value

open Cert.Kernel5Ideal Cert.Kernel5Ideal.Gen
open Idealize.ShloMosaic.Pipeline (Dat)

variable (m : (ℓ : Loc nD τ sig) → Buf (Elt Ideal) ℓ)

theorem idx : ∀ t : Fin cfg0.N, win0_0.index t = ![t.val / 16, t.val % 16, 0] ∧ win0_1.index t = ![t.val / 16, t.val % 16 * 128 - 1, 0] ∧
    win0_2.index t = ![0, 0, 0] ∧ win0_3.index t = ![0, 0, 0] ∧ win0_4.index t = ![0, 0, 0] ∧ win0_5.index t = ![0, 0, 0] ∧
    win0_6.index t = ![0, 0, 0] ∧ win0_7.index t = ![0, 0, 0] ∧ win0_8.index t = ![0, 0, 0] ∧ win0_9.index t = ![0, 0, 0] ∧
    win0_10.index t = ![t.val / 16, 0, t.val % 16, 0, 0] ∧ win0_11.index t = ![t.val / 16, t.val % 16, 0] ∧
    win0_12.index t = ![t.val / 16, 0, t.val % 16, 0, 0] ∧ win0_13.index t = ![t.val / 16, t.val % 16, 0] ∧
    win0_14.index t = ![t.val / 16, t.val % 16, 0] ∧ win0_15.index t = ![t.val / 16, t.val % 16, 0] ∧
    win0_16.index t = ![t.val / 16, t.val % 16, 0] ∧ (grid0.coords t 1).val = t.val % 16 :=
  (by decide +kernel : ∀ t : Fin grid0.N, _)

theorem rd0 (c : Dev nD) (t : Fin cfg0.N) (hN : t.val < 32) (r k : Fin 1024) :
    (iblk m c 0 t : Vec Ideal S1x1024x1024 .f32) (ix3 0 r k)
      = m ((c : Thread nD τ).loc main_arg0) (ix3 ⟨t.val / 16, by omega⟩ ⟨t.val % 16 * 1024 + r.val, by omega⟩ k) := by
  blk_simp [iblk]
  entry_read
  pointwise
  blk_ext [idx t]

theorem rd1 (c : Dev nD) (t : Fin cfg0.N) (hN : t.val < 32) (r : Fin 8) (k : Fin 1024) (h : 0 < t.val % 16) :
    (iblk m c 1 t : Vec Ideal S1x8x1024 .f32) (ix3 0 r k)
      = m ((c : Thread nD τ).loc main_arg0) (ix3 ⟨t.val / 16, by omega⟩ ⟨t.val % 16 * 1024 - 8 + r.val, by omega⟩ k) := by
  blk_simp [iblk]
  entry_read
  pointwise
  blk_ext [idx t]

/-- What the lines before the launch leave in the arrays the launch reads. -/
theorem e19 (c : Dev nD) (l : Fin 4) (k : Fin 1024) :
    (V m c main_v19 : Vec Ideal S4x1x1024 .f32) (ix3 l 0 k) = m ((c : Thread nD τ).loc main_arg1) (ix2 l k) := by
  simp only [V, List.flatten_cons, List.flatten_nil, List.cons_append, List.nil_append, List.append_nil, hostOps0, hostOps0_1, hostOps0_2,
    hostOps0_3, hostOps0_4, hostOps0_5, hostOps0_6]
  entry_read
  try simp -implicitDefEqProofs only [StableHlo.TRef.toBuf, StableHlo.TRef.ofBuf, cast_cast, cast_eq]
  pointwise

theorem e21 (c : Dev nD) (l : Fin 4) (r : Fin 640) (k : Fin 1024) :
    (V m c main_v21 : Vec Ideal S4x640x1024 .bf16) (ix3 l r k) = ((if h : r.val / 80 < 8 ∧ r.val % 80 < 64 then
      m ((c : Thread nD τ).loc main_arg2) (ix3 l k ⟨r.val / 80 * 64 + r.val % 80, by omega⟩) else (0 : EReal) : EReal) : EReal) * Ideal.ofBits FTy.f32 1043900987#32 := by
  simp only [V, List.flatten_cons, List.flatten_nil, List.cons_append, List.nil_append, List.append_nil, hostOps0, hostOps0_1, hostOps0_2,
    hostOps0_3, hostOps0_4, hostOps0_5, hostOps0_6]
  entry_read
  try simp -implicitDefEqProofs only [StableHlo.TRef.toBuf, StableHlo.TRef.ofBuf, cast_cast, cast_eq]
  pointwise
  refine congrArg (· * Ideal.ofBits FTy.f32 1043900987#32) ?_
  split
  · rfl
  · exact sitofp_zero

theorem e22 (c : Dev nD) (l : Fin 4) (k : Fin 1024) (r : Fin 1024) :
    (V m c main_v22 : Vec Ideal S4x1024x1024 .bf16) (ix3 l k r) = if h : r.val / 128 < 8 ∧ r.val % 128 < 64 then
      m ((c : Thread nD τ).loc main_arg2) (ix3 l k ⟨512 + (r.val / 128 * 64 + r.val % 128), by omega⟩) else (0 : EReal) := by
  simp only [V, List.flatten_cons, List.flatten_nil, List.cons_append, List.nil_append, List.append_nil, hostOps0, hostOps0_1, hostOps0_2,
    hostOps0_3, hostOps0_4, hostOps0_5, hostOps0_6]
  entry_read
  try simp -implicitDefEqProofs only [StableHlo.TRef.toBuf, StableHlo.TRef.ofBuf, cast_cast, cast_eq]
  pointwise
  split
  · rfl
  · exact sitofp_zero

theorem e24 (c : Dev nD) (l : Fin 4) (r : Fin 640) (k : Fin 1024) :
    (V m c main_v24 : Vec Ideal S4x640x1024 .bf16) (ix3 l r k) = if h : r.val / 80 < 8 ∧ r.val % 80 < 64 then
      m ((c : Thread nD τ).loc main_arg2) (ix3 l k ⟨1024 + (r.val / 80 * 64 + r.val % 80), by omega⟩) else (0 : EReal) := by
  simp only [V, List.flatten_cons, List.flatten_nil, List.cons_append, List.nil_append, List.append_nil, hostOps0, hostOps0_1, hostOps0_2,
    hostOps0_3, hostOps0_4, hostOps0_5, hostOps0_6]
  entry_read
  try simp -implicitDefEqProofs only [StableHlo.TRef.toBuf, StableHlo.TRef.ofBuf, cast_cast, cast_eq]
  pointwise
  split
  · rfl
  · exact sitofp_zero

theorem e25 (c : Dev nD) (l : Fin 4) (k : Fin 1024) (j : Fin 128) :
    (V m c main_v25 : Vec Ideal S4x1024x128 .bf16) (ix3 l k j) =
      if h : j.val < 8 then m ((c : Thread nD τ).loc main_arg2) (ix3 l k ⟨1536 + j.val, by omega⟩)
      else if h : j.val - 8 < 4 then m ((c : Thread nD τ).loc main_arg2) (ix3 l k ⟨3080 + (j.val - 8), by omega⟩)
      else if h : j.val - 8 - 4 < 4 then m ((c : Thread nD τ).loc main_arg2) (ix3 l k ⟨3084 + (j.val - 8 - 4), by omega⟩) else (0 : EReal) := by
  simp only [V, List.flatten_cons, List.flatten_nil, List.cons_append, List.nil_append, List.append_nil, hostOps0, hostOps0_1, hostOps0_2,
    hostOps0_3, hostOps0_4, hostOps0_5, hostOps0_6]
  after_reads_at
  after_reads_simp
  pointwise

theorem e27 (c : Dev nD) (l : Fin 4) (k : Fin 1024) (j : Fin 1024) :
    (V m c main_v27 : Vec Ideal S4x1024x1024 .bf16) (ix3 l k j) = m ((c : Thread nD τ).loc main_arg2) (ix3 l k ⟨1544 + j.val, by omega⟩) := by
  simp only [V, List.flatten_cons, List.flatten_nil, List.cons_append, List.nil_append, List.append_nil, hostOps0, hostOps0_1, hostOps0_2,
    hostOps0_3, hostOps0_4, hostOps0_5, hostOps0_6]
  entry_read
  try simp -implicitDefEqProofs only [StableHlo.TRef.toBuf, StableHlo.TRef.ofBuf, cast_cast, cast_eq]
  pointwise

theorem e29 (c : Dev nD) (l : Fin 4) (k : Fin 1024) (j : Fin 512) :
    (V m c main_v29 : Vec Ideal S4x1024x512 .bf16) (ix3 l k j) = m ((c : Thread nD τ).loc main_arg2) (ix3 l k ⟨2568 + j.val, by omega⟩) := by
  simp only [V, List.flatten_cons, List.flatten_nil, List.cons_append, List.nil_append, List.append_nil, hostOps0, hostOps0_1, hostOps0_2,
    hostOps0_3, hostOps0_4, hostOps0_5, hostOps0_6]
  entry_read
  try simp -implicitDefEqProofs only [StableHlo.TRef.toBuf, StableHlo.TRef.ofBuf, cast_cast, cast_eq]
  pointwise

theorem rd2 (c : Dev nD) (t : Fin cfg0.N) (k : Fin 1024) :
    (iblk m c 2 t : Vec Ideal S1x1x1024 .f32) (ix3 0 0 k) = m ((c : Thread nD τ).loc main_arg1) (ix2 0 k) := by
  refine Eq.trans ?_ (e19 m c 0 k)
  blk_simp [iblk]
  blk_ext [idx t]

theorem rd3 (c : Dev nD) (t : Fin cfg0.N) (r : Fin 640) (k : Fin 1024) :
    (iblk m c 3 t : Vec Ideal S1x640x1024 .bf16) (ix3 0 r k) = (V m c main_v21 : Vec Ideal S4x640x1024 .bf16) (ix3 0 r k) := by
  blk_simp [iblk]
  blk_ext [idx t]

theorem rd4 (c : Dev nD) (t : Fin cfg0.N) (k j : Fin 1024) :
    (iblk m c 4 t : Vec Ideal S1x1024x1024 .bf16) (ix3 0 k j) = (V m c main_v22 : Vec Ideal S4x1024x1024 .bf16) (ix3 0 k j) := by
  blk_simp [iblk]
  blk_ext [idx t]

theorem rd5 (c : Dev nD) (t : Fin cfg0.N) (r : Fin 640) (k : Fin 1024) :
    (iblk m c 5 t : Vec Ideal S1x640x1024 .bf16) (ix3 0 r k) = (V m c main_v24 : Vec Ideal S4x640x1024 .bf16) (ix3 0 r k) := by
  blk_simp [iblk]
  blk_ext [idx t]

theorem rd6 (c : Dev nD) (t : Fin cfg0.N) (k : Fin 1024) (j : Fin 128) :
    (iblk m c 6 t : Vec Ideal S1x1024x128 .bf16) (ix3 0 k j) = (V m c main_v25 : Vec Ideal S4x1024x128 .bf16) (ix3 0 k j) := by
  blk_simp [iblk]
  blk_ext [idx t]

theorem rd7 (c : Dev nD) (t : Fin cfg0.N) (k j : Fin 1024) :
    (iblk m c 7 t : Vec Ideal S1x1024x1024 .bf16) (ix3 0 k j) = m ((c : Thread nD τ).loc main_arg2) (ix3 0 k ⟨1544 + j.val, by omega⟩) := by
  refine Eq.trans ?_ (e27 m c 0 k j)
  blk_simp [iblk]
  blk_ext [idx t]

theorem rd8 (c : Dev nD) (t : Fin cfg0.N) (k : Fin 1024) (j : Fin 512) :
    (iblk m c 8 t : Vec Ideal S1x1024x512 .bf16) (ix3 0 k j) = m ((c : Thread nD τ).loc main_arg2) (ix3 0 k ⟨2568 + j.val, by omega⟩) := by
  refine Eq.trans ?_ (e29 m c 0 k j)
  blk_simp [iblk]
  blk_ext [idx t]

theorem rd9 (c : Dev nD) (t : Fin cfg0.N) (k : Fin 4) (j : Fin 1024) :
    (iblk m c 9 t : Vec Ideal S1x4x1024 .f32) (ix3 0 k j) = m ((c : Thread nD τ).loc main_arg3) (ix3 0 k j) := by
  blk_simp [iblk]
  entry_read
  pointwise
  blk_ext [idx t]

end Value
end Cert.Inproj
end
-- ==== Proof.InprojTiles.lean ====
module

public import proofs.«01_k».proof.Proof.Gen.Kernel5Ideal.Value
public import proofs.«01_k».proof.Proof.Gen.Reference5Ideal.Read
public import proofs.«01_k».proof.Proof.Inproj
public import Idealize.ShloMosaic.Lib.Pointwise
public import Idealize.ShloMosaic.PureOps.Ideal.Laws
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open scoped BigOperators

namespace Cert.Inproj

open Cert.FfnRow Cert.MergeRow

section Value

open Cert.Kernel5Ideal Cert.Kernel5Ideal.Gen
open Idealize.ShloMosaic.Pipeline (Dat)

variable (m : (ℓ : Loc nD τ sig) → Buf (Elt Ideal) ℓ)

section
def out10 (c : Dev nD) : Vec Ideal S2x8x32x80x512 .bf16 :=
  Cert.Reference5Ideal.Read.val_main_v85 (F := Ideal) (m ((c : Thread nD τ).loc main_arg0)) (m ((c : Thread nD τ).loc main_arg1))
    (m ((c : Thread nD τ).loc main_arg2))

def out11 (c : Dev nD) : Vec Ideal S2x16384x1024 .bf16 :=
  Cert.Reference5Ideal.Read.val_main_v86 (F := Ideal) (m ((c : Thread nD τ).loc main_arg0)) (m ((c : Thread nD τ).loc main_arg1))
    (m ((c : Thread nD τ).loc main_arg2))

def out12 (c : Dev nD) : Vec Ideal S2x8x64x80x256 .bf16 :=
  Cert.Reference5Ideal.Read.val_main_v87 (F := Ideal) (m ((c : Thread nD τ).loc main_arg0)) (m ((c : Thread nD τ).loc main_arg1))
    (m ((c : Thread nD τ).loc main_arg2))

def out13 (c : Dev nD) : Vec Ideal S2x16384x128 .f32 :=
  Cert.Reference5Ideal.Read.val_main_v84 (F := Ideal) (m ((c : Thread nD τ).loc main_arg0)) (m ((c : Thread nD τ).loc main_arg1))
    (m ((c : Thread nD τ).loc main_arg2))

def out14 (c : Dev nD) : Vec Ideal S2x16384x512 .bf16 :=
  Cert.Reference5Ideal.Read.val_main_v90 (F := Ideal) (m ((c : Thread nD τ).loc main_arg0)) (m ((c : Thread nD τ).loc main_arg1))
    (m ((c : Thread nD τ).loc main_arg2)) (m ((c : Thread nD τ).loc main_arg3))

def out15 (c : Dev nD) : Vec Ideal S2x16384x512 .bf16 :=
  Cert.Reference5Ideal.Read.val_main_v91 (F := Ideal) (m ((c : Thread nD τ).loc main_arg0)) (m ((c : Thread nD τ).loc main_arg1))
    (m ((c : Thread nD τ).loc main_arg2)) (m ((c : Thread nD τ).loc main_arg3))

def out16 (c : Dev nD) : Vec Ideal S2x16384x512 .bf16 :=
  Cert.Reference5Ideal.Read.val_main_v92 (F := Ideal) (m ((c : Thread nD τ).loc main_arg0)) (m ((c : Thread nD τ).loc main_arg1))
    (m ((c : Thread nD τ).loc main_arg2))

/-- The query projection's weights, by the block's feature row. -/
def wq (c : Dev nD) (k : Fin 1024) (r : Fin 640) : EReal :=
  m ((c : Thread nD τ).loc main_arg2) (ix3 0 k ⟨r.val / 80 * 64 + r.val % 80, by omega⟩)

/-- One entry of the block the launch stores, and the reference's entry it becomes. -/
theorem core10 (c : Dev nD) (t : Fin cfg0.N) (hN : t.val < 32) (y : S1x8x2x80x512.Idx) (i : S640x1024.Idx) (j : S2x8x32x80x512.Idx)
    (hi0 : (i 0).val = (y 1).val * 80 + (y 3).val) (hi1 : (i 1).val = (y 2).val * 512 + (y 4).val)
    (hj0 : (j 0).val = t.val / 16) (hj1 : (j 1).val = (y 1).val) (hj2 : (j 2).val = t.val % 16 * 2 + (y 2).val)
    (hj3 : (j 3).val = (y 3).val) (hj4 : (j 4).val = (y 4).val) :
    k0_pay9 (F := Ideal) k0_pay7 (k0_pay8 (F := Ideal) (iblk m c 0 t) (iblk m c 2 t) (iblk m c 3 t)) i = out10 m c j := by
  have ht : t.val / 16 < 2 := by omega
  have y3 : (y 3).val < 80 := (y 3).isLt
  have y4 : (y 4).val < 512 := (y 4).isLt
  obtain ⟨a, k, rfl⟩ : ∃ (a : Fin 640) (k : Fin 1024), i = ix2 a k := ⟨i 0, i 1, eq_ix2 i⟩
  obtain ⟨b, hd, s, f, q, rfl⟩ : ∃ (b : Fin 2) (hd : Fin 8) (s : Fin 32) (f : Fin 80) (q : Fin 512), j = ix5 b hd s f q :=
    ⟨j 0, j 1, j 2, j 3, j 4, eq_ix5 j⟩
  change a.val = _ at hi0
  change k.val = _ at hi1
  change b.val = _ at hj0
  change hd.val = _ at hj1
  change s.val = _ at hj2
  change f.val = _ at hj3
  change q.val = _ at hj4
  have hH : ∀ r : Fin 1024, rmsRow (fun k => (iblk m c 0 t : Vec Ideal S1x1024x1024 .f32) (ix3 0 r k)) (fun k => (iblk m c 2 t : Vec Ideal S1x1x1024 .f32) (ix3 0 0 k))
      = rmsRow (fun k => m ((c : Thread nD τ).loc main_arg0) (ix3 ⟨t.val / 16, by omega⟩ ⟨t.val % 16 * 1024 + r.val, by omega⟩ k))
          (fun k => m ((c : Thread nD τ).loc main_arg1) (ix2 0 k)) := fun r => by
    simp only [rd0 m c t hN, rd2]
  have hw : ∀ (r : Fin 640) (k : Fin 1024), (iblk m c 3 t : Vec Ideal S1x640x1024 .bf16) (ix3 0 r k) =
      (if r.val % 80 < 64 then wq m c k r else 0) * Ideal.ofBits FTy.f32 1043900987#32 := fun r k => by
    rw [rd3, e21]
    by_cases h : r.val % 80 < 64
    · rw [dif_pos ⟨by omega, h⟩, if_pos h]
      rfl
    · rw [dif_neg (fun hh => h hh.2), if_neg h]
  refine (q_core _ _ _ _ _ hH hw a k).trans ?_
  unfold out10
  rw [v85_apply]
  have ea : a.val % 80 = f.val := by omega
  have e0 : b = ⟨t.val / 16, ht⟩ := Fin.ext hj0
  have e1 : (⟨s.val * 512 + q.val, by omega⟩ : Fin 16384) = ⟨t.val % 16 * 1024 + k.val, by omega⟩ := Fin.ext (by dsimp only; omega)
  have e2 : (⟨hd.val * 64 + f.val, by omega⟩ : Fin 7696) = ⟨a.val / 80 * 64 + a.val % 80, by omega⟩ := Fin.ext (by dsimp only; omega)
  by_cases h : f.val < 64
  · rw [if_pos (by omega), dif_pos h, e1, e2]
    subst e0
    rfl
  · rw [if_neg (by omega), dif_neg h, ea]

theorem point10 (c : Dev nD) (t : Fin cfg0.N) (y : S1x8x2x80x512.Idx) :
    out0_10 (grid0.coords t) (iblk m c 0 t) (iblk m c 1 t) (iblk m c 2 t) (iblk m c 3 t) (iblk m c 4 t) (iblk m c 5 t) (iblk m c 6 t)
      (iblk m c 7 t) (iblk m c 8 t) (iblk m c 9 t) y = out10 m c (((cfg0.win 10).blk t).view.emb y) := by
  have hN : t.val < 32 := lt_of_lt_of_eq t.isLt N_0
  obtain_idx i : S640x1024 := [(y 1 : ℕ) * 80 + (y 3 : ℕ), (y 2 : ℕ) * 512 + (y 4 : ℕ)] with hi
  refine Eq.trans (b := k0_pay9 (F := Ideal) k0_pay7 (k0_pay8 (F := Ideal) (iblk m c 0 t) (iblk m c 2 t) (iblk m c 3 t)) i) ?_ (core10 m c t hN y i _ hi0 hi1 ?_ ?_ ?_ ?_ ?_)
  · unfold_out out0_10
    canon_tiles x h
    all_goals (open_payloads; pointwise; blk_ext)
  all_goals (blk_simp [idx t] <;> try omega)

theorem final10 (c : Dev nD) : (dats m 0 c).arrAt 10 (cfgs 0).N = out10 m c := by
  refine (dats m 0 c).arrAt_eq_of_covers 10 _ (by decide +kernel) fun t _ y => ?_
  blk_simp
  rw [after0_10]
  exact point10 m c t y

/-- One entry of the block the launch stores, and the reference's entry it becomes. -/
theorem core12 (c : Dev nD) (t : Fin cfg0.N) (hN : t.val < 32) (y : S1x8x4x80x256.Idx) (i : S640x1024.Idx) (j : S2x8x64x80x256.Idx)
    (hi0 : (i 0).val = (y 1).val * 80 + (y 3).val) (hi1 : (i 1).val = (y 2).val * 256 + (y 4).val)
    (hj0 : (j 0).val = t.val / 16) (hj1 : (j 1).val = (y 1).val) (hj2 : (j 2).val = t.val % 16 * 4 + (y 2).val)
    (hj3 : (j 3).val = (y 3).val) (hj4 : (j 4).val = (y 4).val) :
    k0_pay10 (F := Ideal) (k0_pay6 (F := Ideal) (iblk m c 0 t) (iblk m c 2 t)) k0_pay7 (iblk m c 5 t) i = out12 m c j := by
  have ht : t.val / 16 < 2 := by omega
  have y3 : (y 3).val < 80 := (y 3).isLt
  have y4 : (y 4).val < 256 := (y 4).isLt
  obtain ⟨a, k, rfl⟩ : ∃ (a : Fin 640) (k : Fin 1024), i = ix2 a k := ⟨i 0, i 1, eq_ix2 i⟩
  obtain ⟨b, hd, s, f, q, rfl⟩ : ∃ (b : Fin 2) (hd : Fin 8) (s : Fin 64) (f : Fin 80) (q : Fin 256), j = ix5 b hd s f q :=
    ⟨j 0, j 1, j 2, j 3, j 4, eq_ix5 j⟩
  change a.val = _ at hi0
  change k.val = _ at hi1
  change b.val = _ at hj0
  change hd.val = _ at hj1
  change s.val = _ at hj2
  change f.val = _ at hj3
  change q.val = _ at hj4
  have hH : ∀ r : Fin 1024, rmsRow (fun k => (iblk m c 0 t : Vec Ideal S1x1024x1024 .f32) (ix3 0 r k)) (fun k => (iblk m c 2 t : Vec Ideal S1x1x1024 .f32) (ix3 0 0 k))
      = rmsRow (fun k => m ((c : Thread nD τ).loc main_arg0) (ix3 ⟨t.val / 16, by omega⟩ ⟨t.val % 16 * 1024 + r.val, by omega⟩ k))
          (fun k => m ((c : Thread nD τ).loc main_arg1) (ix2 0 k)) := fun r => by
    simp only [rd0 m c t hN, rd2]
  have hw : ∀ (r : Fin 640) (k : Fin 1024), (iblk m c 5 t : Vec Ideal S1x640x1024 .bf16) (ix3 0 r k) =
      if r.val % 80 < 64 then (fun (k : Fin 1024) (r : Fin 640) => (m ((c : Thread nD τ).loc main_arg2) (ix3 0 k ⟨1024 + (r.val / 80 * 64 + r.val % 80), by omega⟩) : EReal)) k r
        else (0 : EReal) := fun r k => by
    rw [rd5, e24]
    by_cases h : r.val % 80 < 64
    · rw [dif_pos ⟨by omega, h⟩, if_pos h]
    · rw [dif_neg (fun hh => h hh.2), if_neg h]
  refine (v_core _ _ _ _ _ hH hw a k).trans ?_
  unfold out12
  rw [v87_apply]
  have ea : a.val % 80 = f.val := by omega
  have e0 : b = ⟨t.val / 16, ht⟩ := Fin.ext hj0
  have e1 : (⟨s.val * 256 + q.val, by omega⟩ : Fin 16384) = ⟨t.val % 16 * 1024 + k.val, by omega⟩ := Fin.ext (by dsimp only; omega)
  have e2 : (⟨1024 + (hd.val * 64 + f.val), by omega⟩ : Fin 7696) = ⟨1024 + (a.val / 80 * 64 + a.val % 80), by omega⟩ := Fin.ext (by dsimp only; omega)
  by_cases h : f.val < 64
  · rw [if_pos (by omega), dif_pos h, e1, e2]
    subst e0
    rfl
  · rw [if_neg (by omega), dif_neg h, ea]

theorem point12 (c : Dev nD) (t : Fin cfg0.N) (y : S1x8x4x80x256.Idx) :
    out0_12 (grid0.coords t) (iblk m c 0 t) (iblk m c 1 t) (iblk m c 2 t) (iblk m c 3 t) (iblk m c 4 t) (iblk m c 5 t) (iblk m c 6 t)
      (iblk m c 7 t) (iblk m c 8 t) (iblk m c 9 t) y = out12 m c (((cfg0.win 12).blk t).view.emb y) := by
  have hN : t.val < 32 := lt_of_lt_of_eq t.isLt N_0
  obtain_idx i : S640x1024 := [(y 1 : ℕ) * 80 + (y 3 : ℕ), (y 2 : ℕ) * 256 + (y 4 : ℕ)] with hi
  refine Eq.trans (b := k0_pay10 (F := Ideal) (k0_pay6 (F := Ideal) (iblk m c 0 t) (iblk m c 2 t)) k0_pay7 (iblk m c 5 t) i) ?_ (core12 m c t hN y i _ hi0 hi1 ?_ ?_ ?_ ?_ ?_)
  · unfold_out out0_12
    canon_tiles x h
    all_goals (open_payloads; pointwise; blk_ext)
  all_goals (blk_simp [idx t] <;> try omega)

theorem final12 (c : Dev nD) : (dats m 0 c).arrAt 12 (cfgs 0).N = out12 m c := by
  refine (dats m 0 c).arrAt_eq_of_covers 12 _ (by decide +kernel) fun t _ y => ?_
  blk_simp
  rw [after0_12]
  exact point12 m c t y

end
end Value
end Cert.Inproj
end
-- ==== Proof.InprojFin.lean ====
module

public import proofs.«01_k».proof.Proof.Gen.Kernel5Ideal.Value
public import proofs.«01_k».proof.Proof.Gen.Reference5Ideal.Read
public import proofs.«01_k».proof.Proof.InprojTiles
public import Idealize.ShloMosaic.Lib.Pointwise
public import Idealize.ShloMosaic.PureOps.Ideal.Laws
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open scoped BigOperators

namespace Cert.Inproj

open Cert.FfnRow Cert.MergeRow

section Value

open Cert.Kernel5Ideal Cert.Kernel5Ideal.Gen
open Idealize.ShloMosaic.Pipeline (Dat)

variable (m : (ℓ : Loc nD τ sig) → Buf (Elt Ideal) ℓ)

theorem lin_col {n o o' : Nat} {h h' : Fin n → EReal} {w : Fin n → Fin o → EReal} {w' : Fin n → Fin o' → EReal} {j : Fin o} {j' : Fin o'}
    (e : ∀ k, h k = h' k) (e' : ∀ k, w k j = w' k j') : lin h w j = lin h' w' j' := by
  unfold lin
  exact Finset.sum_congr rfl fun k _ => by rw [e, e']

theorem lin_zero {n o : Nat} (h : Fin n → EReal) {w : Fin n → Fin o → EReal} {j : Fin o} (e : ∀ k, w k j = 0) : lin h w j = 0 := by
  unfold lin
  exact Finset.sum_eq_zero fun k _ => by rw [e, mul_zero]

theorem hrow (c : Dev nD) (t : Fin cfg0.N) (hN : t.val < 32) (r k : Fin 1024) :
    rmsRow (fun k => (iblk m c 0 t : Vec Ideal S1x1024x1024 .f32) (ix3 0 r k)) (fun k => (iblk m c 2 t : Vec Ideal S1x1x1024 .f32) (ix3 0 0 k)) k
      = rmsRow (fun k => m ((c : Thread nD τ).loc main_arg0) (ix3 ⟨t.val / 16, by omega⟩ ⟨t.val % 16 * 1024 + r.val, by omega⟩ k))
          (fun k => m ((c : Thread nD τ).loc main_arg1) (ix2 0 k)) k := by
  simp only [rd0 m c t hN, rd2]

theorem final11 (c : Dev nD) : (dats m 0 c).arrAt 11 (cfgs 0).N = out11 m c := by
  refine (dats m 0 c).arrAt_eq_of_covers 11 _ (by decide +kernel) fun t _ y => ?_
  blk_simp
  rw [after0_11]
  unfold_out out0_11
  frame_out
  obtain ⟨z, r, j, rfl⟩ : ∃ (z : Fin 1) (r : Fin 1024) (j : Fin 1024), y = ix3 z r j := ⟨y 0, y 1, y 2, eq_ix3 y⟩
  obtain rfl : z = 0 := Subsingleton.elim _ _
  have hN : t.val < 32 := lt_of_lt_of_eq t.isLt N_0
  have hR : t.val % 16 * 1024 + r.val < 16384 := by omega
  have he : (((cfg0.win 11).blk t).view.emb (ix3 0 r j)) = (ix3 ⟨t.val / 16, by omega⟩ ⟨t.val % 16 * 1024 + r.val, hR⟩ j : S2x16384x1024.Idx) := by
    blk_ext [idx t]
  refine Eq.trans ?_ (congrArg (out11 m c) he).symm
  unfold out11
  rw [v86_apply]
  refine (pay18_apply (iblk m c 0 t) (iblk m c 2 t) (iblk m c 4 t) r j).trans ?_
  by_cases h : j.val % 128 < 64
  · rw [dif_pos h]
    exact lin_col (hrow m c t hN r) fun k => (rd4 m c t k j).trans ((e22 m c 0 k j).trans (dif_pos ⟨by omega, h⟩))
  · rw [dif_neg h]
    exact lin_zero _ fun k => (rd4 m c t k j).trans ((e22 m c 0 k j).trans (dif_neg fun hh => h hh.2))

theorem final13 (c : Dev nD) : (dats m 0 c).arrAt 13 (cfgs 0).N = out13 m c := by
  refine (dats m 0 c).arrAt_eq_of_covers 13 _ (by decide +kernel) fun t _ y => ?_
  blk_simp
  rw [after0_13]
  unfold_out out0_13
  frame_out
  obtain ⟨z, r, j, rfl⟩ : ∃ (z : Fin 1) (r : Fin 1024) (j : Fin 128), y = ix3 z r j := ⟨y 0, y 1, y 2, eq_ix3 y⟩
  obtain rfl : z = 0 := Subsingleton.elim _ _
  have hN : t.val < 32 := lt_of_lt_of_eq t.isLt N_0
  have hR : t.val % 16 * 1024 + r.val < 16384 := by omega
  have he : (((cfg0.win 13).blk t).view.emb (ix3 0 r j)) = (ix3 ⟨t.val / 16, by omega⟩ ⟨t.val % 16 * 1024 + r.val, hR⟩ j : S2x16384x128.Idx) := by
    blk_ext [idx t]
  refine Eq.trans ?_ (congrArg (out13 m c) he).symm
  unfold out13
  rw [v84_apply]
  refine (pay19_apply (iblk m c 0 t) (iblk m c 2 t) (iblk m c 6 t) r j).trans ?_
  by_cases h0 : j.val < 8
  · rw [dif_pos h0]
    exact lin_col (hrow m c t hN r) fun k => (rd6 m c t k j).trans ((e25 m c 0 k j).trans (dif_pos h0))
  rw [dif_neg h0]
  by_cases h1 : j.val - 8 < 4
  · rw [dif_pos h1]
    exact lin_col (hrow m c t hN r) fun k => (rd6 m c t k j).trans ((e25 m c 0 k j).trans ((dif_neg h0).trans (dif_pos h1)))
  rw [dif_neg h1]
  by_cases h2 : j.val - 8 - 4 < 4
  · rw [dif_pos h2]
    exact lin_col (hrow m c t hN r) fun k => (rd6 m c t k j).trans ((e25 m c 0 k j).trans ((dif_neg h0).trans ((dif_neg h1).trans (dif_pos h2))))
  rw [dif_neg h2]
  exact lin_zero _ fun k => (rd6 m c t k j).trans ((e25 m c 0 k j).trans ((dif_neg h0).trans ((dif_neg h1).trans (dif_neg h2))))

theorem final16 (c : Dev nD) : (dats m 0 c).arrAt 16 (cfgs 0).N = out16 m c := by
  refine (dats m 0 c).arrAt_eq_of_covers 16 _ (by decide +kernel) fun t _ y => ?_
  blk_simp
  rw [after0_16]
  unfold_out out0_16
  frame_out
  obtain ⟨z, r, j, rfl⟩ : ∃ (z : Fin 1) (r : Fin 1024) (j : Fin 512), y = ix3 z r j := ⟨y 0, y 1, y 2, eq_ix3 y⟩
  obtain rfl : z = 0 := Subsingleton.elim _ _
  have hN : t.val < 32 := lt_of_lt_of_eq t.isLt N_0
  have hR : t.val % 16 * 1024 + r.val < 16384 := by omega
  have he : (((cfg0.win 16).blk t).view.emb (ix3 0 r j)) = (ix3 ⟨t.val / 16, by omega⟩ ⟨t.val % 16 * 1024 + r.val, hR⟩ j : S2x16384x512.Idx) := by
    blk_ext [idx t]
  refine Eq.trans ?_ (congrArg (out16 m c) he).symm
  unfold out16
  rw [v92_apply]
  refine (pay20_apply (iblk m c 0 t) (iblk m c 2 t) (iblk m c 8 t) r j).trans ?_
  simp only [rd0 m c t hN, rd2, rd8]
  rfl

theorem final14 (c : Dev nD) : (dats m 0 c).arrAt 14 (cfgs 0).N = out14 m c := by
  refine (dats m 0 c).arrAt_eq_of_covers 14 _ (by decide +kernel) fun t _ y => ?_
  blk_simp
  rw [after0_14]
  unfold_out out0_14
  frame_out
  obtain ⟨z, r, j, rfl⟩ : ∃ (z : Fin 1) (r : Fin 1024) (j : Fin 512), y = ix3 z r j := ⟨y 0, y 1, y 2, eq_ix3 y⟩
  obtain rfl : z = 0 := Subsingleton.elim _ _
  have hN : t.val < 32 := lt_of_lt_of_eq t.isLt N_0
  have hR : t.val % 16 * 1024 + r.val < 16384 := by omega
  have he : (((cfg0.win 14).blk t).view.emb (ix3 0 r j)) = (ix3 ⟨t.val / 16, by omega⟩ ⟨t.val % 16 * 1024 + r.val, hR⟩ j : S2x16384x512.Idx) := by
    blk_ext [idx t]
  refine Eq.trans ?_ (congrArg (out14 m c) he).symm
  unfold out14
  rw [v90_apply, v65_apply]
  refine (pay2_apply _ _ _ r j).trans ?_
  have hc : (grid0.coords t 1).val = t.val % 16 := by have := idx t; tauto
  refine congrArg (· * _) ?_
  refine Eq.trans ?_ (act_core (fun s k => m ((c : Thread nD τ).loc main_arg0) (ix3 ⟨t.val / 16, by omega⟩ s k))
    (fun k => m ((c : Thread nD τ).loc main_arg1) (ix2 0 k)) (fun k j => m ((c : Thread nD τ).loc main_arg2) (ix3 0 k ⟨1544 + j.val, by omega⟩))
    (fun i j => m ((c : Thread nD τ).loc main_arg3) (ix3 0 i j)) ⟨t.val % 16, by omega⟩ (iblk m c 0 t) (iblk m c 1 t) (iblk m c 2 t) (iblk m c 7 t)
    (iblk m c 9 t) (fun r k => rd0 m c t hN r k) (fun r k h => rd1 m c t hN r k h) (fun k => rd2 m c t k) (fun k j => rd7 m c t k j)
    (fun i j => rd9 m c t i j) r ⟨j.val, by omega⟩)
  rw [hc]

theorem final15 (c : Dev nD) : (dats m 0 c).arrAt 15 (cfgs 0).N = out15 m c := by
  refine (dats m 0 c).arrAt_eq_of_covers 15 _ (by decide +kernel) fun t _ y => ?_
  blk_simp
  rw [after0_15]
  unfold_out out0_15
  frame_out
  obtain ⟨z, r, j, rfl⟩ : ∃ (z : Fin 1) (r : Fin 1024) (j : Fin 512), y = ix3 z r j := ⟨y 0, y 1, y 2, eq_ix3 y⟩
  obtain rfl : z = 0 := Subsingleton.elim _ _
  have hN : t.val < 32 := lt_of_lt_of_eq t.isLt N_0
  have hR : t.val % 16 * 1024 + r.val < 16384 := by omega
  have he : (((cfg0.win 15).blk t).view.emb (ix3 0 r j)) = (ix3 ⟨t.val / 16, by omega⟩ ⟨t.val % 16 * 1024 + r.val, hR⟩ j : S2x16384x512.Idx) := by
    blk_ext [idx t]
  refine Eq.trans ?_ (congrArg (out15 m c) he).symm
  unfold out15
  rw [v91_apply, v65_apply]
  refine (pay3_apply _ _ _ r j).trans ?_
  have hc : (grid0.coords t 1).val = t.val % 16 := by have := idx t; tauto
  refine Eq.trans ?_ (act_core (fun s k => m ((c : Thread nD τ).loc main_arg0) (ix3 ⟨t.val / 16, by omega⟩ s k))
    (fun k => m ((c : Thread nD τ).loc main_arg1) (ix2 0 k)) (fun k j => m ((c : Thread nD τ).loc main_arg2) (ix3 0 k ⟨1544 + j.val, by omega⟩))
    (fun i j => m ((c : Thread nD τ).loc main_arg3) (ix3 0 i j)) ⟨t.val % 16, by omega⟩ (iblk m c 0 t) (iblk m c 1 t) (iblk m c 2 t) (iblk m c 7 t)
    (iblk m c 9 t) (fun r k => rd0 m c t hN r k) (fun r k h => rd1 m c t hN r k h) (fun k => rd2 m c t k) (fun k j => rd7 m c t k j)
    (fun i j => rd9 m c t i j) r ⟨512 + j.val, by omega⟩)
  rw [hc]

end Value
end Cert.Inproj
end
-- ==== Proof.MlstmCell.lean ====
module

public import proofs.«01_k».proof.Proof.Gen.Kernel6Ideal.Skeleton
public import Idealize.ShloMosaic.Lib.Pointwise
public import Idealize.ShloMosaic.PureOps.Ideal.Laws
public import Idealize.ShloMosaic.Lib.Pipeline.ValueKit
public import Idealize.ShloMosaic.Lib.Claim
public import Idealize.ShloMosaic.Lib.WordCmp

@[expose] public section

set_option maxRecDepth 16384

noncomputable section

open Idealize.ShloMosaic Idealize.ShloMosaic.TcCoe Idealize.SL.Sem
open scoped BigOperators

namespace Cert.Mlstm

open Cert.Kernel6Ideal Cert.Kernel6Ideal.Gen

/-- A sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) :=
  (EReal.coe_strictMono.monotone.map_max).symm

/-! ## One chunk of one head, as the kernel computes it -/

section Ops

/-- The stabiliser of a row: the larger of the carried one and the chunk's own. -/
def mtC (m : FVec Ideal S1x128 .f32) (b cm : FVec Ideal S128x128 .f32) : FVec Ideal S128x128 .f32 :=
  maximumf (addf b (broadcastTo S128x128 m broadcasts_S1x128_S128x128)) (addf b cm)

/-- The weights inside the chunk. -/
def waC (m : FVec Ideal S1x128 .f32) (b cm : FVec Ideal S128x128 .f32) (row : Vec Ideal S1x1x128 .f32) : FVec Ideal S128x128 .f32 :=
  exp (subf (select k0_pay5 (addf b (broadcastTo S128x128 (shapeCast S1x128 row shapeCasts_S1x1x128_S1x128) broadcasts_S1x128_S128x128))
    (broadcast S128x128 (Named.named κ "mask" 0xF149F2CA#32))) (mtC m b cm))

/-- The weight of the carried state. -/
def wiC (m : FVec Ideal S1x128 .f32) (b cm : FVec Ideal S128x128 .f32) : FVec Ideal S128x128 .f32 :=
  exp (subf (addf b (broadcastTo S128x128 m broadcasts_S1x128_S128x128)) (mtC m b cm))

/-- The chunk's last row. -/
def blC (b : FVec Ideal S128x128 .f32) : FVec Ideal S1x128 .f32 := extractStridedSlice S1x128 ![127, 0] b slices_S128x128_o127_0_S1x128

/-- The stabiliser carried on. -/
def mnC (m : FVec Ideal S1x128 .f32) (b cm : FVec Ideal S128x128 .f32) : FVec Ideal S1x128 .f32 :=
  maximumf (addf (blC b) m) (addf (blC b) (blC cm))

/-- The state's decay over the chunk. -/
def dcC (m : FVec Ideal S1x128 .f32) (b cm : FVec Ideal S128x128 .f32) : FVec Ideal S1x128 .f32 :=
  exp (subf (addf (blC b) m) (mnC m b cm))

/-- The weights of the chunk's rows in the new state. -/
def wsC (m : FVec Ideal S1x128 .f32) (b g cm : FVec Ideal S128x128 .f32) : FVec Ideal S128x128 .f32 :=
  exp (subf (addf (broadcastTo S128x128 (blC b) broadcasts_S1x128_S128x128) g) (broadcastTo S128x128 (mnC m b cm) broadcasts_S1x128_S128x128))

/-- The weighted values, and beside them the weights. -/
def wvC (m : FVec Ideal S1x128 .f32) (b g cm : FVec Ideal S128x128 .f32) (v : Vec Ideal S1x128x128 .bf16) : FVec Ideal S128x256 .bf16 :=
  truncf .bf16 (concatenate S128x256 1 [⟨S128x128, mulf (wsC m b g cm) (extf .f32 (shapeCast S128x128 v shapeCasts_S1x128x128_S128x128) bitsLt_bf16_f32)⟩,
    ⟨S128x128, wsC m b g cm⟩] concatenates_S128x128_S128x128_S128x256_d1) bitsLt_bf16_f32

/-- Numerator and denominator before the division. -/
def boC (q k v : Vec Ideal S1x128x128 .bf16) (row : Vec Ideal S1x1x128 .f32) (m : FVec Ideal S1x128 .f32) (st : FVec Ideal S128x256 .f32)
    (b cm : FVec Ideal S128x128 .f32) : FVec Ideal S128x256 .f32 :=
  k0_pay110 k0_pay6 (k0_pay59 st q) (wiC m b cm) (k0_pay107 (k0_pay18 q k) (waC m b cm row)) v

/-- The state carried on. -/
def stC (k v : Vec Ideal S1x128x128 .bf16) (m : FVec Ideal S1x128 .f32) (st : FVec Ideal S128x256 .f32)
    (b g cm : FVec Ideal S128x128 .f32) : FVec Ideal S128x256 .f32 :=
  k0_pay114 st (k0_pay55 k) (dcC m b cm) (wvC m b g cm v)

/-- What the chunk writes. -/
def ouC (q k v : Vec Ideal S1x128x128 .bf16) (row : Vec Ideal S1x1x128 .f32) (m : FVec Ideal S1x128 .f32) (st : FVec Ideal S128x256 .f32)
    (b cm : FVec Ideal S128x128 .f32) (w : Vec Ideal S1x1x128 .f32) : FVec Ideal S1x128x128 .f32 :=
  k0_pay129 (k0_pay119 (mtC m b cm) (boC q k v row m st b cm)) (k0_pay123 k0_pay7 (mtC m b cm) (boC q k v row m st b cm)) w

end Ops

/-! ## The same over the reals -/

theorem mask_eq : (Named.named κ "mask" 0xF149F2CA#32 : Ideal .f32) = (⊥ : EReal) :=
  IdealRules.named_const.ideal_named_scalar _ _ _ _ rfl

theorem causal_eq (r s : Fin 128) : k0_pay5 (ix2 r s) = BitVec.ofBool (decide (s.val ≤ r.val)) := by
  unfold k0_pay5
  pointwise
  word_cmp

section Reals

variable (B G C : Fin 128 → ℝ) (Q K V : Fin 128 → Fin 128 → ℝ) (μ : ℝ) (T : Fin 128 → Fin 256 → ℝ)

/-- A row's stabiliser. -/
def M (r : Fin 128) : ℝ := max (B r + μ) (B r + C r)

/-- The values, and beside them ones. -/
def VV (s : Fin 128) (j : Fin 256) : ℝ := if h : j.val < 128 then V s ⟨j.val, h⟩ else 1

/-- Numerator and denominator without the stabiliser. -/
def N (r : Fin 128) (j : Fin 256) : ℝ :=
  (∑ s : Fin 128, (if s.val ≤ r.val then Real.exp (B r + G s) else 0) * (∑ d, Q r d * K s d) * VV V s j) + Real.exp (B r) * ∑ d, Q r d * T d j

/-- The next state without the stabiliser. -/
def T' (d : Fin 128) (j : Fin 256) : ℝ :=
  Real.exp (B 127) * T d j + ∑ s : Fin 128, Real.exp (B 127 + G s) * K s d * VV V s j

/-- A row of the head's result. -/
def hR (r j : Fin 128) : ℝ :=
  N B G Q K V T r ⟨j.val, by omega⟩ / max |N B G Q K V T r ⟨128 + j.val, by omega⟩| 1

variable {B G C Q K V μ T}
variable {b g cm : FVec Ideal S128x128 .f32} {m : FVec Ideal S1x128 .f32} {st : FVec Ideal S128x256 .f32} {row : Vec Ideal S1x1x128 .f32}
  {q k v : Vec Ideal S1x128x128 .bf16}
variable (hb : ∀ r j, b (ix2 r j) = ((B r : ℝ) : EReal)) (hg : ∀ r j, g (ix2 r j) = ((G r : ℝ) : EReal)) (hc : ∀ r j, cm (ix2 r j) = ((C r : ℝ) : EReal))
  (hm : ∀ j, m (ix2 0 j) = ((μ : ℝ) : EReal)) (hr : ∀ s, row (ix3 0 0 s) = ((G s : ℝ) : EReal))
  (hst : ∀ d j, st (ix2 d j) = ((Real.exp (-μ) * T d j : ℝ) : EReal))
  (hq : ∀ r d, q (ix3 0 r d) = ((Q r d : ℝ) : EReal)) (hk : ∀ r d, k (ix3 0 r d) = ((K r d : ℝ) : EReal)) (hv : ∀ r d, v (ix3 0 r d) = ((V r d : ℝ) : EReal))

include hb hc hm in
theorem mt_val (r j : Fin 128) : mtC m b cm (ix2 r j) = ((M B C μ r : ℝ) : EReal) := by
  unfold mtC M
  pointwise [hb, hc, hm]
  rw [← EReal.coe_add, ← EReal.coe_add, coe_max]

include hb hc hm hr in
theorem wa_val (r s : Fin 128) : waC m b cm row (ix2 r s) = ((if s.val ≤ r.val then Real.exp (B r + G s - M B C μ r) else 0 : ℝ) : EReal) := by
  unfold waC
  pointwise [hb, hr, mt_val hb hc hm, causal_eq, mask_eq]
  by_cases h : s.val ≤ r.val
  · simp only [h, if_true, decide_true]
    rw [← EReal.coe_add, ← EReal.coe_sub, Ideal.exp_coe]
  · simp only [h, if_false, decide_false]
    rw [EReal.bot_sub, Ideal.exp_bot, EReal.coe_zero]

include hb hc hm in
theorem wi_val (r j : Fin 128) : wiC m b cm (ix2 r j) = ((Real.exp (B r + μ - M B C μ r) : ℝ) : EReal) := by
  unfold wiC
  pointwise [hb, hm, mt_val hb hc hm]
  rw [← EReal.coe_add, ← EReal.coe_sub, Ideal.exp_coe]

theorem bl_val (x : FVec Ideal S128x128 .f32) (j : Fin 128) : blC x (ix2 0 j) = x (ix2 127 j) := by
  unfold blC
  pointwise

include hb hc hm in
theorem mn_val (j : Fin 128) : mnC m b cm (ix2 0 j) = ((M B C μ 127 : ℝ) : EReal) := by
  unfold mnC M
  pointwise [bl_val, hb, hc, hm]
  rw [← EReal.coe_add, ← EReal.coe_add, coe_max]

include hb hc hm in
theorem dc_val (j : Fin 128) : dcC m b cm (ix2 0 j) = ((Real.exp (B 127 + μ - M B C μ 127) : ℝ) : EReal) := by
  unfold dcC
  pointwise [bl_val, hb, hm, mn_val hb hc hm]
  rw [← EReal.coe_add, ← EReal.coe_sub, Ideal.exp_coe]

include hb hg hc hm in
theorem ws_val (s j : Fin 128) : wsC m b g cm (ix2 s j) = ((Real.exp (B 127 + G s - M B C μ 127) : ℝ) : EReal) := by
  unfold wsC
  pointwise [bl_val, hb, hg, mn_val hb hc hm]
  rw [← EReal.coe_add, ← EReal.coe_sub, Ideal.exp_coe]

include hb hg hc hm hv in
theorem wv_val (s : Fin 128) (j : Fin 256) : wvC m b g cm v (ix2 s j) = ((Real.exp (B 127 + G s - M B C μ 127) * VV V s j : ℝ) : EReal) := by
  unfold wvC VV
  pointwise [ws_val hb hg hc hm, hv]
  by_cases h : j.val < 128
  · rw [dif_pos h, dif_pos h, EReal.coe_mul]
  · rw [dif_neg h, dif_neg h, mul_one]

include hb hc hm hr hq hk hv hst in
theorem bo_val (r : Fin 128) (j : Fin 256) :
    boC q k v row m st b cm (ix2 r j) = ((Real.exp (-M B C μ r) * N B G Q K V T r j : ℝ) : EReal) := by
  have e1 : ∀ x : Fin 128, (∑ d, q (ix3 0 r d) * k (ix3 0 x d)) = ((∑ d, Q r d * K x d : ℝ) : EReal) := fun x => by
    rw [coe_sum]
    exact Finset.sum_congr rfl fun d _ => by rw [hq, hk, EReal.coe_mul]
  have e2 : (∑ x, q (ix3 0 r x) * st (ix2 x j)) = ((∑ d, Q r d * (Real.exp (-μ) * T d j) : ℝ) : EReal) := by
    rw [coe_sum]
    exact Finset.sum_congr rfl fun d _ => by rw [hq, hst, ← EReal.coe_mul]
  unfold boC k0_pay110 k0_pay6 k0_pay59 k0_pay107 k0_pay18
  pointwise [wi_val hb hc hm, wa_val hb hc hm hr, hv]
  simp only [dite_eq_ite, ite_self, e1, e2]
  have e3 : ∀ x : Fin 128, (if h : j.val < 128 then ((V x ⟨j.val, h⟩ : ℝ) : EReal) else 1) = ((VV V x j : ℝ) : EReal) := fun x => by
    unfold VV
    by_cases h : j.val < 128
    · rw [dif_pos h, dif_pos h]
    · rw [dif_neg h, dif_neg h, EReal.coe_one]
  simp only [e3, ← EReal.coe_mul, ← coe_sum, ← EReal.coe_add]
  refine congrArg _ ?_
  unfold N
  rw [mul_add, Finset.mul_sum _ _ (Real.exp (-M B C μ r)), ← mul_assoc (Real.exp (-M B C μ r)) (Real.exp (B r)), ← Real.exp_add]
  refine congrArg₂ (fun a b : ℝ => a + b) (Finset.sum_congr rfl fun s _ => ?_) ?_
  · by_cases h : s.val ≤ r.val
    · rw [if_pos h, if_pos h, show B r + G s - M B C μ r = -M B C μ r + (B r + G s) by ring, Real.exp_add]
      ring
    · rw [if_neg h, if_neg h]
      ring
  · have e4 : (∑ d, Q r d * (Real.exp (-μ) * T d j)) = Real.exp (-μ) * ∑ d, Q r d * T d j := by
      rw [Finset.mul_sum]
      exact Finset.sum_congr rfl fun d _ => by ring
    rw [e4, ← mul_assoc, ← Real.exp_add]
    refine congrArg (· * _) (congrArg _ ?_)
    ring

include hb hg hc hm hk hv hst in
theorem st_val (d : Fin 128) (j : Fin 256) :
    stC k v m st b g cm (ix2 d j) = ((Real.exp (-M B C μ 127) * T' B G K V T d j : ℝ) : EReal) := by
  unfold stC k0_pay114 k0_pay55
  pointwise [dc_val hb hc hm, wv_val hb hg hc hm hv, hk, hst]
  simp only [dite_eq_ite, ite_self, ← EReal.coe_mul, ← coe_sum, ← EReal.coe_add]
  refine congrArg _ ?_
  unfold T'
  rw [mul_add, Finset.mul_sum, ← mul_assoc, ← mul_assoc, ← Real.exp_add, ← Real.exp_add]
  refine congrArg₂ (· + ·) (congrArg (· * _) (congrArg _ (by ring))) (Finset.sum_congr rfl fun s _ => ?_)
  rw [show B 127 + G s - M B C μ 127 = -M B C μ 127 + (B 127 + G s) by ring, Real.exp_add]
  ring

theorem div_real (x y : ℝ) (h : y ≠ 0) : Ideal.div (x : EReal) (y : EReal) = ((x / y : ℝ) : EReal) := by
  rw [Ideal.div_coe h, ← EReal.coe_mul, mul_one_div]

theorem abs_real (x : ℝ) : (FloatOps.absf (F := Ideal) (φ := .f32) (x : EReal) : EReal) = ((|x| : ℝ) : EReal) := by
  rw [Ideal.absf_def, ← EReal.coe_neg, coe_max, abs]

include hb hc hm hr hq hk hv hst in
theorem hh_val (r j : Fin 128) :
    k0_pay119 (F := Ideal) (mtC m b cm) (boC q k v row m st b cm) (ix2 r j) = ((hR B G Q K V T r j : ℝ) : EReal) := by
  unfold k0_pay119
  pointwise [mt_val hb hc hm, bo_val hb hc hm hr hst hq hk hv]
  have e : ((0 : EReal) - ((M B C μ r : ℝ) : EReal)) = ((-M B C μ r : ℝ) : EReal) := by
    rw [← EReal.coe_zero, ← EReal.coe_sub, zero_sub]
  have hp : 0 < Real.exp (-M B C μ r) := Real.exp_pos _
  have hx : max |Real.exp (-M B C μ r) * N B G Q K V T r ⟨128 + j.val, by omega⟩| (Real.exp (-M B C μ r))
      = Real.exp (-M B C μ r) * max |N B G Q K V T r ⟨128 + j.val, by omega⟩| 1 := by
    rw [abs_mul, abs_of_pos hp, mul_max_of_nonneg _ _ hp.le, mul_one]
  have h1 : (0 : ℝ) < max |N B G Q K V T r ⟨128 + j.val, by omega⟩| 1 := lt_of_lt_of_le one_pos (le_max_right _ _)
  rw [abs_real, e, Ideal.exp_coe, coe_max, hx, div_real _ _ (mul_pos hp h1).ne', hR, mul_div_mul_left _ _ hp.ne']

theorem bf16_128 : Ideal.ofBits FTy.bf16 15360#16 = ((1 / 128 : ℝ) : EReal) := by
  simp [Ideal.ofBits, Ideal.ieee]
  rw [← EReal.coe_mul]
  norm_num

include hb hc hm hr hq hk hv hst in
/-- What the chunk writes, over the reals but for the norm's weight. -/
theorem ou_val (w : Vec Ideal S1x1x128 .f32) (r j : Fin 128) :
    ouC q k v row m st b cm w (ix3 0 r j) = ((hR B G Q K V T r j : ℝ) : EReal)
      * Ideal.rsqrt ((((∑ d, hR B G Q K V T r d * hR B G Q K V T r d) / 128 : ℝ) : EReal) + Ideal.ofBits FTy.f32 897988541#32) * w (ix3 0 0 j) := by
  have e : k0_pay123 (F := Ideal) k0_pay7 (mtC m b cm) (boC q k v row m st b cm) (ix2 r j)
      = (((∑ d, hR B G Q K V T r d * hR B G Q K V T r d) / 128 : ℝ) : EReal) := by
    unfold k0_pay123 k0_pay7
    pointwise [hh_val hb hc hm hr hst hq hk hv, bf16_128]
    simp only [← EReal.coe_mul, ← EReal.coe_sub, ← coe_sum, ← EReal.coe_add, sub_self, zero_mul, Finset.sum_const_zero, add_zero]
    refine congrArg _ ?_
    rw [Finset.sum_div]
    exact Finset.sum_congr rfl fun d _ => by ring
  unfold ouC k0_pay129
  pointwise [hh_val hb hc hm hr hst hq hk hv, e]

/-- Each column of the gates, spread over 128 lanes. -/
theorem rep_val (x : Vec Ideal S1x128x128 .f32) (X : Fin 128 → Fin 128 → ℝ) (hx : ∀ (r k : Fin 128), k.val < 12 → x (ix3 0 r k) = ((X r k : ℝ) : EReal))
    (sp : Vec Ideal S384x1536 .bf16) (hsp : ∀ (a : Fin 384) (j : Fin 1536), sp (ix2 a j) = if a.val % 128 = j.val / 128 then 1 else 0)
    (r : Fin 128) (j : Fin 1536) :
    k0_pay28 (F := Ideal) x sp (ix2 r j) = ((X r ⟨j.val / 128, by omega⟩ : ℝ) : EReal) := by
  unfold k0_pay28
  pointwise [hsp]
  have hj := j.isLt
  have h3 : j.val / 128 < 12 := by omega
  rw [Finset.sum_eq_single (⟨j.val / 128, by omega⟩ : Fin 384)]
  · have h2 : j.val / 128 < 128 := by omega
    rw [dif_pos h2, if_pos (Nat.mod_eq_of_lt h2), mul_one, hx _ _ h3]
  · intro a _ ha
    by_cases h : a.val % 128 = j.val / 128
    · have h1 : ¬a.val < 128 := fun h1 => ha (Fin.ext (by show a.val = j.val / 128; rw [← h, Nat.mod_eq_of_lt h1]))
      rw [dif_neg h1]
      have ha' := a.isLt
      by_cases h4 : a.val - 128 < 128
      · rw [dif_pos h4, hx _ _ (show a.val - 128 < 12 by omega), ← EReal.coe_sub, sub_self, EReal.coe_zero, zero_mul]
      · rw [dif_neg h4, hx _ _ (show a.val - 128 - 128 < 12 by omega), ← EReal.coe_sub, sub_self, EReal.coe_zero, sub_zero, zero_mul]
    · rw [if_neg h, mul_zero]
  · intro h
    exact absurd (Finset.mem_univ _) h

end Reals

end Cert.Mlstm
end
-- ==== Proof.MlstmPoint.lean ====
module

public import proofs.«01_k».proof.Proof.Gen.Kernel6Ideal.Value
public import proofs.«01_k».proof.Proof.MlstmCell
public import Idealize.ShloMosaic.Lib.Pointwise
public import Idealize.ShloMosaic.PureOps.Ideal.Laws
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open scoped BigOperators

namespace Cert.Mlstm

open Cert.Kernel6Ideal Cert.Kernel6Ideal.Gen

/-! ## The four chunks of a point, head by head -/

section Point

/-- Chunk `s` of head `h` in a block of queries, keys or values. -/
def tile (X : Vec Ideal S1x512x512 .bf16) (h s : Fin 4) : Vec Ideal S1x128x128 .bf16 :=
  View.ld X (Rect.unit (s := S1x512x512) ![0, 128 * s.val, 128 * h.val] S1x128x128.size (by intro a; match a with | ⟨0, _⟩ => simp | ⟨1, _⟩ => (show 128 * s.val + 128 ≤ 512; omega) | ⟨2, _⟩ => (show 128 * h.val + 128 ≤ 512; omega)))

/-- The gates of chunk `s`. -/
def gateTile (X : Vec Ideal S1x512x128 .f32) (s : Fin 4) : Vec Ideal S1x128x128 .f32 :=
  View.ld X (Rect.unit (s := S1x512x128) ![0, 128 * s.val, 0] S1x128x128.size (by intro a; match a with | ⟨0, _⟩ => simp | ⟨1, _⟩ => (show 128 * s.val + 128 ≤ 512; omega) | ⟨2, _⟩ => simp))

/-- The input gate of head `h` in chunk `s`, along the lanes. -/
def rowTile (X : Vec Ideal S1x16x512 .f32) (h s : Fin 4) : Vec Ideal S1x1x128 .f32 :=
  View.ld X (Rect.unit (s := S1x16x512) ![0, 4 + h.val, 128 * s.val] S1x1x128.size (by intro a; match a with | ⟨0, _⟩ => simp | ⟨1, _⟩ => (show 4 + h.val + 1 ≤ 16; omega) | ⟨2, _⟩ => (show 128 * s.val + 128 ≤ 512; omega)))

/-- The norm's weight of head `h`. -/
def normTile (X : Vec Ideal S1x1x512 .f32) (h : Fin 4) : Vec Ideal S1x1x128 .f32 :=
  View.ld X (Rect.unit (s := S1x1x512) ![0, 0, 128 * h.val] S1x1x128.size (by intro a; match a with | ⟨0, _⟩ => simp | ⟨1, _⟩ => simp | ⟨2, _⟩ => (show 128 * h.val + 128 ≤ 512; omega)))

/-- The carried stabiliser of head `h`. -/
def mHead (X : Vec Ideal S4x1x128 .f32) (h : Fin 4) : FVec Ideal S1x128 .f32 :=
  shapeCast S1x128 (View.ld X (Rect.unit (s := S4x1x128) ![h.val, 0, 0] S1x1x128.size (by intro a; match a with | ⟨0, _⟩ => (show h.val + 1 ≤ 4; omega) | ⟨1, _⟩ => simp | ⟨2, _⟩ => simp)) : Vec Ideal S1x1x128 .f32) shapeCasts_S1x1x128_S1x128

/-- The carried state of head `h`. -/
def sHead (X : Vec Ideal S4x128x256 .f32) (h : Fin 4) : FVec Ideal S128x256 .f32 :=
  shapeCast S128x256 (View.ld X (Rect.unit (s := S4x128x256) ![h.val, 0, 0] S1x128x256.size (by intro a; match a with | ⟨0, _⟩ => (show h.val + 1 ≤ 4; omega) | ⟨1, _⟩ => simp | ⟨2, _⟩ => simp)) : Vec Ideal S1x128x256 .f32) shapeCasts_S1x128x256_S128x256

/-- Column `n` of the gates, spread over 128 lanes. -/
def col (x : FVec Ideal S128x1536 .f32) (n : Nat) (hn : n < 12) : FVec Ideal S128x128 .f32 :=
  extractStridedSlice S128x128 ![0, 128 * n] x (by
    refine ⟨rfl, fun a => ?_⟩
    match a with | ⟨0, _⟩ => simp | ⟨1, _⟩ => (show 128 * n + 128 ≤ 1536; omega))

variable (Q K Vv : Vec Ideal S1x512x512 .bf16) (Gc : Vec Ideal S1x512x128 .f32) (Gr : Vec Ideal S1x16x512 .f32) (Sp : Vec Ideal S384x1536 .bf16)
  (W : Vec Ideal S1x1x512 .f32) (Mc : Vec Ideal S4x1x128 .f32) (Sc : Vec Ideal S4x128x256 .f32)

def rep (s : Fin 4) : FVec Ideal S128x1536 .f32 := k0_pay28 (gateTile Gc s) Sp

def bCol (h s : Fin 4) : FVec Ideal S128x128 .f32 := col (rep Gc Sp s) h.val (by omega)
def gCol (h s : Fin 4) : FVec Ideal S128x128 .f32 := col (rep Gc Sp s) (4 + h.val) (by omega)
def cCol (h s : Fin 4) : FVec Ideal S128x128 .f32 := col (rep Gc Sp s) (8 + h.val) (by omega)

/-- The stabiliser before chunk `n` of the point. -/
def mAt (h : Fin 4) : (n : Nat) → n ≤ 4 → FVec Ideal S1x128 .f32
  | 0, _ => mHead Mc h
  | n + 1, hn => mnC (mAt h n (by omega)) (bCol Gc Sp h ⟨n, hn⟩) (cCol Gc Sp h ⟨n, hn⟩)

/-- The state before chunk `n` of the point. -/
def sAt (h : Fin 4) : (n : Nat) → n ≤ 4 → FVec Ideal S128x256 .f32
  | 0, _ => sHead Sc h
  | n + 1, hn => stC (tile K h ⟨n, hn⟩) (tile Vv h ⟨n, hn⟩) (mAt Gc Sp Mc h n (by omega)) (sAt h n (by omega))
      (bCol Gc Sp h ⟨n, hn⟩) (gCol Gc Sp h ⟨n, hn⟩) (cCol Gc Sp h ⟨n, hn⟩)

/-- What the point writes for chunk `s` of head `h`. -/
def oAt (h s : Fin 4) : FVec Ideal S1x128x128 .f32 :=
  ouC (tile Q h s) (tile K h s) (tile Vv h s) (rowTile Gr h s) (mAt Gc Sp Mc h s.val (by omega)) (sAt K Vv Gc Sp Mc Sc h s.val (by omega))
    (bCol Gc Sp h s) (cCol Gc Sp h s) (normTile W h)

end Point

variable (m : (ℓ : Loc nD τ sig) → Buf (Elt Ideal) ℓ)

theorem m_cast (y : FVec Ideal S1x128 .f32) (j : Fin 128) : shapeCast S1x1x128 y shapeCasts_S1x128_S1x1x128 (ix3 0 0 j) = y (ix2 0 j) := by
  pointwise

theorem s_cast (y : FVec Ideal S128x256 .f32) (d : Fin 128) (j : Fin 256) : shapeCast S1x128x256 y shapeCasts_S128x256_S1x128x256 (ix3 0 d j) = y (ix2 d j) := by
  pointwise

theorem close_m (y : Fin 4 → FVec Ideal S1x128 .f32) (h k : Fin 4) (j : Fin 128) (x : S1x1x128.Idx) (P : FVec Ideal S1x1x128 .f32)
    (e : P = shapeCast S1x1x128 (y k) shapeCasts_S1x128_S1x1x128) (h0 : h.val = k.val + (x 0).val) (l0 : (x 0).val < 1) (l1 : (x 1).val < 1)
    (h2 : j.val = (x 2).val) : P x = y h (ix2 0 j) := by
  obtain rfl : h = k := Fin.ext (by omega)
  obtain rfl : x = ix3 0 0 j := by
    funext a
    match a with
    | ⟨0, _⟩ => exact Fin.ext (show (x 0).val = 0 by omega)
    | ⟨1, _⟩ => exact Fin.ext (show (x 1).val = 0 by omega)
    | ⟨2, _⟩ => exact Fin.ext h2.symm
  rw [e]
  exact m_cast _ j

theorem close_s (y : Fin 4 → FVec Ideal S128x256 .f32) (h k : Fin 4) (d : Fin 128) (j : Fin 256) (x : S1x128x256.Idx) (P : FVec Ideal S1x128x256 .f32)
    (e : P = shapeCast S1x128x256 (y k) shapeCasts_S128x256_S1x128x256) (h0 : h.val = k.val + (x 0).val) (l0 : (x 0).val < 1)
    (h1 : d.val = (x 1).val) (h2 : j.val = (x 2).val) : P x = y h (ix2 d j) := by
  obtain rfl : h = k := Fin.ext (by omega)
  obtain rfl : x = ix3 0 d j := by
    funext a
    match a with
    | ⟨0, _⟩ => exact Fin.ext (show (x 0).val = 0 by omega)
    | ⟨1, _⟩ => exact Fin.ext h1.symm
    | ⟨2, _⟩ => exact Fin.ext h2.symm
  rw [e]
  exact s_cast _ d j

theorem close_o (y : Fin 4 → Fin 4 → FVec Ideal S1x128x128 .f32) (h k s l : Fin 4) (r j : Fin 128) (R J : Fin 512) (x : S1x128x128.Idx) (P : FVec Ideal S1x128x128 .f32)
    (hR : R.val = 128 * s.val + r.val) (hJ : J.val = 128 * h.val + j.val)
    (e : P = y k l) (l0 : (x 0).val < 1) (l1 : (x 1).val < 128) (l2 : (x 2).val < 128)
    (h1 : R.val = 128 * l.val + (x 1).val) (h2 : J.val = 128 * k.val + (x 2).val) : P x = y h s (ix3 0 r j) := by
  obtain rfl : h = k := Fin.ext (by omega)
  obtain rfl : s = l := Fin.ext (by omega)
  obtain rfl : x = ix3 0 r j := by
    funext a
    match a with
    | ⟨0, _⟩ => exact Fin.ext (show (x 0).val = 0 by omega)
    | ⟨1, _⟩ => exact Fin.ext (show (x 1).val = r.val by omega)
    | ⟨2, _⟩ => exact Fin.ext (show (x 2).val = j.val by omega)
  rw [e]

theorem canon_drop {S : Shape} {e : EltTy} (f : View.Piece (Elt Ideal) S e) (y : S.Idx) :
    ∀ L : List (View.Piece (Elt Ideal) S e), (∃ p ∈ L, y ∈ p.1.set) → View.canon (L ++ [f]) y = View.canon L y
  | [], hc => by obtain ⟨p, hp, _⟩ := hc; exact absurd hp List.not_mem_nil
  | p :: L, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem p _ hm, View.canon_cons_of_not_mem p _ hm]
      refine canon_drop f y L ?_
      obtain ⟨q, hq, hy⟩ := hc
      rcases List.mem_cons.mp hq with rfl | hq
      · exact absurd hy hm
      · exact ⟨q, hq, hy⟩

theorem four_mem {α : Type} (P : α → Prop) (h : Fin 4) (p0 p1 p2 p3 : α) (e0 : h = 0 → P p0) (e1 : h = 1 → P p1) (e2 : h = 2 → P p2) (e3 : h = 3 → P p3) :
    ∃ p ∈ [p3, p2, p1, p0], P p := by
  match h with
  | 0 => exact ⟨p0, by simp, e0 rfl⟩
  | 1 => exact ⟨p1, by simp, e1 rfl⟩
  | 2 => exact ⟨p2, by simp, e2 rfl⟩
  | 3 => exact ⟨p3, by simp, e3 rfl⟩

theorem drop_m (P3 : (Rect.unit (s := S4x1x128) ![3, 0, 0] S1x1x128.size inb_S4x1x128_S1x1x128_3_0_0).shape.Idx → Elt Ideal .f32) (P2 : (Rect.unit (s := S4x1x128) ![2, 0, 0] S1x1x128.size inb_S4x1x128_S1x1x128_2_0_0).shape.Idx → Elt Ideal .f32) (P1 : (Rect.unit (s := S4x1x128) ![1, 0, 0] S1x1x128.size inb_S4x1x128_S1x1x128_1_0_0).shape.Idx → Elt Ideal .f32) (P0 : (Rect.unit (s := S4x1x128) ![0, 0, 0] S1x1x128.size inb_S4x1x128_S1x1x128_0_0_0).shape.Idx → Elt Ideal .f32) (f : View.Piece (Elt Ideal) S4x1x128 .f32) (h : Fin 4) (j : Fin 128) :
    View.canon [⟨(Rect.unit (s := S4x1x128) ![3, 0, 0] S1x1x128.size inb_S4x1x128_S1x1x128_3_0_0), P3⟩, ⟨(Rect.unit (s := S4x1x128) ![2, 0, 0] S1x1x128.size inb_S4x1x128_S1x1x128_2_0_0), P2⟩, ⟨(Rect.unit (s := S4x1x128) ![1, 0, 0] S1x1x128.size inb_S4x1x128_S1x1x128_1_0_0), P1⟩, ⟨(Rect.unit (s := S4x1x128) ![0, 0, 0] S1x1x128.size inb_S4x1x128_S1x1x128_0_0_0), P0⟩, f] (ix3 h 0 j) = View.canon [⟨(Rect.unit (s := S4x1x128) ![3, 0, 0] S1x1x128.size inb_S4x1x128_S1x1x128_3_0_0), P3⟩, ⟨(Rect.unit (s := S4x1x128) ![2, 0, 0] S1x1x128.size inb_S4x1x128_S1x1x128_2_0_0), P2⟩, ⟨(Rect.unit (s := S4x1x128) ![1, 0, 0] S1x1x128.size inb_S4x1x128_S1x1x128_1_0_0), P1⟩, ⟨(Rect.unit (s := S4x1x128) ![0, 0, 0] S1x1x128.size inb_S4x1x128_S1x1x128_0_0_0), P0⟩] (ix3 h 0 j) := by
  refine canon_drop f _ [⟨(Rect.unit (s := S4x1x128) ![3, 0, 0] S1x1x128.size inb_S4x1x128_S1x1x128_3_0_0), P3⟩, ⟨(Rect.unit (s := S4x1x128) ![2, 0, 0] S1x1x128.size inb_S4x1x128_S1x1x128_2_0_0), P2⟩, ⟨(Rect.unit (s := S4x1x128) ![1, 0, 0] S1x1x128.size inb_S4x1x128_S1x1x128_1_0_0), P1⟩, ⟨(Rect.unit (s := S4x1x128) ![0, 0, 0] S1x1x128.size inb_S4x1x128_S1x1x128_0_0_0), P0⟩] (four_mem _ h _ _ _ _ ?_ ?_ ?_ ?_)
  · rintro rfl
    refine (Rect.mem_set_unit (inb := inb_S4x1x128_S1x1x128_0_0_0)).mpr fun a => ?_
    match a with
    | ⟨0, _⟩ => exact (show 0 ≤ 0 ∧ 0 < 0 + 1 by omega)
    | ⟨1, _⟩ => exact (show 0 ≤ 0 ∧ 0 < 0 + 1 by omega)
    | ⟨2, _⟩ => exact (show 0 ≤ j.val ∧ j.val < 0 + 128 by omega)
  · rintro rfl
    refine (Rect.mem_set_unit (inb := inb_S4x1x128_S1x1x128_1_0_0)).mpr fun a => ?_
    match a with
    | ⟨0, _⟩ => exact (show 1 ≤ 1 ∧ 1 < 1 + 1 by omega)
    | ⟨1, _⟩ => exact (show 0 ≤ 0 ∧ 0 < 0 + 1 by omega)
    | ⟨2, _⟩ => exact (show 0 ≤ j.val ∧ j.val < 0 + 128 by omega)
  · rintro rfl
    refine (Rect.mem_set_unit (inb := inb_S4x1x128_S1x1x128_2_0_0)).mpr fun a => ?_
    match a with
    | ⟨0, _⟩ => exact (show 2 ≤ 2 ∧ 2 < 2 + 1 by omega)
    | ⟨1, _⟩ => exact (show 0 ≤ 0 ∧ 0 < 0 + 1 by omega)
    | ⟨2, _⟩ => exact (show 0 ≤ j.val ∧ j.val < 0 + 128 by omega)
  · rintro rfl
    refine (Rect.mem_set_unit (inb := inb_S4x1x128_S1x1x128_3_0_0)).mpr fun a => ?_
    match a with
    | ⟨0, _⟩ => exact (show 3 ≤ 3 ∧ 3 < 3 + 1 by omega)
    | ⟨1, _⟩ => exact (show 0 ≤ 0 ∧ 0 < 0 + 1 by omega)
    | ⟨2, _⟩ => exact (show 0 ≤ j.val ∧ j.val < 0 + 128 by omega)

theorem drop_s (P3 : (Rect.unit (s := S4x128x256) ![3, 0, 0] S1x128x256.size inb_S4x128x256_S1x128x256_3_0_0).shape.Idx → Elt Ideal .f32) (P2 : (Rect.unit (s := S4x128x256) ![2, 0, 0] S1x128x256.size inb_S4x128x256_S1x128x256_2_0_0).shape.Idx → Elt Ideal .f32) (P1 : (Rect.unit (s := S4x128x256) ![1, 0, 0] S1x128x256.size inb_S4x128x256_S1x128x256_1_0_0).shape.Idx → Elt Ideal .f32) (P0 : (Rect.unit (s := S4x128x256) ![0, 0, 0] S1x128x256.size inb_S4x128x256_S1x128x256_0_0_0).shape.Idx → Elt Ideal .f32) (f : View.Piece (Elt Ideal) S4x128x256 .f32) (h : Fin 4) (d : Fin 128) (j : Fin 256) :
    View.canon [⟨(Rect.unit (s := S4x128x256) ![3, 0, 0] S1x128x256.size inb_S4x128x256_S1x128x256_3_0_0), P3⟩, ⟨(Rect.unit (s := S4x128x256) ![2, 0, 0] S1x128x256.size inb_S4x128x256_S1x128x256_2_0_0), P2⟩, ⟨(Rect.unit (s := S4x128x256) ![1, 0, 0] S1x128x256.size inb_S4x128x256_S1x128x256_1_0_0), P1⟩, ⟨(Rect.unit (s := S4x128x256) ![0, 0, 0] S1x128x256.size inb_S4x128x256_S1x128x256_0_0_0), P0⟩, f] (ix3 h d j) = View.canon [⟨(Rect.unit (s := S4x128x256) ![3, 0, 0] S1x128x256.size inb_S4x128x256_S1x128x256_3_0_0), P3⟩, ⟨(Rect.unit (s := S4x128x256) ![2, 0, 0] S1x128x256.size inb_S4x128x256_S1x128x256_2_0_0), P2⟩, ⟨(Rect.unit (s := S4x128x256) ![1, 0, 0] S1x128x256.size inb_S4x128x256_S1x128x256_1_0_0), P1⟩, ⟨(Rect.unit (s := S4x128x256) ![0, 0, 0] S1x128x256.size inb_S4x128x256_S1x128x256_0_0_0), P0⟩] (ix3 h d j) := by
  refine canon_drop f _ [⟨(Rect.unit (s := S4x128x256) ![3, 0, 0] S1x128x256.size inb_S4x128x256_S1x128x256_3_0_0), P3⟩, ⟨(Rect.unit (s := S4x128x256) ![2, 0, 0] S1x128x256.size inb_S4x128x256_S1x128x256_2_0_0), P2⟩, ⟨(Rect.unit (s := S4x128x256) ![1, 0, 0] S1x128x256.size inb_S4x128x256_S1x128x256_1_0_0), P1⟩, ⟨(Rect.unit (s := S4x128x256) ![0, 0, 0] S1x128x256.size inb_S4x128x256_S1x128x256_0_0_0), P0⟩] (four_mem _ h _ _ _ _ ?_ ?_ ?_ ?_)
  · rintro rfl
    refine (Rect.mem_set_unit (inb := inb_S4x128x256_S1x128x256_0_0_0)).mpr fun a => ?_
    match a with
    | ⟨0, _⟩ => exact (show 0 ≤ 0 ∧ 0 < 0 + 1 by omega)
    | ⟨1, _⟩ => exact (show 0 ≤ d.val ∧ d.val < 0 + 128 by omega)
    | ⟨2, _⟩ => exact (show 0 ≤ j.val ∧ j.val < 0 + 256 by omega)
  · rintro rfl
    refine (Rect.mem_set_unit (inb := inb_S4x128x256_S1x128x256_1_0_0)).mpr fun a => ?_
    match a with
    | ⟨0, _⟩ => exact (show 1 ≤ 1 ∧ 1 < 1 + 1 by omega)
    | ⟨1, _⟩ => exact (show 0 ≤ d.val ∧ d.val < 0 + 128 by omega)
    | ⟨2, _⟩ => exact (show 0 ≤ j.val ∧ j.val < 0 + 256 by omega)
  · rintro rfl
    refine (Rect.mem_set_unit (inb := inb_S4x128x256_S1x128x256_2_0_0)).mpr fun a => ?_
    match a with
    | ⟨0, _⟩ => exact (show 2 ≤ 2 ∧ 2 < 2 + 1 by omega)
    | ⟨1, _⟩ => exact (show 0 ≤ d.val ∧ d.val < 0 + 128 by omega)
    | ⟨2, _⟩ => exact (show 0 ≤ j.val ∧ j.val < 0 + 256 by omega)
  · rintro rfl
    refine (Rect.mem_set_unit (inb := inb_S4x128x256_S1x128x256_3_0_0)).mpr fun a => ?_
    match a with
    | ⟨0, _⟩ => exact (show 3 ≤ 3 ∧ 3 < 3 + 1 by omega)
    | ⟨1, _⟩ => exact (show 0 ≤ d.val ∧ d.val < 0 + 128 by omega)
    | ⟨2, _⟩ => exact (show 0 ≤ j.val ∧ j.val < 0 + 256 by omega)

theorem outB_m (c : Dev nD) (t : Fin cfg0.N) (h0 : ¬t.val % 32 = 0) (h : Fin 4) (j : Fin 128) :
    (outsAt0 m c t.val t.isLt).2.2 (ix3 h 0 j) = mAt (iblk m c 3 t) (iblk m c 5 t) (outsAt0 m c (t.val - 1) (Nat.lt_of_le_of_lt (Nat.sub_le _ _) t.isLt)).2.2 h 4 (le_refl 4) (ix2 0 j) := by
  rw [outsAt0_B m c t h0]
  frame_out
  simp only [read_unread_whole]
  generalize (outsAt0 m c (t.val - 1) (Nat.lt_of_le_of_lt (Nat.sub_le _ _) t.isLt)).2.2 = Mc
  canon_tiles x hh
  case piece0 => exact close_m (fun h => mAt (iblk m c 3 t) (iblk m c 5 t) Mc h 4 (le_refl 4)) h 3 j x _ rfl hh0 x0_lt x1_lt hh2
  case piece1 => exact close_m (fun h => mAt (iblk m c 3 t) (iblk m c 5 t) Mc h 4 (le_refl 4)) h 2 j x _ rfl hh0 x0_lt x1_lt hh2
  case piece2 => exact close_m (fun h => mAt (iblk m c 3 t) (iblk m c 5 t) Mc h 4 (le_refl 4)) h 1 j x _ rfl hh0 x0_lt x1_lt hh2
  case piece3 => exact close_m (fun h => mAt (iblk m c 3 t) (iblk m c 5 t) Mc h 4 (le_refl 4)) h 0 j x _ rfl (hh0.trans (Nat.zero_add _).symm) x0_lt x1_lt hh2

theorem outB_s (c : Dev nD) (t : Fin cfg0.N) (h0 : ¬t.val % 32 = 0) (h : Fin 4) (d : Fin 128) (j : Fin 256) :
    (outsAt0 m c t.val t.isLt).2.1 (ix3 h d j) = sAt (iblk m c 1 t) (iblk m c 2 t) (iblk m c 3 t) (iblk m c 5 t) (outsAt0 m c (t.val - 1) (Nat.lt_of_le_of_lt (Nat.sub_le _ _) t.isLt)).2.2 (outsAt0 m c (t.val - 1) (Nat.lt_of_le_of_lt (Nat.sub_le _ _) t.isLt)).2.1 h 4 (le_refl 4) (ix2 d j) := by
  rw [outsAt0_B m c t h0]
  frame_out
  simp only [read_unread_whole]
  generalize (outsAt0 m c (t.val - 1) (Nat.lt_of_le_of_lt (Nat.sub_le _ _) t.isLt)).2.2 = Mc
  generalize (outsAt0 m c (t.val - 1) (Nat.lt_of_le_of_lt (Nat.sub_le _ _) t.isLt)).2.1 = Sc
  canon_tiles x hh
  case piece0 => exact close_s (fun h => sAt (iblk m c 1 t) (iblk m c 2 t) (iblk m c 3 t) (iblk m c 5 t) Mc Sc h 4 (le_refl 4)) h 3 d j x _ rfl hh0 x0_lt hh1 hh2
  case piece1 => exact close_s (fun h => sAt (iblk m c 1 t) (iblk m c 2 t) (iblk m c 3 t) (iblk m c 5 t) Mc Sc h 4 (le_refl 4)) h 2 d j x _ rfl hh0 x0_lt hh1 hh2
  case piece2 => exact close_s (fun h => sAt (iblk m c 1 t) (iblk m c 2 t) (iblk m c 3 t) (iblk m c 5 t) Mc Sc h 4 (le_refl 4)) h 1 d j x _ rfl hh0 x0_lt hh1 hh2
  case piece3 => exact close_s (fun h => sAt (iblk m c 1 t) (iblk m c 2 t) (iblk m c 3 t) (iblk m c 5 t) Mc Sc h 4 (le_refl 4)) h 0 d j x _ rfl (hh0.trans (Nat.zero_add _).symm) x0_lt hh1 hh2

theorem outB_o (c : Dev nD) (t : Fin cfg0.N) (h0 : ¬t.val % 32 = 0) (h s : Fin 4) (r j : Fin 128) :
    (outsAt0 m c t.val t.isLt).1 (ix3 0 ⟨128 * s.val + r.val, by omega⟩ ⟨128 * h.val + j.val, by omega⟩)
      = oAt (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2 (outsAt0 m c (t.val - 1) (Nat.lt_of_le_of_lt (Nat.sub_le _ _) t.isLt)).2.1 h s (ix3 0 r j) := by
  rw [outsAt0_B m c t h0]
  frame_out
  simp only [read_unread_whole]
  generalize (outsAt0 m c (t.val - 1) (Nat.lt_of_le_of_lt (Nat.sub_le _ _) t.isLt)).2.2 = Mc
  generalize (outsAt0 m c (t.val - 1) (Nat.lt_of_le_of_lt (Nat.sub_le _ _) t.isLt)).2.1 = Sc
  canon_tiles x hh
  case piece0 => exact close_o (fun h s => oAt (iblk m c 0 t) (iblk m c 1 t) (iblk m c 2 t) (iblk m c 3 t) (iblk m c 4 t) (iblk m c 5 t) (iblk m c 6 t) Mc Sc h s) h 3 s 3 r j _ _ x _ rfl rfl rfl x0_lt x1_lt x2_lt hh1 hh2
  case piece1 => exact close_o (fun h s => oAt (iblk m c 0 t) (iblk m c 1 t) (iblk m c 2 t) (iblk m c 3 t) (iblk m c 4 t) (iblk m c 5 t) (iblk m c 6 t) Mc Sc h s) h 2 s 3 r j _ _ x _ rfl rfl rfl x0_lt x1_lt x2_lt hh1 hh2
  case piece2 => exact close_o (fun h s => oAt (iblk m c 0 t) (iblk m c 1 t) (iblk m c 2 t) (iblk m c 3 t) (iblk m c 4 t) (iblk m c 5 t) (iblk m c 6 t) Mc Sc h s) h 1 s 3 r j _ _ x _ rfl rfl rfl x0_lt x1_lt x2_lt hh1 hh2
  case piece3 => exact close_o (fun h s => oAt (iblk m c 0 t) (iblk m c 1 t) (iblk m c 2 t) (iblk m c 3 t) (iblk m c 4 t) (iblk m c 5 t) (iblk m c 6 t) Mc Sc h s) h 0 s 3 r j _ _ x _ rfl rfl rfl x0_lt x1_lt x2_lt hh1 (hh2.trans (Nat.zero_add _).symm)
  case piece4 => exact close_o (fun h s => oAt (iblk m c 0 t) (iblk m c 1 t) (iblk m c 2 t) (iblk m c 3 t) (iblk m c 4 t) (iblk m c 5 t) (iblk m c 6 t) Mc Sc h s) h 3 s 2 r j _ _ x _ rfl rfl rfl x0_lt x1_lt x2_lt hh1 hh2
  case piece5 => exact close_o (fun h s => oAt (iblk m c 0 t) (iblk m c 1 t) (iblk m c 2 t) (iblk m c 3 t) (iblk m c 4 t) (iblk m c 5 t) (iblk m c 6 t) Mc Sc h s) h 2 s 2 r j _ _ x _ rfl rfl rfl x0_lt x1_lt x2_lt hh1 hh2
  case piece6 => exact close_o (fun h s => oAt (iblk m c 0 t) (iblk m c 1 t) (iblk m c 2 t) (iblk m c 3 t) (iblk m c 4 t) (iblk m c 5 t) (iblk m c 6 t) Mc Sc h s) h 1 s 2 r j _ _ x _ rfl rfl rfl x0_lt x1_lt x2_lt hh1 hh2
  case piece7 => exact close_o (fun h s => oAt (iblk m c 0 t) (iblk m c 1 t) (iblk m c 2 t) (iblk m c 3 t) (iblk m c 4 t) (iblk m c 5 t) (iblk m c 6 t) Mc Sc h s) h 0 s 2 r j _ _ x _ rfl rfl rfl x0_lt x1_lt x2_lt hh1 (hh2.trans (Nat.zero_add _).symm)
  case piece8 => exact close_o (fun h s => oAt (iblk m c 0 t) (iblk m c 1 t) (iblk m c 2 t) (iblk m c 3 t) (iblk m c 4 t) (iblk m c 5 t) (iblk m c 6 t) Mc Sc h s) h 3 s 1 r j _ _ x _ rfl rfl rfl x0_lt x1_lt x2_lt hh1 hh2
  case piece9 => exact close_o (fun h s => oAt (iblk m c 0 t) (iblk m c 1 t) (iblk m c 2 t) (iblk m c 3 t) (iblk m c 4 t) (iblk m c 5 t) (iblk m c 6 t) Mc Sc h s) h 2 s 1 r j _ _ x _ rfl rfl rfl x0_lt x1_lt x2_lt hh1 hh2
  case piece10 => exact close_o (fun h s => oAt (iblk m c 0 t) (iblk m c 1 t) (iblk m c 2 t) (iblk m c 3 t) (iblk m c 4 t) (iblk m c 5 t) (iblk m c 6 t) Mc Sc h s) h 1 s 1 r j _ _ x _ rfl rfl rfl x0_lt x1_lt x2_lt hh1 hh2
  case piece11 => exact close_o (fun h s => oAt (iblk m c 0 t) (iblk m c 1 t) (iblk m c 2 t) (iblk m c 3 t) (iblk m c 4 t) (iblk m c 5 t) (iblk m c 6 t) Mc Sc h s) h 0 s 1 r j _ _ x _ rfl rfl rfl x0_lt x1_lt x2_lt hh1 (hh2.trans (Nat.zero_add _).symm)
  case piece12 => exact close_o (fun h s => oAt (iblk m c 0 t) (iblk m c 1 t) (iblk m c 2 t) (iblk m c 3 t) (iblk m c 4 t) (iblk m c 5 t) (iblk m c 6 t) Mc Sc h s) h 3 s 0 r j _ _ x _ rfl rfl rfl x0_lt x1_lt x2_lt (hh1.trans (Nat.zero_add _).symm) hh2
  case piece13 => exact close_o (fun h s => oAt (iblk m c 0 t) (iblk m c 1 t) (iblk m c 2 t) (iblk m c 3 t) (iblk m c 4 t) (iblk m c 5 t) (iblk m c 6 t) Mc Sc h s) h 2 s 0 r j _ _ x _ rfl rfl rfl x0_lt x1_lt x2_lt (hh1.trans (Nat.zero_add _).symm) hh2
  case piece14 => exact close_o (fun h s => oAt (iblk m c 0 t) (iblk m c 1 t) (iblk m c 2 t) (iblk m c 3 t) (iblk m c 4 t) (iblk m c 5 t) (iblk m c 6 t) Mc Sc h s) h 1 s 0 r j _ _ x _ rfl rfl rfl x0_lt x1_lt x2_lt (hh1.trans (Nat.zero_add _).symm) hh2
  case piece15 => exact close_o (fun h s => oAt (iblk m c 0 t) (iblk m c 1 t) (iblk m c 2 t) (iblk m c 3 t) (iblk m c 4 t) (iblk m c 5 t) (iblk m c 6 t) Mc Sc h s) h 0 s 0 r j _ _ x _ rfl rfl rfl x0_lt x1_lt x2_lt (hh1.trans (Nat.zero_add _).symm) (hh2.trans (Nat.zero_add _).symm)

theorem outA_m (c : Dev nD) (t : Fin cfg0.N) (h0 : t.val % 32 = 0) (h : Fin 4) (j : Fin 128) :
    (outsAt0 m c t.val t.isLt).2.2 (ix3 h 0 j) = mAt (iblk m c 3 t) (iblk m c 5 t) (k0_pay4 (F := Ideal)) h 4 (le_refl 4) (ix2 0 j) := by
  rw [outsAt0_A m c t h0]
  frame_out
  simp (disch := decide) only [View.readCov_fill]
  refine (drop_m _ _ _ _ _ h j).trans ?_
  canon_tiles x hh
  case piece0 => exact close_m (fun h => mAt (iblk m c 3 t) (iblk m c 5 t) (k0_pay4 (F := Ideal)) h 4 (le_refl 4)) h 3 j x _ rfl hh0 x0_lt x1_lt hh2
  case piece1 => exact close_m (fun h => mAt (iblk m c 3 t) (iblk m c 5 t) (k0_pay4 (F := Ideal)) h 4 (le_refl 4)) h 2 j x _ rfl hh0 x0_lt x1_lt hh2
  case piece2 => exact close_m (fun h => mAt (iblk m c 3 t) (iblk m c 5 t) (k0_pay4 (F := Ideal)) h 4 (le_refl 4)) h 1 j x _ rfl hh0 x0_lt x1_lt hh2
  case piece3 => exact close_m (fun h => mAt (iblk m c 3 t) (iblk m c 5 t) (k0_pay4 (F := Ideal)) h 4 (le_refl 4)) h 0 j x _ rfl (hh0.trans (Nat.zero_add _).symm) x0_lt x1_lt hh2

theorem outA_s (c : Dev nD) (t : Fin cfg0.N) (h0 : t.val % 32 = 0) (h : Fin 4) (d : Fin 128) (j : Fin 256) :
    (outsAt0 m c t.val t.isLt).2.1 (ix3 h d j) = sAt (iblk m c 1 t) (iblk m c 2 t) (iblk m c 3 t) (iblk m c 5 t) (k0_pay4 (F := Ideal)) (k0_pay3 (F := Ideal)) h 4 (le_refl 4) (ix2 d j) := by
  rw [outsAt0_A m c t h0]
  frame_out
  simp (disch := decide) only [View.readCov_fill]
  refine (drop_s _ _ _ _ _ h d j).trans ?_
  canon_tiles x hh
  case piece0 => exact close_s (fun h => sAt (iblk m c 1 t) (iblk m c 2 t) (iblk m c 3 t) (iblk m c 5 t) (k0_pay4 (F := Ideal)) (k0_pay3 (F := Ideal)) h 4 (le_refl 4)) h 3 d j x _ rfl hh0 x0_lt hh1 hh2
  case piece1 => exact close_s (fun h => sAt (iblk m c 1 t) (iblk m c 2 t) (iblk m c 3 t) (iblk m c 5 t) (k0_pay4 (F := Ideal)) (k0_pay3 (F := Ideal)) h 4 (le_refl 4)) h 2 d j x _ rfl hh0 x0_lt hh1 hh2
  case piece2 => exact close_s (fun h => sAt (iblk m c 1 t) (iblk m c 2 t) (iblk m c 3 t) (iblk m c 5 t) (k0_pay4 (F := Ideal)) (k0_pay3 (F := Ideal)) h 4 (le_refl 4)) h 1 d j x _ rfl hh0 x0_lt hh1 hh2
  case piece3 => exact close_s (fun h => sAt (iblk m c 1 t) (iblk m c 2 t) (iblk m c 3 t) (iblk m c 5 t) (k0_pay4 (F := Ideal)) (k0_pay3 (F := Ideal)) h 4 (le_refl 4)) h 0 d j x _ rfl (hh0.trans (Nat.zero_add _).symm) x0_lt hh1 hh2

theorem outA_o (c : Dev nD) (t : Fin cfg0.N) (h0 : t.val % 32 = 0) (h s : Fin 4) (r j : Fin 128) :
    (outsAt0 m c t.val t.isLt).1 (ix3 0 ⟨128 * s.val + r.val, by omega⟩ ⟨128 * h.val + j.val, by omega⟩)
      = oAt (iblk m c 0 t) (iblk m c 1 t) (iblk m c 2 t) (iblk m c 3 t) (iblk m c 4 t) (iblk m c 5 t) (iblk m c 6 t) (k0_pay4 (F := Ideal)) (k0_pay3 (F := Ideal)) h s (ix3 0 r j) := by
  rw [outsAt0_A m c t h0]
  frame_out
  simp (disch := decide) only [View.readCov_fill]
  canon_tiles x hh
  case piece0 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 3 s 3 r j _ _ x _ rfl rfl rfl x0_lt x1_lt x2_lt hh1 hh2
  case piece1 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 2 s 3 r j _ _ x _ rfl rfl rfl x0_lt x1_lt x2_lt hh1 hh2
  case piece2 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 1 s 3 r j _ _ x _ rfl rfl rfl x0_lt x1_lt x2_lt hh1 hh2
  case piece3 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 0 s 3 r j _ _ x _ rfl rfl rfl x0_lt x1_lt x2_lt hh1 (hh2.trans (Nat.zero_add _).symm)
  case piece4 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 3 s 2 r j _ _ x _ rfl rfl rfl x0_lt x1_lt x2_lt hh1 hh2
  case piece5 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 2 s 2 r j _ _ x _ rfl rfl rfl x0_lt x1_lt x2_lt hh1 hh2
  case piece6 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 1 s 2 r j _ _ x _ rfl rfl rfl x0_lt x1_lt x2_lt hh1 hh2
  case piece7 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 0 s 2 r j _ _ x _ rfl rfl rfl x0_lt x1_lt x2_lt hh1 (hh2.trans (Nat.zero_add _).symm)
  case piece8 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 3 s 1 r j _ _ x _ rfl rfl rfl x0_lt x1_lt x2_lt hh1 hh2
  case piece9 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 2 s 1 r j _ _ x _ rfl rfl rfl x0_lt x1_lt x2_lt hh1 hh2
  case piece10 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 1 s 1 r j _ _ x _ rfl rfl rfl x0_lt x1_lt x2_lt hh1 hh2
  case piece11 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 0 s 1 r j _ _ x _ rfl rfl rfl x0_lt x1_lt x2_lt hh1 (hh2.trans (Nat.zero_add _).symm)
  case piece12 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 3 s 0 r j _ _ x _ rfl rfl rfl x0_lt x1_lt x2_lt (hh1.trans (Nat.zero_add _).symm) hh2
  case piece13 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 2 s 0 r j _ _ x _ rfl rfl rfl x0_lt x1_lt x2_lt (hh1.trans (Nat.zero_add _).symm) hh2
  case piece14 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 1 s 0 r j _ _ x _ rfl rfl rfl x0_lt x1_lt x2_lt (hh1.trans (Nat.zero_add _).symm) hh2
  case piece15 => exact close_o (fun h s => oAt (iblk m c 0 t) (iblk m c 1 t) (iblk m c 2 t) (iblk m c 3 t) (iblk m c 4 t) (iblk m c 5 t) (iblk m c 6 t) (k0_pay4 (F := Ideal)) (k0_pay3 (F := Ideal)) h s) h 0 s 0 r j _ _ x _ rfl rfl rfl x0_lt x1_lt x2_lt (hh1.trans (Nat.zero_add _).symm) (hh2.trans (Nat.zero_add _).symm)

end Cert.Mlstm
end
-- ==== Proof.MlstmSum.lean ====
module

public import proofs.«01_k».proof.Proof.MlstmCell

@[expose] public section

noncomputable section

open scoped BigOperators

namespace Cert.Mlstm

/-! ## The chunks put together: one head of one sequence, over the reals

`β` is the log decay summed within its chunk of 128 positions, `γ` the log input gate less `β`, `q`, `k`, `v` the head's rows. -/

section Sum

variable (β γ : ℕ → ℝ) (q k v : ℕ → ℕ → ℝ)

/-- The log decay of the chunks before chunk `P`. -/
def bef (P : ℕ) : ℝ := ∑ p ∈ Finset.range P, β (128 * p + 127)

/-- The values, and beside them ones, by position. -/
def vv (s : ℕ) (j : Fin 256) : ℝ := if j.val < 128 then v s j.val else 1

/-- The state at the start of chunk `P`, chunk after chunk. -/
def Tn : ℕ → Fin 128 → Fin 256 → ℝ
  | 0 => fun _ _ => 0
  | P + 1 => T' (fun r => β (128 * P + r.val)) (fun r => γ (128 * P + r.val)) (fun r d => k (128 * P + r.val) d.val)
      (fun r d => v (128 * P + r.val) d.val) (Tn P)

/-- Numerator and denominator at row `r` of chunk `P`. -/
def Nn (P : ℕ) (r : Fin 128) (j : Fin 256) : ℝ :=
  N (fun r => β (128 * P + r.val)) (fun r => γ (128 * P + r.val)) (fun r d => q (128 * P + r.val) d.val) (fun r d => k (128 * P + r.val) d.val)
    (fun r d => v (128 * P + r.val) d.val) (Tn β γ k v P) r j

/-- The log decay from the start of the sequence. -/
def fAll (t : ℕ) : ℝ := β t + bef β (t / 128)

/-- The weight of position `s` at position `t`. -/
def wAll (t s : ℕ) : ℝ := if s ≤ t then Real.exp (fAll β t - fAll β s + (γ s + β s)) else 0

theorem VV_eq (P : ℕ) (r : Fin 128) (j : Fin 256) : VV (fun r d => v (128 * P + r.val) d.val) r j = vv v (128 * P + r.val) j := by
  unfold VV vv
  by_cases h : j.val < 128
  · rw [dif_pos h, if_pos h]
  · rw [dif_neg h, if_neg h]

theorem sum_chunk (P : ℕ) (f : ℕ → ℝ) :
    ∑ s ∈ Finset.range (128 * (P + 1)), f s = (∑ s ∈ Finset.range (128 * P), f s) + ∑ r : Fin 128, f (128 * P + r.val) := by
  rw [show 128 * (P + 1) = 128 * P + 128 by ring, Finset.sum_range_add, Finset.sum_range (fun x => f (128 * P + x))]

theorem Tn_eq (d : Fin 128) (j : Fin 256) : ∀ P : ℕ,
    Tn β γ k v P d j = ∑ s ∈ Finset.range (128 * P), Real.exp (bef β P - bef β (s / 128) + γ s) * k s d.val * vv v s j
  | 0 => by simp [Tn]
  | P + 1 => by
    have hb : bef β (P + 1) = bef β P + β (128 * P + 127) := Finset.sum_range_succ _ _
    rw [sum_chunk, Tn, T', Tn_eq d j P, Finset.mul_sum]
    refine congrArg₂ (fun a b : ℝ => a + b) (Finset.sum_congr rfl fun s _ => ?_) (Finset.sum_congr rfl fun r _ => ?_)
    · rw [hb, show bef β P + β (128 * P + 127) - bef β (s / 128) + γ s = β (128 * P + 127) + (bef β P - bef β (s / 128) + γ s) by ring,
        Real.exp_add (β (128 * P + 127))]
      show Real.exp (β (128 * P + 127)) * _ = _
      ring
    · rw [VV_eq, show (128 * P + r.val) / 128 = P by omega, hb]
      refine congrArg (· * _) (congrArg (· * _) (congrArg _ ?_))
      show β (128 * P + 127) + γ (128 * P + r.val) = _
      ring

theorem Nn_eq (P : ℕ) (hP : P < 128) (r : Fin 128) (j : Fin 256) :
    Nn β γ q k v P r j = ∑ s : Fin 16384, wAll β γ (128 * P + r.val) s.val * (∑ d : Fin 128, q (128 * P + r.val) d.val * k s.val d.val) * vv v s.val j := by
  have ht : (128 * P + r.val) / 128 = P := by omega
  have e : ∑ s : Fin 16384, wAll β γ (128 * P + r.val) s.val * (∑ d : Fin 128, q (128 * P + r.val) d.val * k s.val d.val) * vv v s.val j
      = ∑ s ∈ Finset.range (128 * (P + 1)), wAll β γ (128 * P + r.val) s * (∑ d : Fin 128, q (128 * P + r.val) d.val * k s d.val) * vv v s j := by
    rw [← Finset.sum_range fun s => wAll β γ (128 * P + r.val) s * (∑ d : Fin 128, q (128 * P + r.val) d.val * k s d.val) * vv v s j]
    refine (Finset.sum_subset (fun s hs => ?_) fun s _ hs => ?_).symm
    · have := Finset.mem_range.mp hs
      exact Finset.mem_range.mpr (by omega)
    · have h : ¬s ≤ 128 * P + r.val := fun h => hs (Finset.mem_range.mpr (by omega))
      rw [wAll, if_neg h, zero_mul, zero_mul]
  rw [e, sum_chunk, Nn, N, add_comm]
  refine congrArg₂ (fun a b : ℝ => a + b) ?_ (Finset.sum_congr rfl fun s _ => ?_)
  · have e1 : ∀ d : Fin 128, q (128 * P + r.val) d.val * Tn β γ k v P d j
        = ∑ s ∈ Finset.range (128 * P), q (128 * P + r.val) d.val * (Real.exp (bef β P - bef β (s / 128) + γ s) * k s d.val * vv v s j) := fun d => by
      rw [Tn_eq, Finset.mul_sum]
    rw [Finset.sum_congr rfl fun d _ => e1 d, Finset.sum_comm, Finset.mul_sum]
    refine Finset.sum_congr rfl fun s hs => ?_
    have hs' := Finset.mem_range.mp hs
    rw [wAll, if_pos (by omega), fAll, fAll, ht, show β (128 * P + r.val) + bef β P - (β s + bef β (s / 128)) + (γ s + β s)
      = β (128 * P + r.val) + (bef β P - bef β (s / 128) + γ s) by ring, Real.exp_add (β (128 * P + r.val)), Finset.mul_sum, Finset.mul_sum, Finset.sum_mul]
    refine Finset.sum_congr rfl fun d _ => ?_
    ring
  · rw [VV_eq, wAll, fAll, fAll, ht, show (128 * P + s.val) / 128 = P by omega]
    by_cases h : s.val ≤ r.val
    · rw [if_pos h, if_pos (by omega)]
      refine congrArg (· * _) (congrArg (· * _) (congrArg _ ?_))
      ring
    · rw [if_neg h, if_neg (by omega)]

end Sum

end Cert.Mlstm
end
-- ==== Proof.MlstmStep.lean ====
module

public import proofs.«01_k».proof.Proof.MlstmPoint
public import proofs.«01_k».proof.Proof.MlstmSum

@[expose] public section

set_option maxRecDepth 16384

noncomputable section

open Idealize.ShloMosaic Idealize.ShloMosaic.TcCoe Idealize.SL.Sem
open scoped BigOperators

namespace Cert.Mlstm

open Cert.Kernel6Ideal Cert.Kernel6Ideal.Gen

/-! ## What a head gives at a position, over the reals -/

section Head

variable (β γ : ℕ → ℝ) (q k v : ℕ → ℕ → ℝ)

/-- The head's numerator over its denominator. -/
def hv (t j : ℕ) : ℝ :=
  (∑ s : Fin 16384, wAll β γ t s.val * (∑ d : Fin 128, q t d.val * k s.val d.val) * v s.val j)
    / max |∑ s : Fin 16384, wAll β γ t s.val * (∑ d : Fin 128, q t d.val * k s.val d.val)| 1

theorem hR_eq (P : ℕ) (hP : P < 128) (r j : Fin 128) :
    hR (fun r => β (128 * P + r.val)) (fun r => γ (128 * P + r.val)) (fun r d => q (128 * P + r.val) d.val) (fun r d => k (128 * P + r.val) d.val)
      (fun r d => v (128 * P + r.val) d.val) (Tn β γ k v P) r j = hv β γ q k v (128 * P + r.val) j.val := by
  have e := Nn_eq β γ q k v P hP r
  unfold Nn at e
  unfold hR hv
  rw [e, e]
  refine congrArg₂ (fun a b : ℝ => a / b) (Finset.sum_congr rfl fun s _ => ?_) (congrArg (fun a : ℝ => max |a| 1) (Finset.sum_congr rfl fun s _ => ?_))
  · unfold vv
    rw [if_pos (show j.val < 128 from j.isLt)]
  · unfold vv
    rw [if_neg (show ¬128 + j.val < 128 by omega), mul_one]

end Head

section Step

variable {Q K Vv : Vec Ideal S1x512x512 .bf16} {Gc : Vec Ideal S1x512x128 .f32} {Gr : Vec Ideal S1x16x512 .f32} {Sp : Vec Ideal S384x1536 .bf16}
  {W : Vec Ideal S1x1x512 .f32} {Mc : Vec Ideal S4x1x128 .f32} {Sc : Vec Ideal S4x128x256 .f32}

theorem tile_at (X : Vec Ideal S1x512x512 .bf16) (h s : Fin 4) (r d : Fin 128) :
    tile X h s (ix3 0 r d) = X (ix3 0 ⟨128 * s.val + r.val, by omega⟩ ⟨128 * h.val + d.val, by omega⟩) := by
  unfold tile
  pointwise

theorem gateTile_at (X : Vec Ideal S1x512x128 .f32) (s : Fin 4) (r d : Fin 128) :
    gateTile X s (ix3 0 r d) = X (ix3 0 ⟨128 * s.val + r.val, by omega⟩ d) := by
  unfold gateTile
  pointwise

theorem rowTile_at (X : Vec Ideal S1x16x512 .f32) (h s : Fin 4) (r : Fin 128) :
    rowTile X h s (ix3 0 0 r) = X (ix3 0 ⟨4 + h.val, by omega⟩ ⟨128 * s.val + r.val, by omega⟩) := by
  unfold rowTile
  pointwise

theorem normTile_at (X : Vec Ideal S1x1x512 .f32) (h : Fin 4) (j : Fin 128) :
    normTile X h (ix3 0 0 j) = X (ix3 0 0 ⟨128 * h.val + j.val, by omega⟩) := by
  unfold normTile
  pointwise

theorem mHead_at (X : Vec Ideal S4x1x128 .f32) (h : Fin 4) (j : Fin 128) : mHead X h (ix2 0 j) = X (ix3 h 0 j) := by
  unfold mHead
  refine (shapeCast_apply _ shapeCasts_S1x1x128_S1x128 (ix2 0 j) (ix3 0 0 j) ?_).trans ?_
  · rw [Shape.rowMajor_val_three, Shape.rowMajor_val_two]
    rfl
  · refine congrArg X (funext fun a => Fin.ext ?_)
    match a with
    | ⟨0, _⟩ => (show h.val + 1 * 0 = h.val; omega)
    | ⟨1, _⟩ => rfl
    | ⟨2, _⟩ => (show 0 + 1 * j.val = j.val; omega)

theorem sHead_at (X : Vec Ideal S4x128x256 .f32) (h : Fin 4) (d : Fin 128) (j : Fin 256) : sHead X h (ix2 d j) = X (ix3 h d j) := by
  unfold sHead
  refine (shapeCast_apply _ shapeCasts_S1x128x256_S128x256 (ix2 d j) (ix3 0 d j) ?_).trans ?_
  · rw [Shape.rowMajor_val_three, Shape.rowMajor_val_two]
    show (0 * 128 + d.val) * 256 + j.val = d.val * 256 + j.val
    omega
  · refine congrArg X (funext fun a => Fin.ext ?_)
    match a with
    | ⟨0, _⟩ => (show h.val + 1 * 0 = h.val; omega)
    | ⟨1, _⟩ => (show 0 + 1 * d.val = d.val; omega)
    | ⟨2, _⟩ => (show 0 + 1 * j.val = j.val; omega)

theorem col_at (x : FVec Ideal S128x1536 .f32) (n : Nat) (hn : n < 12) (r j : Fin 128) :
    col x n hn (ix2 r j) = x (ix2 r ⟨128 * n + j.val, by omega⟩) := by
  unfold col
  pointwise

variable (g q k v : ℕ → ℕ → ℝ) (p : ℕ)

variable (hG : ∀ (r : Fin 512) (n : Fin 128), n.val < 12 → Gc (ix3 0 r n) = ((g (p * 512 + r.val) n.val : ℝ) : EReal))
  (hSp : ∀ a j, Sp (ix2 a j) = if a.val % 128 = j.val / 128 then (1 : EReal) else 0)
  (hGr : ∀ (r : Fin 512) (n : Fin 16), n.val < 12 → Gr (ix3 0 n r) = ((g (p * 512 + r.val) n.val : ℝ) : EReal))
  (hQ : ∀ r n, Q (ix3 0 r n) = ((q (p * 512 + r.val) n.val : ℝ) : EReal))
  (hK : ∀ r n, K (ix3 0 r n) = ((k (p * 512 + r.val) n.val : ℝ) : EReal))
  (hV : ∀ r n, Vv (ix3 0 r n) = ((v (p * 512 + r.val) n.val : ℝ) : EReal))

theorem pos_eq (s r : ℕ) : p * 512 + (128 * s + r) = 128 * (4 * p + s) + r := by omega

include hG hSp

theorem colRep (n : Nat) (hn : n < 12) (s : Fin 4) (r j : Fin 128) :
    col (rep Gc Sp s) n hn (ix2 r j) = ((g (128 * (4 * p + s.val) + r.val) n : ℝ) : EReal) := by
  rw [col_at]
  unfold rep
  rw [rep_val (gateTile Gc s) (fun r n => g (128 * (4 * p + s.val) + r.val) n.val) (fun r n hn => by
    rw [gateTile_at, hG _ _ hn, ← pos_eq]) Sp hSp]
  have e : (128 * n + j.val) / 128 = n := by omega
  show ((g (128 * (4 * p + s.val) + r.val) ((128 * n + j.val) / 128) : ℝ) : EReal) = _
  rw [e]

omit hSp
omit hG

include hK in
theorem tileK (h s : Fin 4) (r d : Fin 128) : tile K h s (ix3 0 r d) = ((k (128 * (4 * p + s.val) + r.val) (128 * h.val + d.val) : ℝ) : EReal) := by
  rw [tile_at, hK, ← pos_eq]

include hGr in
theorem rowT (h s : Fin 4) (r : Fin 128) : rowTile Gr h s (ix3 0 0 r) = ((g (128 * (4 * p + s.val) + r.val) (4 + h.val) : ℝ) : EReal) := by
  rw [rowTile_at, hGr _ _ (show 4 + h.val < 12 by omega), ← pos_eq]

/-- The gates and rows of head `h`. -/
def bH (h : ℕ) (t : ℕ) : ℝ := g t h
def gH (h : ℕ) (t : ℕ) : ℝ := g t (4 + h)
def rH (x : ℕ → ℕ → ℝ) (h : ℕ) (t d : ℕ) : ℝ := x t (128 * h + d)

include hG hSp hK hV in
/-- The carried stabiliser is a real, and the carried state the plain state times its exponential's inverse: so before every chunk. -/
theorem at_val (h : Fin 4) (h0 : ∃ μ : ℝ, (∀ j, Mc (ix3 h 0 j) = (μ : EReal)) ∧
      ∀ d j, Sc (ix3 h d j) = ((Real.exp (-μ) * Tn (bH g h.val) (gH g h.val) (rH k h.val) (rH v h.val) (4 * p) d j : ℝ) : EReal)) :
    ∀ (n : ℕ) (hn : n ≤ 4), ∃ μ : ℝ, (∀ j, mAt Gc Sp Mc h n hn (ix2 0 j) = (μ : EReal)) ∧
      ∀ d j, sAt K Vv Gc Sp Mc Sc h n hn (ix2 d j)
        = ((Real.exp (-μ) * Tn (bH g h.val) (gH g h.val) (rH k h.val) (rH v h.val) (4 * p + n) d j : ℝ) : EReal)
  | 0, _ => by
    obtain ⟨μ, e0, e1⟩ := h0
    refine ⟨μ, fun j => ?_, fun d j => ?_⟩
    · unfold mAt
      rw [mHead_at, e0]
    · unfold sAt
      rw [sHead_at, e1, Nat.add_zero]
  | n + 1, hn => by
    obtain ⟨μ, e0, e1⟩ := at_val h h0 n (by omega)
    have hb : ∀ r j, bCol Gc Sp h ⟨n, hn⟩ (ix2 r j) = ((bH g h.val (128 * (4 * p + n) + r.val) : ℝ) : EReal) :=
      colRep g p hG hSp _ _ ⟨n, hn⟩
    have hg : ∀ r j, gCol Gc Sp h ⟨n, hn⟩ (ix2 r j) = ((gH g h.val (128 * (4 * p + n) + r.val) : ℝ) : EReal) :=
      colRep g p hG hSp _ _ ⟨n, hn⟩
    have hc : ∀ r j, cCol Gc Sp h ⟨n, hn⟩ (ix2 r j) = ((g (128 * (4 * p + n) + r.val) (8 + h.val) : ℝ) : EReal) :=
      colRep g p hG hSp _ _ ⟨n, hn⟩
    have hk : ∀ r d, tile K h ⟨n, hn⟩ (ix3 0 r d) = ((rH k h.val (128 * (4 * p + n) + r.val) d.val : ℝ) : EReal) := tileK k p hK h ⟨n, hn⟩
    have hv : ∀ r d, tile Vv h ⟨n, hn⟩ (ix3 0 r d) = ((rH v h.val (128 * (4 * p + n) + r.val) d.val : ℝ) : EReal) := tileK v p hV h ⟨n, hn⟩
    refine ⟨M (fun r => bH g h.val (128 * (4 * p + n) + r.val)) (fun r => g (128 * (4 * p + n) + r.val) (8 + h.val)) μ 127, fun j => ?_, fun d j => ?_⟩
    · unfold mAt
      exact mn_val (B := fun r => bH g h.val (128 * (4 * p + n) + r.val)) (C := fun r => g (128 * (4 * p + n) + r.val) (8 + h.val)) hb hc e0 j
    · unfold sAt
      exact st_val (B := fun r => bH g h.val (128 * (4 * p + n) + r.val)) (G := fun r => gH g h.val (128 * (4 * p + n) + r.val))
        (C := fun r => g (128 * (4 * p + n) + r.val) (8 + h.val)) (K := fun r d => rH k h.val (128 * (4 * p + n) + r.val) d.val)
        (V := fun r d => rH v h.val (128 * (4 * p + n) + r.val) d.val) hb hg hc e0 e1 hk hv d j

include hG hSp hGr hQ hK hV in
theorem o_val (hp : p < 32) (h s : Fin 4) (h0 : ∃ μ : ℝ, (∀ j, Mc (ix3 h 0 j) = (μ : EReal)) ∧
      ∀ d j, Sc (ix3 h d j) = ((Real.exp (-μ) * Tn (bH g h.val) (gH g h.val) (rH k h.val) (rH v h.val) (4 * p) d j : ℝ) : EReal)) (r j : Fin 128) :
    oAt Q K Vv Gc Gr Sp W Mc Sc h s (ix3 0 r j)
      = ((hv (bH g h.val) (gH g h.val) (rH q h.val) (rH k h.val) (rH v h.val) (128 * (4 * p + s.val) + r.val) j.val : ℝ) : EReal)
        * Ideal.rsqrt ((((∑ d : Fin 128, hv (bH g h.val) (gH g h.val) (rH q h.val) (rH k h.val) (rH v h.val) (128 * (4 * p + s.val) + r.val) d.val
            * hv (bH g h.val) (gH g h.val) (rH q h.val) (rH k h.val) (rH v h.val) (128 * (4 * p + s.val) + r.val) d.val) / 128 : ℝ) : EReal)
          + Ideal.ofBits FTy.f32 897988541#32) * W (ix3 0 0 ⟨128 * h.val + j.val, by omega⟩) := by
  obtain ⟨μ, e0, e1⟩ := at_val g k v p hG hSp hK hV h h0 s.val (by omega)
  have hb : ∀ r j, bCol Gc Sp h s (ix2 r j) = ((bH g h.val (128 * (4 * p + s.val) + r.val) : ℝ) : EReal) := colRep g p hG hSp _ _ s
  have hc : ∀ r j, cCol Gc Sp h s (ix2 r j) = ((g (128 * (4 * p + s.val) + r.val) (8 + h.val) : ℝ) : EReal) := colRep g p hG hSp _ _ s
  have hr : ∀ r, rowTile Gr h s (ix3 0 0 r) = ((gH g h.val (128 * (4 * p + s.val) + r.val) : ℝ) : EReal) := rowT g p hGr h s
  have hq : ∀ r d, tile Q h s (ix3 0 r d) = ((rH q h.val (128 * (4 * p + s.val) + r.val) d.val : ℝ) : EReal) := tileK q p hQ h s
  have hk : ∀ r d, tile K h s (ix3 0 r d) = ((rH k h.val (128 * (4 * p + s.val) + r.val) d.val : ℝ) : EReal) := tileK k p hK h s
  have hv' : ∀ r d, tile Vv h s (ix3 0 r d) = ((rH v h.val (128 * (4 * p + s.val) + r.val) d.val : ℝ) : EReal) := tileK v p hV h s
  have hP : 4 * p + s.val < 128 := by omega
  unfold oAt
  rw [ou_val (B := fun r => bH g h.val (128 * (4 * p + s.val) + r.val)) (G := fun r => gH g h.val (128 * (4 * p + s.val) + r.val))
        (C := fun r => g (128 * (4 * p + s.val) + r.val) (8 + h.val)) (Q := fun r d => rH q h.val (128 * (4 * p + s.val) + r.val) d.val)
        (K := fun r d => rH k h.val (128 * (4 * p + s.val) + r.val) d.val)
        (V := fun r d => rH v h.val (128 * (4 * p + s.val) + r.val) d.val) hb hc e0 hr e1 hq hk hv' (normTile W h) r j, normTile_at]
  simp only [hR_eq (bH g h.val) (gH g h.val) (rH q h.val) (rH k h.val) (rH v h.val) (4 * p + s.val) hP]

end Step

end Cert.Mlstm
end
-- ==== Proof.MlstmRun.lean ====
module

public import proofs.«01_k».proof.Proof.MlstmStep
public import Idealize.ShloMosaic.Lib.StableHlo.ReadAt
public import Idealize.ShloMosaic.Lib.WordCmp

@[expose] public section

set_option maxRecDepth 16384

noncomputable section

open Idealize.ShloMosaic Idealize.ShloMosaic.TcCoe Idealize.SL.Sem
open scoped BigOperators

namespace Cert.Mlstm

open Cert.Kernel6Ideal Cert.Kernel6Ideal.Gen

variable (m : (ℓ : Loc nD τ sig) → Buf (Elt Ideal) ℓ)

/-! ## The blocks a point reads -/

theorem idx : ∀ t : Fin cfg0.N, win0_0.index t = ![t.val / 32, t.val % 32, 0] ∧ win0_1.index t = ![t.val / 32, t.val % 32, 0] ∧
    win0_2.index t = ![t.val / 32, t.val % 32, 0] ∧ win0_3.index t = ![t.val / 32, t.val % 32, 0] ∧ win0_4.index t = ![t.val / 32, 0, t.val % 32] ∧
    win0_5.index t = ![0, 0] ∧ win0_6.index t = ![0, 0, 0] ∧ win0_7.index t = ![t.val / 32, t.val % 32, 0] :=
  (by decide +kernel : ∀ t : Fin grid0.N, _)

theorem rd0 (c : Dev nD) (t : Fin cfg0.N) (hN : t.val < 64) (r n : Fin 512) :
    (iblk m c 0 t : Vec Ideal S1x512x512 .bf16) (ix3 0 r n)
      = m ((c : Thread nD τ).loc main_arg0) (ix3 ⟨t.val / 32, by omega⟩ ⟨t.val % 32 * 512 + r.val, by omega⟩ n) := by
  blk_simp [iblk]
  entry_read
  pointwise
  blk_ext [idx t]

theorem rd1 (c : Dev nD) (t : Fin cfg0.N) (hN : t.val < 64) (r n : Fin 512) :
    (iblk m c 1 t : Vec Ideal S1x512x512 .bf16) (ix3 0 r n)
      = m ((c : Thread nD τ).loc main_arg1) (ix3 ⟨t.val / 32, by omega⟩ ⟨t.val % 32 * 512 + r.val, by omega⟩ n) := by
  blk_simp [iblk]
  entry_read
  pointwise
  blk_ext [idx t]

theorem rd2 (c : Dev nD) (t : Fin cfg0.N) (hN : t.val < 64) (r n : Fin 512) :
    (iblk m c 2 t : Vec Ideal S1x512x512 .bf16) (ix3 0 r n)
      = m ((c : Thread nD τ).loc main_arg2) (ix3 ⟨t.val / 32, by omega⟩ ⟨t.val % 32 * 512 + r.val, by omega⟩ n) := by
  blk_simp [iblk]
  entry_read
  pointwise
  blk_ext [idx t]

theorem rd3 (c : Dev nD) (t : Fin cfg0.N) (hN : t.val < 64) (r : Fin 512) (n : Fin 128) :
    (iblk m c 3 t : Vec Ideal S1x512x128 .f32) (ix3 0 r n)
      = m ((c : Thread nD τ).loc main_arg3) (ix3 ⟨t.val / 32, by omega⟩ ⟨t.val % 32 * 512 + r.val, by omega⟩ n) := by
  blk_simp [iblk]
  entry_read
  pointwise
  blk_ext [idx t]

/-- What the lines before the launch leave in the arrays the launch reads. -/
theorem e1 (c : Dev nD) (b : Fin 2) (n : Fin 16) (s : Fin 16384) :
    (V m c main_v1 : Vec Ideal S2x16x16384 .f32) (ix3 b n s) = m ((c : Thread nD τ).loc main_arg3) (ix3 b s ⟨n.val, by omega⟩) := by
  simp only [V, List.flatten_cons, List.flatten_nil, List.cons_append, List.nil_append, List.append_nil, hostOps0, hostOps0_1, hostOps0_2,
    hostOps0_3, hostOps0_4]
  entry_read
  try simp -implicitDefEqProofs only [StableHlo.TRef.toBuf, StableHlo.TRef.ofBuf, cast_cast, cast_eq]
  pointwise

theorem e2 (c : Dev nD) (l : Fin 4) (n : Fin 512) :
    (V m c main_v2 : Vec Ideal S4x1x512 .f32) (ix3 l 0 n) = m ((c : Thread nD τ).loc main_arg4) (ix2 l n) := by
  simp only [V, List.flatten_cons, List.flatten_nil, List.cons_append, List.nil_append, List.append_nil, hostOps0, hostOps0_1, hostOps0_2,
    hostOps0_3, hostOps0_4]
  entry_read
  try simp -implicitDefEqProofs only [StableHlo.TRef.toBuf, StableHlo.TRef.ofBuf, cast_cast, cast_eq]
  pointwise

theorem rd4 (c : Dev nD) (t : Fin cfg0.N) (hN : t.val < 64) (r : Fin 512) (n : Fin 16) :
    (iblk m c 4 t : Vec Ideal S1x16x512 .f32) (ix3 0 n r)
      = m ((c : Thread nD τ).loc main_arg3) (ix3 ⟨t.val / 32, by omega⟩ ⟨t.val % 32 * 512 + r.val, by omega⟩ ⟨n.val, by omega⟩) := by
  refine Eq.trans ?_ (e1 m c ⟨t.val / 32, by omega⟩ n ⟨t.val % 32 * 512 + r.val, by omega⟩)
  blk_simp [iblk]
  blk_ext [idx t]

theorem rd6 (c : Dev nD) (t : Fin cfg0.N) (n : Fin 512) :
    (iblk m c 6 t : Vec Ideal S1x1x512 .f32) (ix3 0 0 n) = m ((c : Thread nD τ).loc main_arg4) (ix2 0 n) := by
  refine Eq.trans ?_ (e2 m c 0 n)
  blk_simp [iblk]
  blk_ext [idx t]

/-- The row's number modulo 128, and the column's divided by 128, as the lines compute them on words. -/
theorem rem_word : ∀ a : Fin 384, (Scalar.select
          (IntOp.andi
            (IntOp.cmpi CmpIPredicate.ne
              (IntOp.cmpi CmpIPredicate.slt
                (IntOp.remsi ArithUnit.host (BitVec.ofNat 32 a.val)
                  (Scalar.select (IntOp.cmpi CmpIPredicate.eq 128#32 0#32) 1#32 128#32))
                0#32)
              (IntOp.cmpi CmpIPredicate.slt (Scalar.select (IntOp.cmpi CmpIPredicate.eq 128#32 0#32) 1#32 128#32) 0#32))
            (IntOp.cmpi CmpIPredicate.ne
              (IntOp.remsi ArithUnit.host (BitVec.ofNat 32 a.val)
                (Scalar.select (IntOp.cmpi CmpIPredicate.eq 128#32 0#32) 1#32 128#32))
              0#32))
          (IntOp.addi
            (IntOp.remsi ArithUnit.host (BitVec.ofNat 32 a.val)
              (Scalar.select (IntOp.cmpi CmpIPredicate.eq 128#32 0#32) 1#32 128#32))
            (Scalar.select (IntOp.cmpi CmpIPredicate.eq 128#32 0#32) 1#32 128#32))
          (IntOp.remsi ArithUnit.host (BitVec.ofNat 32 a.val)
            (Scalar.select (IntOp.cmpi CmpIPredicate.eq 128#32 0#32) 1#32 128#32)) : BitVec 32) = BitVec.ofNat 32 (a.val % 128) := by
  decide +kernel

theorem div_word : ∀ j : Fin 1536, (Scalar.select
          (IntOp.andi
            (IntOp.cmpi CmpIPredicate.ne
              ((if BitVec.ofNat 32 j.val = 0 then 0 else if (BitVec.ofNat 32 j.val).msb = true then -1 else 1) : BitVec 32)
              ((if 128#32 = 0 then 0 else if (128#32).msb = true then -1 else 1) : BitVec 32))
            (IntOp.cmpi CmpIPredicate.ne (IntOp.remsi ArithUnit.host (BitVec.ofNat 32 j.val) 128#32) 0#32))
          (IntOp.subi (IntOp.divsi ArithUnit.host (BitVec.ofNat 32 j.val) 128#32) 1#32)
          (IntOp.divsi ArithUnit.host (BitVec.ofNat 32 j.val) 128#32) : BitVec 32) = BitVec.ofNat 32 (j.val / 128) := by
  decide +kernel

theorem e8 (c : Dev nD) (a : Fin 384) (j : Fin 1536) :
    (V m c main_v8 : Vec Ideal S384x1536 .bf16) (ix2 a j) = if a.val % 128 = j.val / 128 then (1 : EReal) else 0 := by
  simp only [V, List.flatten_cons, List.flatten_nil, List.cons_append, List.nil_append, List.append_nil, hostOps0, hostOps0_1, hostOps0_2,
    hostOps0_3, hostOps0_4]
  entry_read
  try simp -implicitDefEqProofs only [StableHlo.TRef.toBuf, StableHlo.TRef.ofBuf, cast_cast, cast_eq]
  pointwise
  refine (congrArg₂ (fun x y => FloatOps.uitofp (F := Ideal) FTy.bf16 (IntOp.cmpi CmpIPredicate.eq x y)) (rem_word a) (div_word j)).trans ?_
  show FloatOps.uitofp (F := Ideal) FTy.bf16 (IntOp.cmpi CmpIPredicate.eq (BitVec.ofNat 32 (a.val % 128)) (BitVec.ofNat 32 (j.val / 128))) = _
  have ha : a.val % 128 < 128 := Nat.mod_lt _ (by decide)
  have hj : j.val / 128 < 12 := by omega
  by_cases h : a.val % 128 = j.val / 128
  · rw [if_pos h, h, IntOp.cmpi]
    simp [FloatOps.uitofp]
  · have hn : ¬BitVec.ofNat 32 (a.val % 128) = BitVec.ofNat 32 (j.val / 128) := fun e => h (by
      have e' := congrArg BitVec.toNat e
      rw [BitVec.toNat_ofNat, BitVec.toNat_ofNat] at e'
      omega)
    rw [if_neg h]
    simp [FloatOps.uitofp, IntOp.cmpi, hn]

theorem rd5 (c : Dev nD) (t : Fin cfg0.N) (a : Fin 384) (j : Fin 1536) :
    (iblk m c 5 t : Vec Ideal S384x1536 .bf16) (ix2 a j) = if a.val % 128 = j.val / 128 then (1 : EReal) else 0 := by
  refine Eq.trans ?_ (e8 m c a j)
  blk_simp [iblk]
  blk_ext [idx t]

/-! ## Point after point -/

section Points

variable (c : Dev nD) (q k v g : ℕ → ℕ → ℕ → ℝ)

/-- The carried pair of a head before chunk `P` of sequence `b`. -/
def Inv (b P : ℕ) (h : Fin 4) (Mc : Vec Ideal S4x1x128 .f32) (Sc : Vec Ideal S4x128x256 .f32) : Prop :=
  ∃ μ : ℝ, (∀ j, Mc (ix3 h 0 j) = (μ : EReal)) ∧
    ∀ d j, Sc (ix3 h d j) = ((Real.exp (-μ) * Tn (bH (g b) h.val) (gH (g b) h.val) (rH (k b) h.val) (rH (v b) h.val) P d j : ℝ) : EReal)

theorem inv_zero (b : ℕ) (h : Fin 4) : Inv k v g b 0 h (k0_pay4 (F := Ideal)) (k0_pay3 (F := Ideal)) := by
  have z : (Ideal.ofBits FTy.f32 0#32 : EReal) = 0 := Ideal.ofBits_zero_f32
  refine ⟨0, fun j => ?_, fun d j => ?_⟩
  · rw [EReal.coe_zero]
    exact z
  · unfold Tn
    rw [mul_zero, EReal.coe_zero]
    exact z

variable (hq : ∀ (b : Fin 2) (s : Fin 16384) (n : Fin 512), m ((c : Thread nD τ).loc main_arg0) (ix3 b s n) = ((q b.val s.val n.val : ℝ) : EReal))
  (hk : ∀ (b : Fin 2) (s : Fin 16384) (n : Fin 512), m ((c : Thread nD τ).loc main_arg1) (ix3 b s n) = ((k b.val s.val n.val : ℝ) : EReal))
  (hv : ∀ (b : Fin 2) (s : Fin 16384) (n : Fin 512), m ((c : Thread nD τ).loc main_arg2) (ix3 b s n) = ((v b.val s.val n.val : ℝ) : EReal))
  (hg : ∀ (b : Fin 2) (s : Fin 16384) (n : Fin 128), n.val < 12 → m ((c : Thread nD τ).loc main_arg3) (ix3 b s n) = ((g b.val s.val n.val : ℝ) : EReal))

include hk hv hg in
theorem inv_step (t : Fin cfg0.N) (hN : t.val < 64) (h : Fin 4) (Mc : Vec Ideal S4x1x128 .f32) (Sc : Vec Ideal S4x128x256 .f32)
    (h0 : Inv k v g (t.val / 32) (4 * (t.val % 32)) h Mc Sc) : ∃ μ : ℝ,
      (∀ j, mAt (iblk m c 3 t) (iblk m c 5 t) Mc h 4 (le_refl 4) (ix2 0 j) = (μ : EReal)) ∧
      ∀ d j, sAt (iblk m c 1 t) (iblk m c 2 t) (iblk m c 3 t) (iblk m c 5 t) Mc Sc h 4 (le_refl 4) (ix2 d j)
        = ((Real.exp (-μ) * Tn (bH (g (t.val / 32)) h.val) (gH (g (t.val / 32)) h.val) (rH (k (t.val / 32)) h.val) (rH (v (t.val / 32)) h.val)
            (4 * (t.val % 32) + 4) d j : ℝ) : EReal) :=
  at_val (g (t.val / 32)) (k (t.val / 32)) (v (t.val / 32)) (t.val % 32)
    (fun r n hn => (rd3 m c t hN r n).trans (hg _ _ _ hn)) (rd5 m c t)
    (fun r n => (rd1 m c t hN r n).trans (hk _ _ _)) (fun r n => (rd2 m c t hN r n).trans (hv _ _ _)) h h0 4 (le_refl 4)

include hk hv hg in
theorem inv_all (h : Fin 4) : ∀ (t : ℕ) (ht : t < cfg0.N),
    Inv k v g (t / 32) (4 * (t % 32) + 4) h (outsAt0 m c t ht).2.2 (outsAt0 m c t ht).2.1
  | 0, ht => by
    obtain ⟨μ, e0, e1⟩ := inv_step m c k v g hk hv hg ⟨0, ht⟩ (show (0 : ℕ) < 64 by decide) h _ _ (inv_zero k v g (0 / 32) h)
    exact ⟨μ, fun j => (outA_m m c ⟨0, ht⟩ (show (0 : ℕ) % 32 = 0 by decide) h j).trans (e0 j), fun d j => (outA_s m c ⟨0, ht⟩ (show (0 : ℕ) % 32 = 0 by decide) h d j).trans (e1 d j)⟩
  | t + 1, ht => by
    have hN : t + 1 < 64 := lt_of_lt_of_eq ht N_0
    by_cases h0 : (t + 1) % 32 = 0
    · have hz := inv_zero k v g ((t + 1) / 32) h
      obtain ⟨μ, e0, e1⟩ := inv_step m c k v g hk hv hg ⟨t + 1, ht⟩ hN h (k0_pay4 (F := Ideal)) (k0_pay3 (F := Ideal)) (by
        show Inv k v g ((t + 1) / 32) (4 * ((t + 1) % 32)) h _ _
        rw [h0]
        exact hz)
      exact ⟨μ, fun j => (outA_m m c ⟨t + 1, ht⟩ h0 h j).trans (e0 j), fun d j => (outA_s m c ⟨t + 1, ht⟩ h0 h d j).trans (e1 d j)⟩
    · have hp := inv_all h t (Nat.lt_of_succ_lt ht)
      have ea : (t + 1) / 32 = t / 32 := by omega
      have eb : 4 * ((t + 1) % 32) = 4 * (t % 32) + 4 := by omega
      obtain ⟨μ, e0, e1⟩ := inv_step m c k v g hk hv hg ⟨t + 1, ht⟩ hN h (outsAt0 m c t (Nat.lt_of_succ_lt ht)).2.2 (outsAt0 m c t (Nat.lt_of_succ_lt ht)).2.1 (by
        show Inv k v g ((t + 1) / 32) (4 * ((t + 1) % 32)) h _ _
        rw [ea, eb]
        exact hp)
      exact ⟨μ, fun j => (outB_m m c ⟨t + 1, ht⟩ h0 h j).trans (e0 j), fun d j => (outB_s m c ⟨t + 1, ht⟩ h0 h d j).trans (e1 d j)⟩

/-- What the kernel leaves at a position: the head's quotient, normed. -/
def outR (b t h j : ℕ) (w : EReal) : EReal :=
  ((Cert.Mlstm.hv (bH (g b) h) (gH (g b) h) (rH (q b) h) (rH (k b) h) (rH (v b) h) t j : ℝ) : EReal)
    * Ideal.rsqrt ((((∑ d : Fin 128, Cert.Mlstm.hv (bH (g b) h) (gH (g b) h) (rH (q b) h) (rH (k b) h) (rH (v b) h) t d.val
        * Cert.Mlstm.hv (bH (g b) h) (gH (g b) h) (rH (q b) h) (rH (k b) h) (rH (v b) h) t d.val) / 128 : ℝ) : EReal)
      + Ideal.ofBits FTy.f32 897988541#32) * w

include hq hk hv hg in
theorem o_step (t : Fin cfg0.N) (hN : t.val < 64) (h s : Fin 4) (Mc : Vec Ideal S4x1x128 .f32) (Sc : Vec Ideal S4x128x256 .f32)
    (h0 : Inv k v g (t.val / 32) (4 * (t.val % 32)) h Mc Sc) (r j : Fin 128) :
    oAt (iblk m c 0 t) (iblk m c 1 t) (iblk m c 2 t) (iblk m c 3 t) (iblk m c 4 t) (iblk m c 5 t) (iblk m c 6 t) Mc Sc h s (ix3 0 r j)
      = outR q k v g (t.val / 32) (128 * (4 * (t.val % 32) + s.val) + r.val) h.val j.val
          (m ((c : Thread nD τ).loc main_arg4) (ix2 0 ⟨128 * h.val + j.val, by omega⟩)) := by
  refine (o_val (W := iblk m c 6 t) (g (t.val / 32)) (q (t.val / 32)) (k (t.val / 32)) (v (t.val / 32)) (t.val % 32)
    (fun r n hn => (rd3 m c t hN r n).trans (hg _ _ _ hn)) (rd5 m c t)
    (fun r n hn => (rd4 m c t hN r n).trans (hg _ _ _ hn)) (fun r n => (rd0 m c t hN r n).trans (hq _ _ _))
    (fun r n => (rd1 m c t hN r n).trans (hk _ _ _)) (fun r n => (rd2 m c t hN r n).trans (hv _ _ _)) (by omega) h s h0 r j).trans ?_
  rw [rd6 m c t]
  rfl

include hq hk hv hg in
theorem o_all (t : Fin cfg0.N) (h s : Fin 4) (r j : Fin 128) :
    (outsAt0 m c t.val t.isLt).1 (ix3 0 ⟨128 * s.val + r.val, by omega⟩ ⟨128 * h.val + j.val, by omega⟩)
      = outR q k v g (t.val / 32) (128 * (4 * (t.val % 32) + s.val) + r.val) h.val j.val
          (m ((c : Thread nD τ).loc main_arg4) (ix2 0 ⟨128 * h.val + j.val, by omega⟩)) := by
  have hN : t.val < 64 := lt_of_lt_of_eq t.isLt N_0
  by_cases h0 : t.val % 32 = 0
  · refine (outA_o m c t h0 h s r j).trans (o_step m c q k v g hq hk hv hg t hN h s _ _ ?_ r j)
    rw [h0]
    exact inv_zero k v g _ h
  · refine (outB_o m c t h0 h s r j).trans (o_step m c q k v g hq hk hv hg t hN h s _ _ ?_ r j)
    have hp := inv_all m c k v g hk hv hg h (t.val - 1) (Nat.lt_of_le_of_lt (Nat.sub_le _ _) t.isLt)
    have ea : t.val / 32 = (t.val - 1) / 32 := by omega
    have eb : 4 * (t.val % 32) = 4 * ((t.val - 1) % 32) + 4 := by omega
    rw [ea, eb]
    exact hp

end Points

end Cert.Mlstm
end
-- ==== Proof.MlstmRef.lean ====
module

public import proofs.«01_k».proof.Proof.Gen.Reference6Ideal.Read
public import proofs.«01_k».proof.Proof.MlstmStep
public import Idealize.ShloMosaic.Lib.WordCmp

@[expose] public section

set_option maxRecDepth 16384

noncomputable section

open Idealize.ShloMosaic Idealize.ShloMosaic.TcCoe Idealize.SL.Sem
open scoped BigOperators

namespace Cert.Mlstm

open Cert.Reference6Ideal Cert.Reference6Ideal.Read

/-! ## The reference over the reals -/

section Ref

variable (x0 x1 x2 : (⟨S2x16384x512, .bf16⟩ : BufTy).Contents (Elt Ideal)) (x3 : (⟨S2x16384x128, .f32⟩ : BufTy).Contents (Elt Ideal))
  (x4 : (⟨S4x512, .f32⟩ : BufTy).Contents (Elt Ideal)) (q k v g : ℕ → ℕ → ℕ → ℝ)

theorem zero_f32 : (FloatOps.ofBits (F := Ideal) .f32 0x00000000#32 : EReal) = 0 := Ideal.ofBits_zero_f32

/-! Rows of a head, gates of a head. -/

theorem v2_at (b : Fin 2) (h : Fin 4) (s : Fin 16384) (d : Fin 128) :
    (val_main_v2 (F := Ideal) x0 (ix4 b h s d) : EReal) = x0 (ix3 b s ⟨128 * h.val + d.val, by omega⟩) := by
  rw [val_main_v2_apply, val_main_v1_apply, val_main_v0_apply]
  refine congrArg x0 (funext fun a => Fin.ext ?_)
  match a with
  | ⟨0, _⟩ => (show (((b.val * 16384 + s.val) * 4 + h.val) * 128 + d.val) / 8388608 = b.val; omega)
  | ⟨1, _⟩ => (show (((b.val * 16384 + s.val) * 4 + h.val) * 128 + d.val) / 512 % 16384 = s.val; omega)
  | ⟨2, _⟩ => (show (((b.val * 16384 + s.val) * 4 + h.val) * 128 + d.val) % 512 = 128 * h.val + d.val; omega)

theorem v5_at (b : Fin 2) (h : Fin 4) (s : Fin 16384) (d : Fin 128) :
    (val_main_v5 (F := Ideal) x1 (ix4 b h s d) : EReal) = x1 (ix3 b s ⟨128 * h.val + d.val, by omega⟩) := v2_at x1 b h s d

theorem v8_at (b : Fin 2) (h : Fin 4) (s : Fin 16384) (d : Fin 128) :
    (val_main_v8 (F := Ideal) x2 (ix4 b h s d) : EReal) = x2 (ix3 b s ⟨128 * h.val + d.val, by omega⟩) := v2_at x2 b h s d

theorem v10_at (b : Fin 2) (h : Fin 4) (s : Fin 16384) :
    (val_main_v10 (F := Ideal) x3 (ix3 b h s) : EReal) = x3 (ix3 b s ⟨h.val, by omega⟩) := by
  rw [val_main_v10_apply, val_main_v9_apply]
  refine congrArg x3 (funext fun a => Fin.ext ?_)
  match a with
  | ⟨0, _⟩ => (show b.val = b.val; rfl)
  | ⟨1, _⟩ => (show s.val = s.val; rfl)
  | ⟨2, _⟩ => (show h.val = h.val; rfl)

theorem v12_at (b : Fin 2) (h : Fin 4) (s : Fin 16384) :
    (val_main_v12 (F := Ideal) x3 (ix3 b h s) : EReal) = x3 (ix3 b s ⟨4 + h.val, by omega⟩) := by
  rw [val_main_v12_apply, val_main_v11_apply]
  refine congrArg x3 (funext fun a => Fin.ext ?_)
  match a with
  | ⟨0, _⟩ => (show b.val = b.val; rfl)
  | ⟨1, _⟩ => (show s.val = s.val; rfl)
  | ⟨2, _⟩ => (show 4 + h.val = 4 + h.val; rfl)

/-- The log decay of a whole chunk. -/
theorem v16_at (b : Fin 2) (h : Fin 4) (p : Fin 128) :
    (val_main_v16 (F := Ideal) x3 (ix3 b h p) : EReal) = x3 (ix3 b ⟨128 * p.val + 127, by omega⟩ ⟨h.val, by omega⟩) := by
  rw [val_main_v16_apply, val_main_v15_apply, val_main_v14_apply, ← v10_at x3 b h ⟨128 * p.val + 127, by omega⟩]
  refine congrArg (val_main_v10 (F := Ideal) x3) (funext fun a => Fin.ext ?_)
  have hp := p.isLt
  have hh := h.isLt
  have hb := b.isLt
  have ea : ((b.val * 4 + h.val) * 128 + p.val) / 512 = b.val := by omega
  have eb : ((b.val * 4 + h.val) * 128 + p.val) / 128 % 4 = h.val := by omega
  have ec : ((b.val * 4 + h.val) * 128 + p.val) / 1 % 128 = p.val := by omega
  match a with
  | ⟨0, _⟩ =>
    show (((((b.val * 4 + h.val) * 128 + p.val) / 512 * 4 + ((b.val * 4 + h.val) * 128 + p.val) / 128 % 4) * 128 + ((b.val * 4 + h.val) * 128 + p.val) / 1 % 128) * 128 + 127) / 65536 = b.val
    rw [ea, eb, ec]
    omega
  | ⟨1, _⟩ =>
    show (((((b.val * 4 + h.val) * 128 + p.val) / 512 * 4 + ((b.val * 4 + h.val) * 128 + p.val) / 128 % 4) * 128 + ((b.val * 4 + h.val) * 128 + p.val) / 1 % 128) * 128 + 127) / 16384 % 4 = h.val
    rw [ea, eb, ec]
    omega
  | ⟨2, _⟩ =>
    show (((((b.val * 4 + h.val) * 128 + p.val) / 512 * 4 + ((b.val * 4 + h.val) * 128 + p.val) / 128 % 4) * 128 + ((b.val * 4 + h.val) * 128 + p.val) / 1 % 128) * 128 + 127) % 16384 = 128 * p.val + 127
    rw [ea, eb, ec]
    omega

theorem v23_at (P p : Fin 128) : val_main_v23 (F := Ideal) (ix2 P p) = BitVec.ofBool (decide (p.val < P.val)) := by
  rw [val_main_v23_apply, val_main_v21_apply, val_main_v18_apply, val_main_v17_apply, val_main_v22_apply, val_main_v20_apply, val_main_v19_apply]
  show IntOp.cmpi .slt (BitVec.ofNat 32 p.val) (BitVec.ofNat 32 P.val) = _
  word_cmp

theorem v38_at (t s : Fin 16384) : val_main_v38 (F := Ideal) (ix2 t s) = BitVec.ofBool (decide (s.val ≤ t.val)) := by
  rw [val_main_v38_apply, val_main_v36_apply, val_main_v33_apply, val_main_v32_apply, val_main_v37_apply, val_main_v35_apply, val_main_v34_apply]
  show IntOp.cmpi .sle (BitVec.ofNat 32 s.val) (BitVec.ofNat 32 t.val) = _
  word_cmp

theorem v25_at (b : Fin 2) (h : Fin 4) (P p : Fin 128) :
    (val_main_v25 (F := Ideal) x3 (ix4 b h P p) : EReal)
      = if p.val < P.val then x3 (ix3 b ⟨128 * p.val + 127, by omega⟩ ⟨h.val, by omega⟩) else (0 : EReal) := by
  rw [val_main_v25_apply, val_main_call0_v1_apply, val_main_call0_v2_apply, val_main_v24_apply, val_main_call0_v3_apply, val_main_call0_v0_apply, val_main_cst_apply]
  have ha : idx_main_call0_v1 (ix4 b h P p) = ix2 P p := by
    funext a
    match a with
    | ⟨0, _⟩ => rfl
    | ⟨1, _⟩ => rfl
  have hb : idx_main_v24 (idx_main_call0_v2 (ix4 b h P p)) = ix3 b h p := by
    funext a
    match a with
    | ⟨0, _⟩ => rfl
    | ⟨1, _⟩ => rfl
    | ⟨2, _⟩ => rfl
  rw [ha, hb, v23_at, v16_at, zero_f32]
  by_cases hp : p.val < P.val
  · simp [Scalar.select, hp]
  · simp [Scalar.select, hp]

variable (h0 : ∀ (b : Fin 2) (s : Fin 16384) (n : Fin 512), x0 (ix3 b s n) = ((q b.val s.val n.val : ℝ) : EReal))
  (h1 : ∀ (b : Fin 2) (s : Fin 16384) (n : Fin 512), x1 (ix3 b s n) = ((k b.val s.val n.val : ℝ) : EReal))
  (h2 : ∀ (b : Fin 2) (s : Fin 16384) (n : Fin 512), x2 (ix3 b s n) = ((v b.val s.val n.val : ℝ) : EReal))
  (h3 : ∀ (b : Fin 2) (s : Fin 16384) (n : Fin 128), n.val < 12 → x3 (ix3 b s n) = ((g b.val s.val n.val : ℝ) : EReal))

include h3 in
/-- The log decay of the chunks before a chunk. -/
theorem v26_at (b : Fin 2) (h : Fin 4) (P : Fin 128) :
    (val_main_v26 (F := Ideal) x3 (ix3 b h P) : EReal) = ((bef (bH (g b.val) h.val) P.val : ℝ) : EReal) := by
  rw [val_main_v26_apply, val_main_cst_0_apply, zero_f32, zero_add]
  have e : ∀ p : Fin 128, idx_main_v26 (ix3 b h P) p = ix4 b h P p := fun p => by
    funext a
    match a with
    | ⟨0, _⟩ => rfl
    | ⟨1, _⟩ => rfl
    | ⟨2, _⟩ => rfl
    | ⟨3, _⟩ => rfl
  have e' : ∀ p : Fin 128, (val_main_v25 (F := Ideal) x3 (idx_main_v26 (ix3 b h P) p) : EReal)
      = ((if p.val < P.val then bH (g b.val) h.val (128 * p.val + 127) else 0 : ℝ) : EReal) := fun p => by
    rw [e, v25_at]
    split
    · exact h3 _ _ _ (show h.val < 12 by omega)
    · exact EReal.coe_zero.symm
  refine (Finset.sum_congr rfl fun p _ => e' p).trans ?_
  rw [← coe_sum]
  refine congrArg (fun x : ℝ => (x : EReal)) ?_
  rw [Fin.sum_univ_eq_sum_range (fun p => if p < P.val then bH (g b.val) h.val (128 * p + 127) else 0) 128]
  unfold bef
  rw [← Finset.sum_filter]
  refine Finset.sum_congr ?_ fun _ _ => rfl
  ext p
  rw [Finset.mem_filter, Finset.mem_range, Finset.mem_range]
  omega

include h3 in
/-- The log decay from the start of the sequence. -/
theorem v31_at (b : Fin 2) (h : Fin 4) (s : Fin 16384) :
    (val_main_v31 (F := Ideal) x3 (ix3 b h s) : EReal) = ((fAll (bH (g b.val) h.val) s.val : ℝ) : EReal) := by
  rw [val_main_v31_apply]
  have e : idx_main_v31 (ix3 b h s) = ix4 b h ⟨s.val / 128, by omega⟩ ⟨s.val % 128, by omega⟩ := by
    funext a
    match a with
    | ⟨0, _⟩ => exact Fin.ext (show ((b.val * 4 + h.val) * 16384 + s.val) / 65536 = b.val by omega)
    | ⟨1, _⟩ => exact Fin.ext (show ((b.val * 4 + h.val) * 16384 + s.val) / 16384 % 4 = h.val by omega)
    | ⟨2, _⟩ => exact Fin.ext (show ((b.val * 4 + h.val) * 16384 + s.val) / 128 % 128 = s.val / 128 by omega)
    | ⟨3, _⟩ => exact Fin.ext (show ((b.val * 4 + h.val) * 16384 + s.val) % 128 = s.val % 128 by omega)
  have e27 : idx_main_v27 (ix4 b h ⟨s.val / 128, by omega⟩ ⟨s.val % 128, by omega⟩) = ix3 b h s := by
    funext a
    match a with
    | ⟨0, _⟩ => exact Fin.ext (show (((b.val * 4 + h.val) * 128 + s.val / 128) * 128 + s.val % 128) / 65536 = b.val by omega)
    | ⟨1, _⟩ => exact Fin.ext (show (((b.val * 4 + h.val) * 128 + s.val / 128) * 128 + s.val % 128) / 16384 % 4 = h.val by omega)
    | ⟨2, _⟩ => exact Fin.ext (show (((b.val * 4 + h.val) * 128 + s.val / 128) * 128 + s.val % 128) % 16384 = s.val by omega)
  have e29 : idx_main_v28 (idx_main_v29 (ix4 b h ⟨s.val / 128, by omega⟩ ⟨s.val % 128, by omega⟩)) = ix3 b h ⟨s.val / 128, by omega⟩ := by
    funext a
    match a with
    | ⟨0, _⟩ => rfl
    | ⟨1, _⟩ => rfl
    | ⟨2, _⟩ => rfl
  rw [e, val_main_v30_apply, val_main_v27_apply, val_main_v29_apply, val_main_v28_apply, e27, e29, v10_at, v26_at x3 g h3]
  refine (congrArg (· + ((bef (bH (g b.val) h.val) (s.val / 128) : ℝ) : EReal)) (h3 b s ⟨h.val, by omega⟩ (show h.val < 12 by omega))).trans ?_
  exact (EReal.coe_add _ _).symm

include h3 in
theorem v47_at (b : Fin 2) (h : Fin 4) (t s : Fin 16384) :
    (val_main_v47 (F := Ideal) x3 (ix4 b h t s) : EReal)
      = ((Real.exp (fAll (bH (g b.val) h.val) t.val - fAll (bH (g b.val) h.val) s.val + (gH (g b.val) h.val s.val + bH (g b.val) h.val s.val)) : ℝ) : EReal) := by
  have ea : idx_main_v39 (idx_main_v41 (ix4 b h t s)) = ix3 b h t := by
    funext a
    match a with
    | ⟨0, _⟩ => rfl
    | ⟨1, _⟩ => rfl
    | ⟨2, _⟩ => rfl
  have eb : idx_main_v40 (idx_main_v42 (ix4 b h t s)) = ix3 b h s := by
    funext a
    match a with
    | ⟨0, _⟩ => rfl
    | ⟨1, _⟩ => rfl
    | ⟨2, _⟩ => rfl
  have ec : idx_main_v44 (idx_main_v45 (ix4 b h t s)) = ix3 b h s := by
    funext a
    match a with
    | ⟨0, _⟩ => rfl
    | ⟨1, _⟩ => rfl
    | ⟨2, _⟩ => rfl
  rw [val_main_v47_apply, val_main_v46_apply, val_main_v43_apply, val_main_v41_apply, val_main_v39_apply, val_main_v42_apply, val_main_v40_apply,
    val_main_v45_apply, val_main_v44_apply, ea, eb, ec, v31_at x3 g h3, v31_at x3 g h3, val_main_v13_apply, v12_at, v10_at,
    h3 _ _ _ (show 4 + h.val < 12 by omega), h3 _ _ _ (show h.val < 12 by omega)]
  show Ideal.exp (((fAll (bH (g b.val) h.val) t.val : ℝ) : EReal) - ((fAll (bH (g b.val) h.val) s.val : ℝ) : EReal)
    + (((gH (g b.val) h.val s.val : ℝ) : EReal) + ((bH (g b.val) h.val s.val : ℝ) : EReal))) = _
  rw [← EReal.coe_sub, ← EReal.coe_add, ← EReal.coe_add, Ideal.exp_coe]

include h3 in
theorem v48_at (b : Fin 2) (h : Fin 4) (t s : Fin 16384) :
    (val_main_v48 (F := Ideal) x3 (ix4 b h t s) : EReal) = ((wAll (bH (g b.val) h.val) (gH (g b.val) h.val) t.val s.val : ℝ) : EReal) := by
  rw [val_main_v48_apply, val_main_call1_v1_apply, val_main_call1_v2_apply, val_main_call1_v0_apply, val_main_cst_1_apply, v47_at x3 g h3]
  have ha : idx_main_call1_v1 (ix4 b h t s) = ix2 t s := by
    funext a
    match a with
    | ⟨0, _⟩ => rfl
    | ⟨1, _⟩ => rfl
  rw [ha, v38_at, zero_f32]
  unfold wAll
  by_cases hp : s.val ≤ t.val
  · simp [Scalar.select, hp]
  · simp [Scalar.select, hp]

include h0 h1 h3 in
theorem v50_at (b : Fin 2) (h : Fin 4) (t s : Fin 16384) :
    (val_main_v50 (F := Ideal) x0 x1 x3 (ix4 b h t s) : EReal)
      = ((wAll (bH (g b.val) h.val) (gH (g b.val) h.val) t.val s.val * (∑ d : Fin 128, rH (q b.val) h.val t.val d.val * rH (k b.val) h.val s.val d.val) : ℝ) : EReal) := by
  rw [val_main_v50_apply, v48_at x3 g h3, val_main_v49_apply]
  have e : ∀ d : Fin 128, ((val_main_v2 (F := Ideal) x0 (lidx_main_v49 (ix4 b h t s) d) : EReal) * (val_main_v5 (F := Ideal) x1 (ridx_main_v49 (ix4 b h t s) d) : EReal))
      = ((rH (q b.val) h.val t.val d.val * rH (k b.val) h.val s.val d.val : ℝ) : EReal) := fun d => by
    have ea : lidx_main_v49 (ix4 b h t s) d = ix4 b h t d := by
      funext a
      match a with
      | ⟨0, _⟩ => rfl
      | ⟨1, _⟩ => rfl
      | ⟨2, _⟩ => rfl
      | ⟨3, _⟩ => rfl
    have eb : ridx_main_v49 (ix4 b h t s) d = ix4 b h s d := by
      funext a
      match a with
      | ⟨0, _⟩ => rfl
      | ⟨1, _⟩ => rfl
      | ⟨2, _⟩ => rfl
      | ⟨3, _⟩ => rfl
    rw [ea, eb, v2_at, v5_at, h0, h1, ← EReal.coe_mul]
    rfl
  refine (congrArg (· * ((wAll (bH (g b.val) h.val) (gH (g b.val) h.val) t.val s.val : ℝ) : EReal)) (Finset.sum_congr rfl fun d _ => e d)).trans ?_
  show (_ : EReal) * _ = _
  rw [← coe_sum, ← EReal.coe_mul, mul_comm]

include h0 h1 h2 h3 in
theorem v58_at (b : Fin 2) (h : Fin 4) (t : Fin 16384) (j : Fin 128) :
    (val_main_v58 (F := Ideal) x0 x1 x2 x3 (ix4 b h t j) : EReal)
      = ((hv (bH (g b.val) h.val) (gH (g b.val) h.val) (rH (q b.val) h.val) (rH (k b.val) h.val) (rH (v b.val) h.val) t.val j.val : ℝ) : EReal) := by
  have e51 : (val_main_v51 (F := Ideal) x0 x1 x2 x3 (ix4 b h t j) : EReal)
      = ((∑ s : Fin 16384, wAll (bH (g b.val) h.val) (gH (g b.val) h.val) t.val s.val * (∑ d : Fin 128, rH (q b.val) h.val t.val d.val * rH (k b.val) h.val s.val d.val)
          * rH (v b.val) h.val s.val j.val : ℝ) : EReal) := by
    rw [val_main_v51_apply]
    refine Eq.trans (Finset.sum_congr rfl fun s _ => ?_) (coe_sum _ _).symm
    have ea : lidx_main_v51 (ix4 b h t j) s = ix4 b h t s := by
      funext a
      match a with
      | ⟨0, _⟩ => rfl
      | ⟨1, _⟩ => rfl
      | ⟨2, _⟩ => rfl
      | ⟨3, _⟩ => rfl
    have eb : ridx_main_v51 (ix4 b h t j) s = ix4 b h s j := by
      funext a
      match a with
      | ⟨0, _⟩ => rfl
      | ⟨1, _⟩ => rfl
      | ⟨2, _⟩ => rfl
      | ⟨3, _⟩ => rfl
    rw [ea, eb, v50_at x0 x1 x3 q k g h0 h1 h3, v8_at, h2]
    exact (EReal.coe_mul _ _).symm
  have e52 : (val_main_v52 (F := Ideal) x0 x1 x3 (ix3 b h t) : EReal)
      = ((∑ s : Fin 16384, wAll (bH (g b.val) h.val) (gH (g b.val) h.val) t.val s.val * (∑ d : Fin 128, rH (q b.val) h.val t.val d.val * rH (k b.val) h.val s.val d.val) : ℝ) : EReal) := by
    rw [val_main_v52_apply, val_main_cst_2_apply, zero_f32, zero_add]
    refine Eq.trans (Finset.sum_congr rfl fun s _ => ?_) (coe_sum _ _).symm
    have ea : idx_main_v52 (ix3 b h t) s = ix4 b h t s := by
      funext a
      match a with
      | ⟨0, _⟩ => rfl
      | ⟨1, _⟩ => rfl
      | ⟨2, _⟩ => rfl
      | ⟨3, _⟩ => rfl
    rw [ea, v50_at x0 x1 x3 q k g h0 h1 h3]
  have e57 : idx_main_v56 (idx_main_v57 (ix4 b h t j)) = ix3 b h t := by
    funext a
    match a with
    | ⟨0, _⟩ => rfl
    | ⟨1, _⟩ => rfl
    | ⟨2, _⟩ => rfl
  rw [val_main_v58_apply, val_main_v57_apply, val_main_v56_apply, e57, e51, val_main_v55_apply, val_main_v53_apply, e52, val_main_v54_apply, val_main_cst_3_apply]
  unfold hv
  generalize (∑ s : Fin 16384, wAll (bH (g b.val) h.val) (gH (g b.val) h.val) t.val s.val * (∑ d : Fin 128, rH (q b.val) h.val t.val d.val * rH (k b.val) h.val s.val d.val)
          * rH (v b.val) h.val s.val j.val) = x
  generalize (∑ s : Fin 16384, wAll (bH (g b.val) h.val) (gH (g b.val) h.val) t.val s.val * (∑ d : Fin 128, rH (q b.val) h.val t.val d.val * rH (k b.val) h.val s.val d.val)) = y
  have e1 : (FloatOps.ofBits (F := Ideal) .f32 0x3F800000#32 : EReal) = ((1 : ℝ) : EReal) := by
    rw [EReal.coe_one]
    exact Ideal.ofBits_one_f32
  show Ideal.div (x : EReal) (max (max (y : EReal) (-(y : EReal))) (FloatOps.ofBits (F := Ideal) .f32 0x3F800000#32 : EReal)) = _
  rw [e1, ← EReal.coe_neg, coe_max, coe_max, Ideal.div_coe (ne_of_gt (lt_of_lt_of_le one_pos (le_max_right _ _))), ← EReal.coe_mul, mul_one_div]
  rfl

end Ref

end Cert.Mlstm
end
-- ==== Proof.MlstmFin.lean ====
module

public import proofs.«01_k».proof.Proof.Gen.Kernel6Ideal.Value
public import proofs.«01_k».proof.Pre_finite
public import proofs.«01_k».proof.Proof.MlstmRun
public import proofs.«01_k».proof.Proof.MlstmRef
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.Mlstm

/-! ## The reference's norm -/

section RefNorm

open Cert.Reference6Ideal Cert.Reference6Ideal.Read

variable (x0 x1 x2 : (⟨S2x16384x512, .bf16⟩ : BufTy).Contents (Elt Ideal)) (x3 : (⟨S2x16384x128, .f32⟩ : BufTy).Contents (Elt Ideal))
  (x4 : (⟨S4x512, .f32⟩ : BufTy).Contents (Elt Ideal)) (q k v g : ℕ → ℕ → ℕ → ℝ)
  (h0 : ∀ (b : Fin 2) (s : Fin 16384) (n : Fin 512), x0 (ix3 b s n) = ((q b.val s.val n.val : ℝ) : EReal))
  (h1 : ∀ (b : Fin 2) (s : Fin 16384) (n : Fin 512), x1 (ix3 b s n) = ((k b.val s.val n.val : ℝ) : EReal))
  (h2 : ∀ (b : Fin 2) (s : Fin 16384) (n : Fin 512), x2 (ix3 b s n) = ((v b.val s.val n.val : ℝ) : EReal))
  (h3 : ∀ (b : Fin 2) (s : Fin 16384) (n : Fin 128), n.val < 12 → x3 (ix3 b s n) = ((g b.val s.val n.val : ℝ) : EReal))

theorem f32_128 : (FloatOps.ofBits (F := Ideal) .f32 0x43000000#32 : EReal) = ((128 : ℝ) : EReal) := by
  show Ideal.ofBits .f32 0x43000000#32 = _
  simp [Ideal.ofBits, Ideal.ieee]
  rw [← EReal.coe_mul]
  norm_num

include h0 h1 h2 h3

theorem v59_at (b : Fin 2) (t : Fin 16384) (h : Fin 4) (j : Fin 128) :
    (val_main_v59 (F := Ideal) x0 x1 x2 x3 (ix4 b t h j) : EReal)
      = ((hv (bH (g b.val) h.val) (gH (g b.val) h.val) (rH (q b.val) h.val) (rH (k b.val) h.val) (rH (v b.val) h.val) t.val j.val : ℝ) : EReal) := by
  have e : idx_main_v59 (ix4 b t h j) = ix4 b h t j := by
    funext a
    match a with
    | ⟨0, _⟩ => rfl
    | ⟨1, _⟩ => rfl
    | ⟨2, _⟩ => rfl
    | ⟨3, _⟩ => rfl
  rw [val_main_v59_apply, e, v58_at x0 x1 x2 x3 q k v g h0 h1 h2 h3]

theorem v67_at (b : Fin 2) (t : Fin 16384) (h : Fin 4) :
    (val_main_v67 (F := Ideal) x0 x1 x2 x3 (ix4 b t h 0) : EReal)
      = (((∑ d : Fin 128, hv (bH (g b.val) h.val) (gH (g b.val) h.val) (rH (q b.val) h.val) (rH (k b.val) h.val) (rH (v b.val) h.val) t.val d.val
          * hv (bH (g b.val) h.val) (gH (g b.val) h.val) (rH (q b.val) h.val) (rH (k b.val) h.val) (rH (v b.val) h.val) t.val d.val) / 128 : ℝ) : EReal) := by
  have e : idx_main_v65 (ix4 b t h (0 : Fin 1)) = ix3 b t h := by
    funext a
    match a with
    | ⟨0, _⟩ => rfl
    | ⟨1, _⟩ => rfl
    | ⟨2, _⟩ => rfl
  have e64 : (val_main_v64 (F := Ideal) x0 x1 x2 x3 (ix3 b t h) : EReal)
      = ((∑ d : Fin 128, hv (bH (g b.val) h.val) (gH (g b.val) h.val) (rH (q b.val) h.val) (rH (k b.val) h.val) (rH (v b.val) h.val) t.val d.val
          * hv (bH (g b.val) h.val) (gH (g b.val) h.val) (rH (q b.val) h.val) (rH (k b.val) h.val) (rH (v b.val) h.val) t.val d.val : ℝ) : EReal) := by
    rw [val_main_v64_apply, val_main_cst_4_apply, zero_f32, zero_add]
    refine Eq.trans (Finset.sum_congr rfl fun d _ => ?_) (coe_sum _ _).symm
    have ea : idx_main_v64 (ix3 b t h) d = ix4 b t h d := by
      funext a
      match a with
      | ⟨0, _⟩ => rfl
      | ⟨1, _⟩ => rfl
      | ⟨2, _⟩ => rfl
      | ⟨3, _⟩ => rfl
    rw [ea, val_main_v63_apply, v59_at x0 x1 x2 x3 q k v g h0 h1 h2 h3]
    exact (EReal.coe_mul _ _).symm
  rw [val_main_v67_apply, val_main_v65_apply, e, e64, val_main_v66_apply, val_main_cst_5_apply, f32_128]
  generalize (∑ d : Fin 128, hv (bH (g b.val) h.val) (gH (g b.val) h.val) (rH (q b.val) h.val) (rH (k b.val) h.val) (rH (v b.val) h.val) t.val d.val
          * hv (bH (g b.val) h.val) (gH (g b.val) h.val) (rH (q b.val) h.val) (rH (k b.val) h.val) (rH (v b.val) h.val) t.val d.val) = x
  show Ideal.div (x : EReal) ((128 : ℝ) : EReal) = _
  rw [Ideal.div_coe (by norm_num), ← EReal.coe_mul, mul_one_div]

/-- A result of the reference, read. -/
theorem v76_at (b : Fin 2) (t : Fin 16384) (h : Fin 4) (j : Fin 128) :
    (val_main_v76 (F := Ideal) x0 x1 x2 x3 x4 (ix3 b t ⟨128 * h.val + j.val, by omega⟩) : EReal)
      = outR q k v g b.val t.val h.val j.val (x4 (ix2 0 ⟨128 * h.val + j.val, by omega⟩)) := by
  have e76 : idx_main_v76 (ix3 b t ⟨128 * h.val + j.val, by omega⟩) = ix4 b t h j := by
    funext a
    match a with
    | ⟨0, _⟩ => exact Fin.ext (show ((b.val * 16384 + t.val) * 512 + (128 * h.val + j.val)) / 8388608 = b.val by omega)
    | ⟨1, _⟩ => exact Fin.ext (show ((b.val * 16384 + t.val) * 512 + (128 * h.val + j.val)) / 512 % 16384 = t.val by omega)
    | ⟨2, _⟩ => exact Fin.ext (show ((b.val * 16384 + t.val) * 512 + (128 * h.val + j.val)) / 128 % 4 = h.val by omega)
    | ⟨3, _⟩ => exact Fin.ext (show ((b.val * 16384 + t.val) * 512 + (128 * h.val + j.val)) % 128 = j.val by omega)
  have e71 : idx_main_v71 (ix4 b t h j) = ix4 b t h (0 : Fin 1) := by
    funext a
    match a with
    | ⟨0, _⟩ => rfl
    | ⟨1, _⟩ => rfl
    | ⟨2, _⟩ => rfl
    | ⟨3, _⟩ => rfl
  have e74 : (val_main_v74 (F := Ideal) x4 (ix4 b t h j) : EReal) = x4 (ix2 0 ⟨128 * h.val + j.val, by omega⟩) := by
    rw [val_main_v74_apply, val_main_v73_apply, val_main_v62_apply, val_main_v61_apply, val_main_v60_apply]
    refine congrArg x4 (funext fun a => Fin.ext ?_)
    match a with
    | ⟨0, _⟩ => rfl
    | ⟨1, _⟩ => (show (h.val * 128 + j.val) % 512 = 128 * h.val + j.val; omega)
  rw [val_main_v76_apply, e76, val_main_v75_apply, val_main_v72_apply, val_main_v71_apply, e71, e74, v59_at x0 x1 x2 x3 q k v g h0 h1 h2 h3,
    val_main_v70_apply, val_main_v69_apply, v67_at x0 x1 x2 x3 q k v g h0 h1 h2 h3, val_main_v68_apply, val_main_cst_6_apply]
  rfl

end RefNorm

/-! ## The precondition's four words -/

section Pre

variable [Cert.Pre_finite.Facts]

/-- Of a value below the infinity in size, the real it is. -/
theorem real_of_lt {x : EReal} (h : max x (-x) < ⊤) : x = ((x.toReal : ℝ) : EReal) := by
  refine (EReal.coe_toReal ?_ ?_).symm
  · rintro rfl
    exact absurd h (by simp)
  · rintro rfl
    exact absurd h (by simp)

theorem top_f32 : (FloatOps.ofBits (F := Ideal) .f32 0x7F800000#32 : EReal) = ⊤ := by
  show Ideal.ofBits .f32 0x7F800000#32 = _
  simp [Ideal.ofBits, Ideal.ieee]

theorem lt_of_cmp {x : EReal} (h : (FloatOps.cmpf (F := Ideal) (φ := .f32) .olt (max x (-x)) (FloatOps.ofBits (F := Ideal) .f32 0x7F800000#32) : BitVec 1) = 1#1) :
    max x (-x) < ⊤ := by
  rw [top_f32] at h
  by_contra hn
  have : (FloatOps.cmpf (F := Ideal) (φ := .f32) .olt (max x (-x)) (⊤ : EReal) : BitVec 1) = BitVec.ofBool (decide (max x (-x) < ⊤)) := rfl
  rw [this, decide_eq_false hn] at h
  exact absurd h (by decide)

variable (x0 x1 x2 : FVec Ideal Cert.Pre_finite.S2x16384x512 .bf16) (x3 : FVec Ideal Cert.Pre_finite.S2x16384x128 .f32)
  (x4 : FVec Ideal Cert.Pre_finite.S4x512 .f32)

theorem fin0 (h : (Cert.Pre_finite.fn (F := Ideal) x0 x1 x2 x3 x4).1 = fun _ => 1#1) (i : Cert.Pre_finite.S2x16384x512.Idx) :
    (x0 i : EReal) = (((x0 i : EReal).toReal : ℝ) : EReal) :=
  real_of_lt (lt_of_cmp (congrFun h i))

theorem fin1 (h : (Cert.Pre_finite.fn (F := Ideal) x0 x1 x2 x3 x4).2.1 = fun _ => 1#1) (i : Cert.Pre_finite.S2x16384x512.Idx) :
    (x1 i : EReal) = (((x1 i : EReal).toReal : ℝ) : EReal) :=
  real_of_lt (lt_of_cmp (congrFun h i))

theorem fin2 (h : (Cert.Pre_finite.fn (F := Ideal) x0 x1 x2 x3 x4).2.2.1 = fun _ => 1#1) (i : Cert.Pre_finite.S2x16384x512.Idx) :
    (x2 i : EReal) = (((x2 i : EReal).toReal : ℝ) : EReal) :=
  real_of_lt (lt_of_cmp (congrFun h i))

theorem fin3 (h : (Cert.Pre_finite.fn (F := Ideal) x0 x1 x2 x3 x4).2.2.2 = fun _ => 1#1) (b : Fin 2) (s : Fin 16384) (n : Fin 128) (hn : n.val < 12) :
    (x3 (ix3 b s n) : EReal) = (((x3 (ix3 b s n) : EReal).toReal : ℝ) : EReal) := by
  refine real_of_lt (lt_of_cmp ?_)
  have e := congrFun h (ix3 b s ⟨n.val, hn⟩)
  refine Eq.trans ?_ e
  have ei : x3 (ix3 b s n) = extractStridedSlice Cert.Pre_finite.S2x16384x12 ![0, 0, 0] x3 Cert.Pre_finite.Facts.slices_S2x16384x128_S2x16384x12_0_0_0 (ix3 b s ⟨n.val, hn⟩) := by
    refine congrArg x3 (funext fun a => Fin.ext ?_)
    match a with
    | ⟨0, _⟩ => (show b.val = 0 + b.val; omega)
    | ⟨1, _⟩ => (show s.val = 0 + s.val; omega)
    | ⟨2, _⟩ => (show n.val = 0 + n.val; omega)
  rw [ei]
  rfl

end Pre

/-! ## The array after the run -/

section Final

open Cert.Kernel6Ideal Cert.Kernel6Ideal.Gen
open Idealize.ShloMosaic.Pipeline (Dat)

variable (m : (ℓ : Loc nD τ sig) → Buf (Elt Ideal) ℓ)

/-- The reference of the kernel's own arguments. -/
def out (c : Dev nD) : Vec Ideal S2x16384x512 .f32 :=
  Cert.Reference6Ideal.Read.val_main_v76 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- An array of reals read at any three numbers. -/
def re {B S N : ℕ} (x : (⟨3, ![B, S, N]⟩ : Shape).Idx → EReal) (b s n : ℕ) : ℝ :=
  if h : b < B ∧ s < S ∧ n < N then (x (ix3 ⟨b, h.1⟩ ⟨s, h.2.1⟩ ⟨n, h.2.2⟩)).toReal else 0

theorem re_at {B S N : ℕ} (x : (⟨3, ![B, S, N]⟩ : Shape).Idx → EReal) (b : Fin B) (s : Fin S) (n : Fin N) :
    re x b.val s.val n.val = (x (ix3 b s n)).toReal := dif_pos ⟨b.isLt, s.isLt, n.isLt⟩

theorem split512 (r : Fin 512) : ∃ (s : Fin 4) (r' : Fin 128), r = ⟨128 * s.val + r'.val, by omega⟩ :=
  ⟨⟨r.val / 128, by omega⟩, ⟨r.val % 128, by omega⟩, Fin.ext (show r.val = 128 * (r.val / 128) + r.val % 128 by omega)⟩

/-- On finite arguments the kernel's array is the reference's. -/
theorem final [Cert.Pre_finite.Facts] (c : Dev nD)
    (p0 : (Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4))).1 = fun _ => 1#1)
    (p1 : (Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4))).2.1 = fun _ => 1#1)
    (p2 : (Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4))).2.2.1 = fun _ => 1#1)
    (p3 : (Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4))).2.2.2 = fun _ => 1#1) :
    (dats m 0 c).arrAt 7 (cfgs 0).N = out m c := by
  have hq : ∀ (b : Fin 2) (s : Fin 16384) (n : Fin 512), m ((c : Thread nD τ).loc main_arg0) (ix3 b s n) = ((re (m ((c : Thread nD τ).loc main_arg0)) b.val s.val n.val : ℝ) : EReal) :=
    fun b s n => (fin0 _ _ _ _ _ p0 (ix3 b s n)).trans (congrArg _ (re_at _ b s n).symm)
  have hk : ∀ (b : Fin 2) (s : Fin 16384) (n : Fin 512), m ((c : Thread nD τ).loc main_arg1) (ix3 b s n) = ((re (m ((c : Thread nD τ).loc main_arg1)) b.val s.val n.val : ℝ) : EReal) :=
    fun b s n => (fin1 _ _ _ _ _ p1 (ix3 b s n)).trans (congrArg _ (re_at _ b s n).symm)
  have hv' : ∀ (b : Fin 2) (s : Fin 16384) (n : Fin 512), m ((c : Thread nD τ).loc main_arg2) (ix3 b s n) = ((re (m ((c : Thread nD τ).loc main_arg2)) b.val s.val n.val : ℝ) : EReal) :=
    fun b s n => (fin2 _ _ _ _ _ p2 (ix3 b s n)).trans (congrArg _ (re_at _ b s n).symm)
  have hg : ∀ (b : Fin 2) (s : Fin 16384) (n : Fin 128), n.val < 12 → m ((c : Thread nD τ).loc main_arg3) (ix3 b s n) = ((re (m ((c : Thread nD τ).loc main_arg3)) b.val s.val n.val : ℝ) : EReal) :=
    fun b s n hn => (fin3 _ _ _ _ _ p3 b s n hn).trans (congrArg _ (re_at _ b s n).symm)
  generalize re (m ((c : Thread nD τ).loc main_arg0)) = q at hq
  generalize re (m ((c : Thread nD τ).loc main_arg1)) = k at hk
  generalize re (m ((c : Thread nD τ).loc main_arg2)) = v at hv'
  generalize re (m ((c : Thread nD τ).loc main_arg3)) = g at hg
  refine (dats m 0 c).arrAt_eq_of_covers 7 _ (by decide +kernel) fun t _ y => ?_
  blk_simp
  rw [after0_7]
  obtain ⟨z, r, j, rfl⟩ : ∃ (z : Fin 1) (r : Fin 512) (j : Fin 512), y = ix3 z r j := ⟨y 0, y 1, y 2, eq_ix3 y⟩
  obtain rfl : z = 0 := Subsingleton.elim _ _
  have hN : t.val < 64 := lt_of_lt_of_eq t.isLt N_0
  have hR : t.val % 32 * 512 + r.val < 16384 := by omega
  have he : (((cfg0.win 7).blk t).view.emb (ix3 0 r j)) = (ix3 ⟨t.val / 32, by omega⟩ ⟨t.val % 32 * 512 + r.val, hR⟩ j : S2x16384x512.Idx) := by
    blk_ext [idx t]
  refine Eq.trans ?_ (congrArg (out m c) he).symm
  obtain ⟨s, r', rfl⟩ := split512 r
  obtain ⟨h, j', rfl⟩ := split512 j
  refine (o_all m c q k v g hq hk hv' hg t h s r' j').trans ?_
  refine Eq.trans ?_ (v76_at (m ((c : Thread nD τ).loc main_arg0)) (m ((c : Thread nD τ).loc main_arg1))
    (m ((c : Thread nD τ).loc main_arg2)) (m ((c : Thread nD τ).loc main_arg3)) (m ((c : Thread nD τ).loc main_arg4)) q k v g hq hk hv' hg
    ⟨t.val / 32, by omega⟩ ⟨t.val % 32 * 512 + (128 * s.val + r'.val), hR⟩ h j').symm
  show _ = outR q k v g (t.val / 32) (t.val % 32 * 512 + (128 * s.val + r'.val)) h.val j'.val (m ((c : Thread nD τ).loc main_arg4) (ix2 0 ⟨128 * h.val + j'.val, by omega⟩))
  rw [pos_eq]

end Final

end Cert.Mlstm
end
-- ==== Proof.GatesCell.lean ====
module

public import proofs.«01_k».proof.Proof.Gen.Kernel7Ideal.Skeleton
public import proofs.«01_k».proof.Proof.MlstmCell
public import Idealize.ShloMosaic.Lib.Pointwise
public import Idealize.ShloMosaic.PureOps.Ideal.Laws
public import Idealize.ShloMosaic.Lib.Pipeline.ValueKit
public import Idealize.ShloMosaic.Lib.Claim
public import Idealize.ShloMosaic.Lib.WordCmp

@[expose] public section

set_option maxRecDepth 16384

noncomputable section

open Idealize.ShloMosaic Idealize.ShloMosaic.TcCoe Idealize.SL.Sem
open scoped BigOperators

namespace Cert.Gates

open Cert.Kernel7Ideal Cert.Kernel7Ideal.Gen

/-- The logarithm of the logistic function, as the kernel writes it. -/
def lsE (z : EReal) : EReal := min z 0 - Ideal.log1p (Ideal.exp (0 - max z (-z)))

/-- The same over the reals. -/
def ls (z : ℝ) : ℝ := min z 0 - Real.log (1 + Real.exp (-|z|))

theorem coe_abs (z : ℝ) : max (z : EReal) (-(z : EReal)) = ((|z| : ℝ) : EReal) := by
  rw [← EReal.coe_neg, Mlstm.coe_max]
  rfl

theorem coe_min' (a b : ℝ) : min (a : EReal) (b : EReal) = ((min a b : ℝ) : EReal) :=
  (EReal.coe_strictMono.monotone.map_min).symm

theorem log1p_real (x : ℝ) (hx : 0 < x) : Ideal.log1p (x : EReal) = ((Real.log (1 + x) : ℝ) : EReal) := by
  have h : (1 : EReal) + (x : EReal) = ((1 + x : ℝ) : EReal) := by rw [EReal.coe_add, EReal.coe_one]
  unfold Ideal.log1p
  rw [h]
  show (if 1 + x ≤ 0 then (⊥ : EReal) else _) = _
  rw [if_neg (by linarith)]

theorem lsE_real (z : ℝ) : lsE (z : EReal) = ((ls z : ℝ) : EReal) := by
  unfold lsE ls
  rw [coe_abs, zero_sub, ← EReal.coe_neg, ← EReal.coe_zero, coe_min']
  show _ - Ideal.log1p ((Real.exp (-|z|) : ℝ) : EReal) = _
  rw [log1p_real _ (Real.exp_pos _), EReal.coe_sub]

theorem vals_at (x : Vec Ideal S1x512x128 .f32) (b : Vec Ideal S1x1x128 .f32) (r : Fin 512) (l : Fin 128) (hl : l.val < 8) :
    k0_pay5 (F := Ideal) x b (ix2 r l) = lsE (x (ix3 0 r l) + b (ix3 0 0 l)) := by
  unfold k0_pay5 lsE
  pointwise
  word_cmp
  simp [hl]
  rfl

theorem tri_at (r s : Fin 512) : k0_pay7 (F := Ideal) (ix2 r s) = if s.val ≤ r.val then (1 : EReal) else 0 := by
  unfold k0_pay7 k0_pay6
  pointwise
  word_cmp

theorem cs_at (v : FVec Ideal S512x128 .f32) (T : FVec Ideal S512x512 .bf16) (hT : ∀ r s, T (ix2 r s) = if s.val ≤ r.val then (1 : EReal) else 0)
    (c : Vec Ideal S1x128 .f32) (l : Fin 128) (x : Fin 512 → ℝ) (hx : ∀ r, v (ix2 r l) = ((x r : ℝ) : EReal)) (r : Fin 512) :
    k0_pay14 (F := Ideal) v T c (ix2 r l) = ((∑ s : Fin 512, if s.val ≤ r.val then x s else 0 : ℝ) : EReal) + c (ix2 0 l) := by
  unfold k0_pay14 k0_pay13
  pointwise [hT, hx]
  have h1 : ¬256 + l.val < 128 := by omega
  have h2 : ¬256 + l.val - 128 < 128 := by omega
  have e3 : ∀ h, (⟨256 + l.val - 128 - 128, h⟩ : Fin 128) = l := fun h => Fin.ext (show 256 + l.val - 128 - 128 = l.val by omega)
  have z : ∀ s, ((x s : ℝ) : EReal) - ((x s : ℝ) : EReal) = 0 := fun s => by rw [← EReal.coe_sub, sub_self, EReal.coe_zero]
  simp only [dif_neg h1, dif_neg h2, e3, hx, z, sub_zero, mul_zero, Finset.sum_const_zero, add_zero]
  rw [Mlstm.coe_sum]
  refine congrArg (· + _) (Finset.sum_congr rfl fun s _ => ?_)
  split
  · rw [one_mul]
  · rw [zero_mul, EReal.coe_zero]

theorem w30 (a : Fin 384) (j : Fin 1024) : k0_pay30 (ix2 a j) = BitVec.ofBool (decide (a.val % 128 < 8)) := by
  unfold k0_pay30
  pointwise
  clear j
  revert a
  decide +kernel

theorem w31 (a : Fin 384) (j : Fin 1024) : k0_pay31 (ix2 a j) = BitVec.ofNat 32 (a.val % 128 * 128 + 64) := by
  unfold k0_pay31
  pointwise
  clear j
  revert a
  decide +kernel

theorem w32 : ∀ a : Fin 384, (Scalar.select
      (IntOp.andi
        (IntOp.cmpi CmpIPredicate.ne
          (IntOp.subi (BitVec.setWidth 32 (IntOp.cmpi CmpIPredicate.sgt (BitVec.ofNat 32 a.val) 0#32))
            (BitVec.setWidth 32 (IntOp.cmpi CmpIPredicate.slt (BitVec.ofNat 32 a.val) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 a.val) 128#32) 0#32))
      (IntOp.subi (IntOp.divsi ArithUnit.vector (BitVec.ofNat 32 a.val) 128#32) 1#32)
      (IntOp.divsi ArithUnit.vector (BitVec.ofNat 32 a.val) 128#32) : BitVec 32) = BitVec.ofNat 32 (a.val / 128) := by
  decide +kernel

theorem sel_place (p : Prop) [Decidable p] (j n k : ℕ) (hj : j < 1024) (hn : n + k < 65536) (x : EReal) :
    Scalar.select (IntOp.andi (BitVec.ofBool (decide p)) (IntOp.cmpi CmpIPredicate.eq (BitVec.ofNat 32 j)
      (IntOp.addi (BitVec.ofNat 32 n) (BitVec.ofNat 32 k)))) x 0 = if p ∧ j = n + k then x else 0 := by
  have e : IntOp.addi (BitVec.ofNat 32 n) (BitVec.ofNat 32 k) = BitVec.ofNat 32 (n + k) := (BitVec.ofNat_add n k).symm
  rw [e]
  have h : (BitVec.ofNat 32 j = BitVec.ofNat 32 (n + k)) ↔ j = n + k := by
    constructor
    · intro e
      have e' := congrArg BitVec.toNat e
      rw [BitVec.toNat_ofNat, BitVec.toNat_ofNat] at e'
      omega
    · rintro rfl
      rfl
  by_cases hp : p <;> by_cases hq : j = n + k <;> simp [Scalar.select, IntOp.andi, IntOp.cmpi, hp, hq, h]
  have hne : ¬BitVec.ofNat 32 j = BitVec.ofNat 32 (n + k) := fun e => hq (h.mp e)
  intro hc
  rw [beq_false_of_ne hne] at hc
  exact absurd hc (by decide)

/-- The constant minus the logarithm of `e` to base two is a real. -/
theorem cst_real : ∃ C : ℝ, Ideal.ofBits FTy.f32 3216550459#32 = ((C : ℝ) : EReal) := by
  refine ⟨-(12102203 / 8388608), ?_⟩
  simp [Ideal.ofBits, Ideal.ieee]
  rw [← EReal.coe_mul]
  norm_num

theorem place_at (y : FVec Ideal S512x128 .f32) (k : Vec Ideal S1x512x1024 .bf16) (r : Fin 512) (j : Fin 1024)
    (Y : Fin 128 → ℝ) (hy : ∀ l : Fin 128, l.val < 8 → y (ix2 r l) = ((Y l : ℝ) : EReal)) :
    k0_pay35 (F := Ideal) y (iota .tc S384x1024 32 [0] iota_S384x1024_d0_w32) (iota .tc S384x1024 32 [1] iota_S384x1024_d1_w32) k0_pay30 k0_pay31
      128#32 k0_pay32 0#32 k (ix2 r j)
      = k (ix3 0 r j) + if j.val % 128 = 64 then ((Y ⟨j.val / 128, by omega⟩ : ℝ) : EReal) * Ideal.ofBits FTy.f32 3216550459#32 else 0 := by
  unfold k0_pay35 k0_pay34 k0_pay33 k0_pay32
  pointwise [w30, w31]
  simp only [w32]
  obtain ⟨C, hC⟩ := cst_real
  rw [hC]
  have z : ∀ l : Fin 128, l.val < 8 → y (ix2 r l) * (C : EReal) - y (ix2 r l) * (C : EReal) = 0 := fun l hl => by
    rw [hy l hl, ← EReal.coe_mul, ← EReal.coe_sub, sub_self, EReal.coe_zero]
  have hj := j.isLt
  refine congrArg (_ + ·) ?_
  have hsel : ∀ (a : Fin 384) (x : EReal), Scalar.select (IntOp.andi (BitVec.ofBool (decide (a.val % 128 < 8))) (IntOp.cmpi CmpIPredicate.eq (BitVec.ofNat 32 j.val)
      (IntOp.addi (BitVec.ofNat 32 (a.val % 128 * 128 + 64)) (BitVec.ofNat 32 (a.val / 128))))) x 0
        = if a.val % 128 < 8 ∧ j.val = a.val % 128 * 128 + 64 + a.val / 128 then x else 0 := fun a x =>
    sel_place _ _ _ _ hj (by omega) x
  simp only [hsel]
  have big : ∀ a : Fin 384, a.val % 128 < 8 → ¬a.val < 128 → ∀ (h1 : ¬a.val < 128),
      (if h : a.val - 128 < 128 then y (ix2 r ⟨a.val - 128, h⟩) * (C : EReal) - y (ix2 r ⟨a.val - 128, h⟩) * (C : EReal)
        else y (ix2 r ⟨a.val - 128 - 128, by omega⟩) * (C : EReal) - y (ix2 r ⟨a.val - 128 - 128, by omega⟩) * (C : EReal)
          - (y (ix2 r ⟨a.val - 128 - 128, by omega⟩) * (C : EReal) - y (ix2 r ⟨a.val - 128 - 128, by omega⟩) * (C : EReal))) = 0 := by
    intro a h8 h1 _
    by_cases h : a.val - 128 < 128
    · rw [dif_pos h]
      exact z _ (show a.val - 128 < 8 by omega)
    · rw [dif_neg h, z _ (show a.val - 128 - 128 < 8 by omega), sub_zero]
  by_cases h64 : j.val % 128 = 64
  · rw [if_pos h64, Finset.sum_eq_single (⟨j.val / 128, by omega⟩ : Fin 384)]
    · have h2 : j.val / 128 < 128 := by omega
      rw [if_pos (show j.val / 128 % 128 < 8 ∧ j.val = j.val / 128 % 128 * 128 + 64 + j.val / 128 / 128 by omega), dif_pos h2,
        hy _ (show j.val / 128 < 8 by omega)]
    · intro a _ ha
      rw [if_neg]
      rintro ⟨h8, e⟩
      have ha3 := a.isLt
      have hd : a.val / 128 < 3 := by omega
      exact ha (Fin.ext (show a.val = j.val / 128 by omega))
    · exact fun h => absurd (Finset.mem_univ _) h
  · rw [if_neg h64]
    refine Finset.sum_eq_zero fun a _ => ?_
    split
    next h =>
      have ha3 := a.isLt
      have h1 : ¬a.val < 128 := by
        intro hlt
        have := h.2
        rw [Nat.mod_eq_of_lt hlt, Nat.div_eq_of_lt hlt] at this
        omega
      rw [dif_neg h1]
      exact big a h.1 h1 h1
    next => rfl

/-- A gate's lane. -/
def lane (n : Fin 8) : Fin 128 := ⟨n.val, by omega⟩

end Cert.Gates
end
-- ==== Proof.GatesRun.lean ====
module

public import proofs.«01_k».proof.Proof.GatesCell
public import proofs.«01_k».proof.Proof.Gen.Kernel7Ideal.Value
public import Idealize.ShloMosaic.Lib.StableHlo.ReadAt
public import Idealize.ShloMosaic.Lib.WordCmp
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.Pipeline Idealize.ShloMosaic.TcCoe Idealize.SL.Sem
open scoped BigOperators

namespace Cert.Gates

open Cert.Kernel7Ideal Cert.Kernel7Ideal.Gen

variable (m : (ℓ : Loc nD τ sig) → Buf (Elt Ideal) ℓ)

/-! ## The blocks a point reads -/

theorem idx : ∀ t : Fin cfg0.N, win0_0.index t = ![t.val / 32, t.val % 32, 0] ∧ win0_1.index t = ![0, 0, 0] ∧
    win0_2.index t = ![t.val / 32, t.val % 32, 0] ∧ win0_5.index t = ![t.val / 32, t.val % 32, 0] :=
  (by decide +kernel : ∀ t : Fin grid0.N, _)

theorem rd0 (c : Dev nD) (t : Fin cfg0.N) (hN : t.val < 64) (r : Fin 512) (n : Fin 128) :
    (iblk m c 0 t : Vec Ideal S1x512x128 .f32) (ix3 0 r n)
      = m ((c : Thread nD τ).loc main_arg0) (ix3 ⟨t.val / 32, by omega⟩ ⟨t.val % 32 * 512 + r.val, by omega⟩ n) := by
  blk_simp [iblk]
  entry_read
  pointwise
  blk_ext [idx t]

theorem rd2 (c : Dev nD) (t : Fin cfg0.N) (hN : t.val < 64) (r : Fin 512) (n : Fin 1024) :
    (iblk m c 2 t : Vec Ideal S1x512x1024 .bf16) (ix3 0 r n)
      = m ((c : Thread nD τ).loc main_arg4) (ix3 ⟨t.val / 32, by omega⟩ ⟨t.val % 32 * 512 + r.val, by omega⟩ n) := by
  blk_simp [iblk]
  entry_read
  pointwise
  blk_ext [idx t]

/-- What the lines before the launch leave of the biases. -/
theorem e2 (c : Dev nD) (l : Fin 4) (n : Fin 128) (hn : n.val < 8) :
    (V m c main_v2 : Vec Ideal S4x1x128 .f32) (ix3 l 0 n) = m ((c : Thread nD τ).loc main_arg1) (ix2 l ⟨n.val, hn⟩) := by
  simp only [V, List.flatten_cons, List.flatten_nil, List.cons_append, List.nil_append, List.append_nil, hostOps0]
  after_reads_at
  after_reads_simp
  pointwise
  exact dif_pos hn

theorem rd1 (c : Dev nD) (t : Fin cfg0.N) (n : Fin 128) (hn : n.val < 8) :
    (iblk m c 1 t : Vec Ideal S1x1x128 .f32) (ix3 0 0 n) = m ((c : Thread nD τ).loc main_arg1) (ix2 0 ⟨n.val, hn⟩) := by
  refine Eq.trans ?_ (e2 m c 0 n hn)
  blk_simp [iblk]
  blk_ext [idx t]

/-! ## What a point leaves -/

/-- The running sums of a chunk over what is carried in. -/
def cs (c : Dev nD) (t : Fin cfg0.N) (C : Vec Ideal S1x128 .f32) : FVec Ideal S512x128 .f32 :=
  k0_pay14 (F := Ideal) (k0_pay5 (iblk m c 0 t) (iblk m c 1 t)) k0_pay7 C

def kaV (c : Dev nD) (t : Fin cfg0.N) (C : Vec Ideal S1x128 .f32) : Vec Ideal S1x512x1024 .bf16 :=
  k0_pay36 (F := Ideal) (k0_pay35 (cs m c t C) (iota .tc S384x1024 32 [0] iota_S384x1024_d0_w32) (iota .tc S384x1024 32 [1] iota_S384x1024_d1_w32)
    k0_pay30 k0_pay31 128#32 k0_pay32 0#32 (iblk m c 2 t))

def carry (c : Dev nD) (t : Fin cfg0.N) (C : Vec Ideal S1x128 .f32) : Vec Ideal S1x128 .f32 :=
  k0_pay16 (F := Ideal) (k0_pay5 (iblk m c 0 t) (iblk m c 1 t)) k0_pay7 C

theorem l0 (c : Dev nD) (t : Fin cfg0.N) : View.ld (View.read (Elt Ideal) (ms0_0 t).view ((hs0_0 t).unread (iblk m c 0 t)))
    (Rect.unit ![0, 0, 0] S1x512x128.size inb_S1x512x128_S1x512x128_0_0_0) = (iblk m c 0 t : Vec Ideal S1x512x128 .f32) := by
  rw [Memref.IsWhole.read_unread]
  exact View.ld_unit_lit _ _ (by decide)

theorem l1 (c : Dev nD) (t : Fin cfg0.N) : View.ld (View.read (Elt Ideal) (ms0_1 t).view ((hs0_1 t).unread (iblk m c 1 t)))
    (Rect.unit ![0, 0, 0] S1x1x128.size inb_S1x1x128_S1x1x128_0_0_0) = (iblk m c 1 t : Vec Ideal S1x1x128 .f32) := by
  rw [Memref.IsWhole.read_unread]
  exact View.ld_unit_lit _ _ (by decide)

theorem l2 (c : Dev nD) (t : Fin cfg0.N) : View.ld (View.read (Elt Ideal) (ms0_2 t).view ((hs0_2 t).unread (iblk m c 2 t)))
    (Rect.unit ![0, 0, 0] S1x512x1024.size inb_S1x512x1024_S1x512x1024_0_0_0) = (iblk m c 2 t : Vec Ideal S1x512x1024 .bf16) := by
  rw [Memref.IsWhole.read_unread]
  exact View.ld_unit_lit _ _ (by decide)

theorem l3 (w : Vec Ideal S1x128 .f32) : (View.whole cc0_scratch0).readCov [(⟨Rect.unit ![0, 0] S1x128.size inb_S1x128_S1x128_0_0, w⟩ : View.Piece (Elt Ideal) S1x128 .f32)]
    (Rect.unit ![0, 0] S1x128.size inb_S1x128_S1x128_0_0).toLoadRect = w :=
  View.readCov_unit_lit _ _ _ (by decide)

theorem l4 (C : Vec Ideal S1x128 .f32) : View.ld C (Rect.unit ![0, 0] S1x128.size inb_S1x128_S1x128_0_0) = C :=
  View.ld_unit_lit _ _ (by decide)

theorem outB_c (c : Dev nD) (t : Fin cfg0.N) (h0 : ¬t.val % 32 = 0) :
    (outsAt0 m c t.val t.isLt).2.2.2.2.2.1 = carry m c t (outsAt0 m c (t.val - 1) (Nat.lt_of_le_of_lt (Nat.sub_le _ _) t.isLt)).2.2.2.2.2.1 := by
  rw [outsAt0_B m c t h0]
  frame_out
  rw [l0, l1, read_unread_whole]
  generalize (outsAt0 m c (t.val - 1) (Nat.lt_of_le_of_lt (Nat.sub_le _ _) t.isLt)).2.2.2.2.2.1 = C
  unfold carry k0_pay16 k0_pay14 k0_pay13
  rfl

theorem outB_k (c : Dev nD) (t : Fin cfg0.N) (h0 : ¬t.val % 32 = 0) :
    (outsAt0 m c t.val t.isLt).2.2.1 = kaV m c t (outsAt0 m c (t.val - 1) (Nat.lt_of_le_of_lt (Nat.sub_le _ _) t.isLt)).2.2.2.2.2.1 := by
  rw [outsAt0_B m c t h0]
  frame_out
  rw [l0, l1, read_unread_whole]
  generalize (outsAt0 m c (t.val - 1) (Nat.lt_of_le_of_lt (Nat.sub_le _ _) t.isLt)).2.2.2.2.2.1 = C
  rw [l4]
  unfold kaV cs k0_pay36 k0_pay35 k0_pay33 k0_pay34 k0_pay14 k0_pay13 k0_pay30 k0_pay31 k0_pay32
  rfl

theorem outA_c (c : Dev nD) (t : Fin cfg0.N) (h0 : t.val % 32 = 0) :
    (outsAt0 m c t.val t.isLt).2.2.2.2.2.1 = carry m c t (k0_pay2 (F := Ideal)) := by
  rw [outsAt0_A m c t h0]
  frame_out
  rw [l0, l1]
  unfold carry k0_pay16 k0_pay14 k0_pay13
  rfl

theorem outA_k (c : Dev nD) (t : Fin cfg0.N) (h0 : t.val % 32 = 0) :
    (outsAt0 m c t.val t.isLt).2.2.1 = kaV m c t (k0_pay2 (F := Ideal)) := by
  rw [outsAt0_A m c t h0]
  frame_out
  rw [l0, l1, l3]
  unfold kaV cs k0_pay36 k0_pay35 k0_pay33 k0_pay34 k0_pay14 k0_pay13 k0_pay30 k0_pay31 k0_pay32
  rfl

/-! ## Sums up to a position -/

theorem tri_sum (N r : ℕ) (hr : r < N) (g : ℕ → ℝ) : (∑ s : Fin N, if s.val ≤ r then g s.val else 0) = ∑ s ∈ Finset.range (r + 1), g s := by
  rw [Fin.sum_univ_eq_sum_range (fun s => if s ≤ r then g s else 0) N, ← Finset.sum_filter]
  refine Finset.sum_congr (Finset.ext fun a => ?_) fun _ _ => rfl
  simp only [Finset.mem_filter, Finset.mem_range]
  omega

theorem tri_add (P r : ℕ) (hr : r < 512) (g : ℕ → ℝ) : (∑ s : Fin 512, if s.val ≤ r then g (P + s.val) else 0) + ∑ s ∈ Finset.range P, g s
    = ∑ s ∈ Finset.range (P + (r + 1)), g s := by
  rw [tri_sum 512 r hr fun s => g (P + s), Finset.sum_range_add g P (r + 1), add_comm]

/-- The three arguments, as arrays of extended reals. -/
def A0 (c : Dev nD) : S2x16384x128.Idx → EReal := m ((c : Thread nD τ).loc main_arg0)

def A1 (c : Dev nD) : S4x8.Idx → EReal := m ((c : Thread nD τ).loc main_arg1)

def A4 (c : Dev nD) : S2x16384x1024.Idx → EReal := m ((c : Thread nD τ).loc main_arg4)

section Points

variable (c : Dev nD) (f : ℕ → ℕ → ℕ → ℝ)
  (hf : ∀ (b : Fin 2) (s : Fin 16384) (n : Fin 8), A0 m c (ix3 b s (lane n))
    + A1 m c (ix2 0 n) = ((f b.val s.val n.val : ℝ) : EReal))

/-- What is carried into a chunk: the sums over the positions before it. -/
def Inv (b P : ℕ) (C : Vec Ideal S1x128 .f32) : Prop :=
  ∀ l : Fin 128, l.val < 8 → C (ix2 0 l) = ((∑ s ∈ Finset.range P, ls (f b s l.val) : ℝ) : EReal)

theorem inv_zero (b : ℕ) : Inv f b 0 (k0_pay2 (F := Ideal)) := by
  intro l _
  unfold k0_pay2
  pointwise
  rw [Finset.sum_range_zero]
  rfl

include hf

theorem cs_val (t : Fin cfg0.N) (hN : t.val < 64) (C : Vec Ideal S1x128 .f32) (hC : Inv f (t.val / 32) (t.val % 32 * 512) C)
    (r : Fin 512) (l : Fin 128) (hl : l.val < 8) :
    cs m c t C (ix2 r l) = ((∑ s ∈ Finset.range (t.val % 32 * 512 + (r.val + 1)), ls (f (t.val / 32) s l.val) : ℝ) : EReal) := by
  refine (cs_at _ _ tri_at C l (fun s => ls (f (t.val / 32) (t.val % 32 * 512 + s.val) l.val)) (fun r => ?_) r).trans ?_
  · rw [vals_at _ _ r l hl, rd0 m c t hN r l, rd1 m c t l hl]
    refine (congrArg lsE (hf ⟨t.val / 32, by omega⟩ ⟨t.val % 32 * 512 + r.val, by omega⟩ ⟨l.val, hl⟩)).trans (lsE_real _)
  · rw [hC l hl, ← EReal.coe_add]
    exact congrArg _ (tri_add (t.val % 32 * 512) r.val r.isLt fun s => ls (f (t.val / 32) s l.val))

theorem inv_step (t : Fin cfg0.N) (hN : t.val < 64) (C : Vec Ideal S1x128 .f32) (hC : Inv f (t.val / 32) (t.val % 32 * 512) C) :
    Inv f (t.val / 32) (t.val % 32 * 512 + 512) (carry m c t C) := by
  intro l hl
  refine Eq.trans ?_ (cs_val m c f hf t hN C hC ⟨511, by omega⟩ l hl)
  unfold carry k0_pay16
  pointwise
  rfl

theorem inv_all : ∀ (t : ℕ) (ht : t < cfg0.N), Inv f (t / 32) (t % 32 * 512 + 512) (outsAt0 m c t ht).2.2.2.2.2.1
  | 0, ht => by
    intro l hl
    refine (congrFun (outA_c m c ⟨0, ht⟩ (show (0 : ℕ) % 32 = 0 by decide)) (ix2 0 l)).trans ?_
    exact inv_step m c f hf ⟨0, ht⟩ (show (0 : ℕ) < 64 by decide) _ (inv_zero f (0 / 32)) l hl
  | t + 1, ht => by
    have hN : t + 1 < 64 := lt_of_lt_of_eq ht N_0
    intro l hl
    by_cases h0 : (t + 1) % 32 = 0
    · refine (congrFun (outA_c m c ⟨t + 1, ht⟩ h0) (ix2 0 l)).trans ?_
      refine inv_step m c f hf ⟨t + 1, ht⟩ hN _ ?_ l hl
      show Inv f ((t + 1) / 32) ((t + 1) % 32 * 512) _
      rw [h0]
      exact inv_zero f _
    · have hp := inv_all t (Nat.lt_of_succ_lt ht)
      refine (congrFun (outB_c m c ⟨t + 1, ht⟩ h0) (ix2 0 l)).trans ?_
      refine inv_step m c f hf ⟨t + 1, ht⟩ hN _ ?_ l hl
      have ea : (t + 1) / 32 = t / 32 := by omega
      have eb : (t + 1) % 32 * 512 = t % 32 * 512 + 512 := by omega
      show Inv f ((t + 1) / 32) ((t + 1) % 32 * 512) _
      rw [ea, eb]
      exact hp

theorem ka_step (t : Fin cfg0.N) (hN : t.val < 64) (C : Vec Ideal S1x128 .f32) (hC : Inv f (t.val / 32) (t.val % 32 * 512) C)
    (r : Fin 512) (j : Fin 1024) :
    kaV m c t C (ix3 0 r j) = A4 m c (ix3 ⟨t.val / 32, by omega⟩ ⟨t.val % 32 * 512 + r.val, by omega⟩ j)
      + if j.val % 128 = 64 then ((∑ s ∈ Finset.range (t.val % 32 * 512 + (r.val + 1)), ls (f (t.val / 32) s (j.val / 128)) : ℝ) : EReal)
          * Ideal.ofBits FTy.f32 3216550459#32 else 0 := by
  rw [show A4 m c (ix3 ⟨t.val / 32, by omega⟩ ⟨t.val % 32 * 512 + r.val, by omega⟩ j) = (iblk m c 2 t : Vec Ideal S1x512x1024 .bf16) (ix3 0 r j) from (rd2 m c t hN r j).symm]
  refine Eq.trans ?_ (place_at (cs m c t C) (iblk m c 2 t) r j
    (fun l => ∑ s ∈ Finset.range (t.val % 32 * 512 + (r.val + 1)), ls (f (t.val / 32) s l.val)) (fun l hl => cs_val m c f hf t hN C hC r l hl))
  unfold kaV k0_pay36
  pointwise

theorem ka_all (t : Fin cfg0.N) (hN : t.val < 64) (r : Fin 512) (j : Fin 1024) :
    (outsAt0 m c t.val t.isLt).2.2.1 (ix3 0 r j)
      = A4 m c (ix3 ⟨t.val / 32, by omega⟩ ⟨t.val % 32 * 512 + r.val, by omega⟩ j)
      + if j.val % 128 = 64 then ((∑ s ∈ Finset.range (t.val % 32 * 512 + (r.val + 1)), ls (f (t.val / 32) s (j.val / 128)) : ℝ) : EReal)
          * Ideal.ofBits FTy.f32 3216550459#32 else 0 := by
  by_cases h0 : t.val % 32 = 0
  · refine (congrFun (outA_k m c t h0) (ix3 0 r j)).trans (ka_step m c f hf t hN _ ?_ r j)
    rw [h0]
    exact inv_zero f _
  · refine (congrFun (outB_k m c t h0) (ix3 0 r j)).trans (ka_step m c f hf t hN _ ?_ r j)
    have hp := inv_all m c f hf (t.val - 1) (Nat.lt_of_le_of_lt (Nat.sub_le _ _) t.isLt)
    have ea : t.val / 32 = (t.val - 1) / 32 := by omega
    have eb : t.val % 32 * 512 = (t.val - 1) % 32 * 512 + 512 := by omega
    rw [ea, eb]
    exact hp

end Points

end Cert.Gates
end
-- ==== Proof.GatesRef.lean ====
module

public import proofs.«01_k».proof.Proof.GatesCell
public import proofs.«01_k».proof.Proof.Gen.Reference7Ideal.Read
public import Idealize.ShloMosaic.Lib.KernelVsHost

@[expose] public section

set_option maxRecDepth 16384

noncomputable section

open Idealize.ShloMosaic Idealize.ShloMosaic.TcCoe Idealize.SL.Sem
open scoped BigOperators

namespace Cert.Gates

theorem foldl_add {α : Type} (L : List α) (f : α → EReal) (v : EReal) : L.foldl (fun r n => r + f n) v = v + (L.map f).sum := by
  induction L generalizing v with
  | nil => simp
  | cons a L ih => rw [List.foldl_cons, ih, List.map_cons, List.sum_cons, add_assoc]

/-- A window sum, read: the start and the sum over the window's places. -/
theorem window_sum {s t : Shape} (window strides lo hi : Fin s.rank → Nat) (h : s.ReduceWindows window strides lo hi t)
    (x : s.Idx → EReal) (v : EReal) (j : t.Idx) :
    Ideal.hostReduceWindowAdd window strides lo hi h x v j
      = v + ∑ w : (⟨s.rank, window⟩ : Shape).Idx,
          if hin : ∀ a, lo a ≤ (j (a.cast h.1.symm)).val * strides a + (w a).val ∧ (j (a.cast h.1.symm)).val * strides a + (w a).val - lo a < s.size a then
            x (fun a => ⟨(j (a.cast h.1.symm)).val * strides a + (w a).val - lo a, (hin a).2⟩) else v := by
  refine (foldl_add _ _ _).trans (congrArg (v + ·) ?_)
  rw [← List.ofFn_eq_map, List.sum_ofFn]
  refine Eq.trans ?_ (Equiv.sum_comp (⟨s.rank, window⟩ : Shape).rowMajor.symm _)
  refine Finset.sum_congr rfl fun i _ => ?_
  by_cases hin : ∀ a, lo a ≤ (j (a.cast h.1.symm)).val * strides a + ((⟨s.rank, window⟩ : Shape).rowMajor.symm i a).val
      ∧ (j (a.cast h.1.symm)).val * strides a + ((⟨s.rank, window⟩ : Shape).rowMajor.symm i a).val - lo a < s.size a
  · beta_reduce
    rw [dif_pos hin, dif_pos hin]
  · beta_reduce
    rw [dif_neg hin, dif_neg hin]

/-- The places of the window, numbered. -/
def places : Fin 16384 ≃ (⟨3, ![1, 16384, 1]⟩ : Shape).Idx where
  toFun n := ix3 0 n 0
  invFun w := w 1
  left_inv _ := rfl
  right_inv w := by
    funext a
    match a with
    | ⟨0, _⟩ => exact Subsingleton.elim (α := Fin 1) _ _
    | ⟨1, _⟩ => rfl
    | ⟨2, _⟩ => exact Subsingleton.elim (α := Fin 1) _ _

/-- The place of position `s` in the window of position `t`, and round again for the positions after `t`. -/
def turn (t w : Fin 16384) : Fin 16384 := if h : 16383 ≤ t.val + w.val then ⟨t.val + w.val - 16383, by omega⟩ else ⟨t.val + w.val + 1, by omega⟩

theorem turn_bij (t : Fin 16384) : Function.Bijective (turn t) := by
  refine Finite.injective_iff_bijective.mp fun a b e => Fin.ext ?_
  have e' := congrArg Fin.val e
  unfold turn at e'
  split at e' <;> split at e' <;> simp only at e' <;> omega

/-- The window sum down the positions, read: the sum of the positions up to and with its own. -/
theorem cumsum_at (x : (⟨3, ![2, 16384, 8]⟩ : Shape).Idx → EReal)
    (hw : (⟨3, ![2, 16384, 8]⟩ : Shape).ReduceWindows ![1, 16384, 1] ![1, 1, 1] ![0, 16383, 0] ![0, 0, 0] (⟨3, ![2, 16384, 8]⟩ : Shape))
    (b : Fin 2) (t : Fin 16384) (h : Fin 8) :
    Ideal.hostReduceWindowAdd ![1, 16384, 1] ![1, 1, 1] ![0, 16383, 0] ![0, 0, 0] hw x 0 (ix3 b t h)
      = ∑ s : Fin 16384, if s.val ≤ t.val then x (ix3 b s h) else 0 := by
  rw [window_sum, zero_add, ← Equiv.sum_comp places]
  refine Fintype.sum_bijective (turn t) (turn_bij t) _ _ fun w => ?_
  by_cases hh : 16383 ≤ t.val + w.val
  · have hp : turn t w = ⟨t.val + w.val - 16383, by omega⟩ := dif_pos hh
    rw [dif_pos, hp, if_pos (show t.val + w.val - 16383 ≤ t.val by omega)]
    · refine congrArg x (funext fun a => Fin.ext ?_)
      match a with
      | ⟨0, _⟩ => (show b.val * 1 + 0 - 0 = b.val; omega)
      | ⟨1, _⟩ => (show t.val * 1 + w.val - 16383 = t.val + w.val - 16383; omega)
      | ⟨2, _⟩ => (show h.val * 1 + 0 - 0 = h.val; omega)
    · intro a
      match a with
      | ⟨0, _⟩ => (show 0 ≤ b.val * 1 + 0 ∧ b.val * 1 + 0 - 0 < 2; omega)
      | ⟨1, _⟩ => (show 16383 ≤ t.val * 1 + w.val ∧ t.val * 1 + w.val - 16383 < 16384; omega)
      | ⟨2, _⟩ => (show 0 ≤ h.val * 1 + 0 ∧ h.val * 1 + 0 - 0 < 8; omega)
  · have hp : turn t w = ⟨t.val + w.val + 1, by omega⟩ := dif_neg hh
    rw [dif_neg, hp, if_neg (show ¬t.val + w.val + 1 ≤ t.val by omega)]
    intro hc
    have h1 : 16383 ≤ t.val * 1 + w.val := (hc 1).1
    omega

open Cert.Reference7Ideal Cert.Reference7Ideal.Read

/-- The reference's logarithm of the logistic function. -/
theorem ls_ref (z : ℝ) : -(max (-(z : EReal)) 0 + Ideal.log1p (Ideal.exp (-(max (-(z : EReal)) (- -(z : EReal)))))) = ((ls z : ℝ) : EReal) := by
  have e : max (-(z : EReal)) (- -(z : EReal)) = ((|z| : ℝ) : EReal) := by
    rw [neg_neg, max_comm, coe_abs]
  rw [e, ← EReal.coe_neg, ← EReal.coe_neg, ← EReal.coe_zero, Mlstm.coe_max]
  show -(_ + Ideal.log1p ((Real.exp (-|z|) : ℝ) : EReal)) = _
  rw [log1p_real _ (Real.exp_pos _), ← EReal.coe_add, ← EReal.coe_neg]
  unfold ls
  refine congrArg _ ?_
  rcases le_total z 0 with hz | hz
  · rw [max_eq_left (by linarith), min_eq_left hz]
    ring
  · rw [max_eq_right (by linarith), min_eq_right hz]
    ring

variable (x0 : (⟨S2x16384x128, .f32⟩ : BufTy).Contents (Elt Ideal)) (x1 : (⟨S4x8, .f32⟩ : BufTy).Contents (Elt Ideal))
  (x4 : (⟨S2x16384x1024, .bf16⟩ : BufTy).Contents (Elt Ideal)) (f : ℕ → ℕ → ℕ → ℝ)
  (h0 : ∀ (b : Fin 2) (s : Fin 16384) (n : Fin 8), x0 (ix3 b s (lane n)) + x1 (ix2 0 n) = ((f b.val s.val n.val : ℝ) : EReal))

include h0

theorem v5_at (b : Fin 2) (t : Fin 16384) (h : Fin 8) : (val_main_v5 (F := Ideal) x0 x1 (ix3 b t h) : EReal) = ((f b.val t.val h.val : ℝ) : EReal) := by
  refine Eq.trans ?_ (h0 b t h)
  rw [val_main_v5_apply, val_main_v0_apply, val_main_v4_apply, val_main_v3_apply, val_main_v2_apply, val_main_v1_apply]
  refine congrArg₂ (α := EReal) (β := EReal) (· + ·) (congrArg x0 (funext fun a => Fin.ext ?_)) (congrArg x1 (funext fun a => Fin.ext ?_))
  · match a with
    | ⟨0, _⟩ => rfl
    | ⟨1, _⟩ => rfl
    | ⟨2, _⟩ => rfl
  · match a with
    | ⟨0, _⟩ => rfl
    | ⟨1, _⟩ => (show h.val % 8 = h.val; omega)

theorem v6_at (b : Fin 2) (t : Fin 16384) (h : Fin 8) : (val_main_v6 (F := Ideal) x0 x1 (ix3 b t h) : EReal) = ((ls (f b.val t.val h.val) : ℝ) : EReal) := by
  have z : (FloatOps.ofBits (F := Ideal) .f32 0x00000000#32 : EReal) = 0 := Ideal.ofBits_zero_f32
  rw [val_main_v6_apply, val_main_call0_v1_apply, val_main_call0_call0_v4_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_v0_apply, v5_at x0 x1 f h0,
    val_main_call0_call0_v0_apply, val_main_call0_call0_v2_apply, val_main_call0_call0_cst_apply, z]
  have e3 : (FloatOps.subf (F := Ideal) (φ := .f32) (FloatOps.hostNegf (F := Ideal) (φ := .f32) ((f b.val t.val h.val : ℝ) : EReal)) (0 : EReal) : EReal)
      = -((f b.val t.val h.val : ℝ) : EReal) := sub_zero _
  rw [e3]
  have ec : (FloatOps.cmpf (F := Ideal) (φ := .f32) .une (-((f b.val t.val h.val : ℝ) : EReal)) (-((f b.val t.val h.val : ℝ) : EReal)) : BitVec 1) = 0#1 := by
    show Ideal.cmp .une _ _ = _
    simp [Ideal.cmp]
  rw [ec]
  exact ls_ref _

theorem v7_at (b : Fin 2) (t : Fin 16384) (h : Fin 8) : (val_main_v7 (F := Ideal) x0 x1 (ix3 b t h) : EReal)
    = ((∑ s : Fin 16384, if s.val ≤ t.val then ls (f b.val s.val h.val) else 0 : ℝ) : EReal) := by
  have z : (val_main_call1_call0_v0 (F := Ideal) (Shape.Idx.first Facts₀.h_S_) : EReal) = 0 := by
    rw [val_main_call1_call0_v0_apply, val_main_call1_call0_cst_apply]
    exact Ideal.ofBits_zero_f32
  unfold val_main_v7 Host.reduceWindowAdd
  rw [z, Ideal.hostReduceWindowAdd_def]
  refine (cumsum_at _ _ b t h).trans ?_
  rw [Mlstm.coe_sum]
  refine Finset.sum_congr rfl fun s _ => ?_
  split
  · exact v6_at x0 x1 f h0 b s h
  · exact EReal.coe_zero.symm

theorem v15_at (b : Fin 2) (t : Fin 16384) (j : Fin 1024) : (val_main_v15 (F := Ideal) x0 x1 x4 (ix3 b t j) : EReal)
    = x4 (ix3 b t j) + if j.val % 128 = 64 then
        ((∑ s : Fin 16384, if s.val ≤ t.val then ls (f b.val s.val (j.val / 128)) else 0 : ℝ) : EReal) * Ideal.ofBits FTy.f32 3216550459#32 else 0 := by
  have e13 : idx_main_v13 (ix3 b t j) = ix4 b t ⟨j.val / 128, by omega⟩ ⟨j.val % 128, by omega⟩ := by
    funext a
    match a with
    | ⟨0, _⟩ => exact Fin.ext (show ((b.val * 16384 + t.val) * 1024 + j.val) / 16777216 = b.val by omega)
    | ⟨1, _⟩ => exact Fin.ext (show ((b.val * 16384 + t.val) * 1024 + j.val) / 1024 % 16384 = t.val by omega)
    | ⟨2, _⟩ => exact Fin.ext (show ((b.val * 16384 + t.val) * 1024 + j.val) / 128 % 8 = j.val / 128 by omega)
    | ⟨3, _⟩ => exact Fin.ext (show ((b.val * 16384 + t.val) * 1024 + j.val) % 128 = j.val % 128 by omega)
  rw [val_main_v15_apply, val_main_v14_apply, val_main_v12_apply, val_main_v13_apply, e13]
  refine congrArg (α := EReal) (x4 (ix3 b t j) + ·) ?_
  unfold val_main_v11
  by_cases h64 : j.val % 128 = 64
  · rw [if_pos h64, pad_apply_of_inside _ _ _ _ _ _ _ _ (ix4 b t ⟨j.val / 128, by omega⟩ 0)]
    · have e10 : idx_main_v10 (ix4 b t ⟨j.val / 128, by omega⟩ 0) = ix3 b t ⟨j.val / 128, by omega⟩ := by
        funext a
        match a with
        | ⟨0, _⟩ => rfl
        | ⟨1, _⟩ => rfl
        | ⟨2, _⟩ => rfl
      rw [val_main_v10_apply, e10, val_main_v9_apply, v7_at x0 x1 f h0, val_main_v8_apply, val_main_cst_apply]
      exact mul_comm (G := EReal) _ _
    · intro a
      match a with
      | ⟨0, _⟩ => (show b.val = 0 + b.val * 1; omega)
      | ⟨1, _⟩ => (show t.val = 0 + t.val * 1; omega)
      | ⟨2, _⟩ => (show j.val / 128 = 0 + j.val / 128 * 1; omega)
      | ⟨3, _⟩ => (show j.val % 128 = 64 + 0 * 1; omega)
  · rw [if_neg h64, pad_apply_of_not_inside _ _ _ _ _ _ _ _ (3 : Fin 4)]
    · rw [val_main_call2_v0_apply, val_main_c_apply]
      show (((0#32 : BitVec 32).toInt : ℝ) : EReal) = 0
      simp
    · show ¬(64 ≤ j.val % 128 ∧ (j.val % 128 - 64) % 1 = 0 ∧ (j.val % 128 - 64) / 1 < 1)
      omega

end Cert.Gates
end
-- ==== Proof.GatesFin.lean ====
module

public import proofs.«01_k».proof.Proof.Gen.Kernel7Ideal.Value
public import proofs.«01_k».proof.Pre_finite7
public import proofs.«01_k».proof.Proof.GatesRun
public import proofs.«01_k».proof.Proof.GatesRef
public import proofs.«01_k».proof.Proof.MlstmFin
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.Gates

/-! ## The precondition's two words -/

theorem real_of_lt {x : EReal} (h : max x (-x) < ⊤) : x = ((x.toReal : ℝ) : EReal) := by
  refine (EReal.coe_toReal ?_ ?_).symm
  · rintro rfl
    exact absurd h (by simp)
  · rintro rfl
    exact absurd h (by simp)

theorem lt_of_cmp {x : EReal} (h : (FloatOps.cmpf (F := Ideal) (φ := .f32) .olt (max x (-x)) (FloatOps.ofBits (F := Ideal) .f32 0x7F800000#32) : BitVec 1) = 1#1) :
    max x (-x) < ⊤ := by
  have top : (FloatOps.ofBits (F := Ideal) .f32 0x7F800000#32 : EReal) = ⊤ := by
    show Ideal.ofBits .f32 0x7F800000#32 = _
    simp [Ideal.ofBits, Ideal.ieee]
  rw [top] at h
  by_contra hn
  have : (FloatOps.cmpf (F := Ideal) (φ := .f32) .olt (max x (-x)) (⊤ : EReal) : BitVec 1) = BitVec.ofBool (decide (max x (-x) < ⊤)) := rfl
  rw [this, decide_eq_false hn] at h
  exact absurd h (by decide)

section Pre

variable [Cert.Pre_finite7.Facts]
variable (x0 : FVec Ideal Cert.Pre_finite7.S2x16384x128 .f32) (x1 : FVec Ideal Cert.Pre_finite7.S4x8 .f32) (x2 x3 : FVec Ideal Cert.Pre_finite7.S4x4 .f32)
  (x4 : FVec Ideal Cert.Pre_finite7.S2x16384x1024 .bf16)

theorem fin0 (h : (Cert.Pre_finite7.fn (F := Ideal) x0 x1 x2 x3 x4).1 = fun _ => 1#1) (b : Fin 2) (s : Fin 16384) (n : Fin 8) :
    (x0 (ix3 b s (lane n)) : EReal) = (((x0 (ix3 b s (lane n)) : EReal).toReal : ℝ) : EReal) := by
  refine real_of_lt (lt_of_cmp (Eq.trans ?_ (congrFun h (ix3 b s n))))
  have ei : x0 (ix3 b s (lane n)) = extractStridedSlice Cert.Pre_finite7.S2x16384x8 ![0, 0, 0] x0
      Cert.Pre_finite7.Facts.slices_S2x16384x128_S2x16384x8_0_0_0 (ix3 b s n) := by
    refine congrArg x0 (funext fun a => Fin.ext ?_)
    match a with
    | ⟨0, _⟩ => (show b.val = 0 + b.val; omega)
    | ⟨1, _⟩ => (show s.val = 0 + s.val; omega)
    | ⟨2, _⟩ => (show n.val = 0 + n.val; omega)
  rw [ei]
  rfl

theorem fin1 (h : (Cert.Pre_finite7.fn (F := Ideal) x0 x1 x2 x3 x4).2 = fun _ => 1#1) (n : Fin 8) :
    (x1 (ix2 0 n) : EReal) = (((x1 (ix2 0 n) : EReal).toReal : ℝ) : EReal) := by
  refine real_of_lt (lt_of_cmp (Eq.trans ?_ (congrFun h (ix2 0 n))))
  have ei : x1 (ix2 0 n) = extractStridedSlice Cert.Pre_finite7.S1x8 ![0, 0] x1 Cert.Pre_finite7.Facts.slices_S4x8_S1x8_0_0 (ix2 0 n) := by
    refine congrArg x1 (funext fun a => Fin.ext ?_)
    match a with
    | ⟨0, _⟩ => rfl
    | ⟨1, _⟩ => (show n.val = 0 + n.val; omega)
  rw [ei]
  rfl

end Pre

/-! ## The array after the run -/

open Cert.Kernel7Ideal Cert.Kernel7Ideal.Gen
open Idealize.ShloMosaic.Pipeline (Dat)

variable (m : (ℓ : Loc nD τ sig) → Buf (Elt Ideal) ℓ)

/-- The reference of the kernel's own arguments. -/
def out (c : Dev nD) : Vec Ideal S2x16384x1024 .bf16 :=
  Cert.Reference7Ideal.Read.val_main_v15 (F := Ideal) (m ((c : Thread nD τ).loc main_arg0)) (m ((c : Thread nD τ).loc main_arg1))
    (m ((c : Thread nD τ).loc main_arg4))

/-- On finite gates and biases of the eight heads the kernel's array is the reference's. -/
theorem final [Cert.Pre_finite7.Facts] (c : Dev nD)
    (p0 : (Cert.Pre_finite7.fn (F := Ideal) (m ((c : Thread nD τ).loc main_arg0)) (m ((c : Thread nD τ).loc main_arg1)) (m ((c : Thread nD τ).loc main_arg2)) (m ((c : Thread nD τ).loc main_arg3)) (m ((c : Thread nD τ).loc main_arg4))).1 = fun _ => 1#1)
    (p1 : (Cert.Pre_finite7.fn (F := Ideal) (m ((c : Thread nD τ).loc main_arg0)) (m ((c : Thread nD τ).loc main_arg1)) (m ((c : Thread nD τ).loc main_arg2)) (m ((c : Thread nD τ).loc main_arg3)) (m ((c : Thread nD τ).loc main_arg4))).2 = fun _ => 1#1) :
    (dats m 0 c).arrAt 5 (cfgs 0).N = out m c := by
  obtain ⟨f, hf⟩ : ∃ f : ℕ → ℕ → ℕ → ℝ, ∀ (b : Fin 2) (s : Fin 16384) (n : Fin 8),
      A0 m c (ix3 b s (lane n)) + A1 m c (ix2 0 n) = ((f b.val s.val n.val : ℝ) : EReal) := by
    refine ⟨fun b s n => Cert.Mlstm.re (A0 m c) b s n
      + if h : n < 8 then (A1 m c (ix2 0 ⟨n, h⟩)).toReal else 0, fun b s n => ?_⟩
    have e0 := (fin0 _ _ _ _ _ p0 b s n).trans
      (congrArg (fun x : ℝ => (x : EReal)) (Cert.Mlstm.re_at (A0 m c) b s (lane n)).symm)
    have e1 := fin1 _ _ _ _ _ p1 n
    beta_reduce
    rw [dif_pos n.isLt, EReal.coe_add]
    exact congrArg₂ (fun x y : EReal => x + y) e0 e1
  refine (dats m 0 c).arrAt_eq_of_covers 5 _ (by decide +kernel) fun t _ y => ?_
  blk_simp
  rw [after0_5]
  obtain ⟨z, r, j, rfl⟩ : ∃ (z : Fin 1) (r : Fin 512) (j : Fin 1024), y = ix3 z r j := ⟨y 0, y 1, y 2, eq_ix3 y⟩
  obtain rfl : z = 0 := Subsingleton.elim _ _
  have hN : t.val < 64 := lt_of_lt_of_eq t.isLt N_0
  have hR : t.val % 32 * 512 + r.val < 16384 := by omega
  have he : (((cfg0.win 5).blk t).view.emb (ix3 0 r j)) = (ix3 ⟨t.val / 32, by omega⟩ ⟨t.val % 32 * 512 + r.val, hR⟩ j : S2x16384x1024.Idx) := by
    blk_ext [idx t]
  refine Eq.trans ?_ (congrArg (out m c) he).symm
  refine (ka_all m c f hf t hN r j).trans ?_
  refine Eq.trans ?_ (v15_at (m ((c : Thread nD τ).loc main_arg0)) (m ((c : Thread nD τ).loc main_arg1))
    (m ((c : Thread nD τ).loc main_arg4)) f hf ⟨t.val / 32, by omega⟩ ⟨t.val % 32 * 512 + r.val, hR⟩ j).symm
  rw [tri_sum 16384 (t.val % 32 * 512 + r.val) hR fun s => ls (f (t.val / 32) s (j.val / 128))]
  rfl

end Cert.Gates
end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Ffn2
public import proofs.«01_k».proof.Proof.Ffn3
public import proofs.«01_k».proof.Proof.Merge
public import proofs.«01_k».proof.Proof.InprojFin
public import proofs.«01_k».proof.Proof.MlstmFin
public import proofs.«01_k».proof.Proof.GatesFin
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference of the last feed-forward block and the final norm: its arguments kept, no counter moved. -/
theorem frame_ref2 : Cert.quiescent_Reference2Ideal := by
  intro m g _
  exact θ_run_mono (Cert.Reference2Ideal.Value.run (F := Ideal) m g) fun r h =>
    ⟨fun c => (h c).2, sem_eq_zero_of_no_sems (by decide) _⟩

/-- The last feed-forward block and the final norm: the kernel's array is the reference's. -/
theorem alg2 : Cert.algebraic_Kernel2Ideal_Reference2Ideal := by
  pair_intro
  · run_from Cert.Kernel2Ideal.Gen.run_main m g
  · run_from Cert.Reference2Ideal.Value.run m' g'
    rw [Cert.Ffn2.final m c]
    obtain ⟨h0, h1, h2, h3, h4, h5⟩ := hagree c
    rw [Cert.Reference2Ideal.Read.val_main_v42_eq, h0, h1, h2, h3, h4, h5]
    rfl

/-- The reference of the first feed-forward block of a layer: its arguments kept, no counter moved. -/
theorem frame_ref3 : Cert.quiescent_Reference3Ideal := by
  intro m g _
  exact θ_run_mono (Cert.Reference3Ideal.Value.run (F := Ideal) m g) fun r h =>
    ⟨fun c => (h c).2, sem_eq_zero_of_no_sems (by decide) _⟩

/-- The first feed-forward block of a layer: the kernel's array is the reference's. -/
theorem alg3 : Cert.algebraic_Kernel3Ideal_Reference3Ideal := by
  pair_intro
  · run_from Cert.Kernel3Ideal.Gen.run_main m g
  · run_from Cert.Reference3Ideal.Value.run m' g'
    rw [Cert.Ffn3.final m c]
    obtain ⟨h0, h1, h2, h3, h4⟩ := hagree c
    rw [Cert.Reference3Ideal.Read.val_main_v29_eq, h0, h1, h2, h3, h4]
    rfl

/-- The reference of the merge of the three branches: its arguments kept, no counter moved. -/
theorem frame_ref4 : Cert.quiescent_Reference4Ideal := by
  intro m g _
  exact θ_run_mono (Cert.Reference4Ideal.Value.run (F := Ideal) m g) fun r h =>
    ⟨fun c => (h c).2, sem_eq_zero_of_no_sems (by decide) _⟩

/-- The merge of the three branches: the kernel's array is the reference's. -/
theorem alg4 : Cert.algebraic_Kernel4Ideal_Reference4Ideal := by
  pair_intro
  · run_from Cert.Kernel4Ideal.Gen.run_main m g
  · run_from Cert.Reference4Ideal.Value.run m' g'
    rw [Cert.Merge.final m c]
    obtain ⟨h0, h1, h2, h3, h4, h5, h6, h7, h8, h9, h10, h11⟩ := hagree c
    rw [Cert.Reference4Ideal.Read.val_main_v112_eq, h0, h1, h2, h3, h4, h5, h6, h7, h8, h9, h10, h11]
    rfl

section
open Cert.Reference5Ideal Cert.Reference5Ideal.Gen Idealize.ShloMosaic.TcCoe

/-- The reference's run, its results by name. -/
theorem run_ref5 (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v85) = Read.val_main_v85 (F := Ideal) (m ((c.tc : Thread nD τ).loc main_arg0)) (m ((c.tc : Thread nD τ).loc main_arg1)) (m ((c.tc : Thread nD τ).loc main_arg2))
      ∧ r.2.mem ((c.tc : Thread nD τ).loc main_v86) = Read.val_main_v86 (F := Ideal) (m ((c.tc : Thread nD τ).loc main_arg0)) (m ((c.tc : Thread nD τ).loc main_arg1)) (m ((c.tc : Thread nD τ).loc main_arg2))
      ∧ r.2.mem ((c.tc : Thread nD τ).loc main_v87) = Read.val_main_v87 (F := Ideal) (m ((c.tc : Thread nD τ).loc main_arg0)) (m ((c.tc : Thread nD τ).loc main_arg1)) (m ((c.tc : Thread nD τ).loc main_arg2))
      ∧ r.2.mem ((c.tc : Thread nD τ).loc main_v84) = Read.val_main_v84 (F := Ideal) (m ((c.tc : Thread nD τ).loc main_arg0)) (m ((c.tc : Thread nD τ).loc main_arg1)) (m ((c.tc : Thread nD τ).loc main_arg2))
      ∧ r.2.mem ((c.tc : Thread nD τ).loc main_v90) = Read.val_main_v90 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v91) = Read.val_main_v91 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v92) = Read.val_main_v92 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (Cert.Reference5Ideal.Value.run (F := Ideal) m ρ) fun r h c =>
    ⟨(h c).1.trans (Read.val_main_v85_eq _ _ _),
      (h c).2.1.trans (Read.val_main_v86_eq _ _ _),
      (h c).2.2.1.trans (Read.val_main_v87_eq _ _ _),
      (h c).2.2.2.1.trans (Read.val_main_v84_eq m c),
      (h c).2.2.2.2.1.trans (Read.val_main_v90_eq m c),
      (h c).2.2.2.2.2.1.trans (Read.val_main_v91_eq m c),
      (h c).2.2.2.2.2.2.1.trans (Read.val_main_v92_eq _ _ _),
      (h c).2.2.2.2.2.2.2⟩

end

/-- The reference of the input projection: its arguments kept, no counter moved. -/
theorem frame_ref5 : Cert.quiescent_Reference5Ideal := by
  intro m g _
  exact θ_run_mono (run_ref5 m g) fun r h =>
    ⟨fun c => (h c).2.2.2.2.2.2.2, sem_eq_zero_of_no_sems (by decide) _⟩

section
open Cert.Kernel5Ideal Cert.Kernel5Ideal.Gen Idealize.ShloMosaic.TcCoe

/-- The kernel's run, its seven arrays by name. -/
theorem run_ker5 (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30_0) = Cert.Inproj.out10 m c
      ∧ r.2.mem ((c.tc : Thread nD τ).loc main_v30_1) = Cert.Inproj.out11 m c
      ∧ r.2.mem ((c.tc : Thread nD τ).loc main_v30_2) = Cert.Inproj.out12 m c
      ∧ r.2.mem ((c.tc : Thread nD τ).loc main_v30_3) = Cert.Inproj.out13 m c
      ∧ r.2.mem ((c.tc : Thread nD τ).loc main_v30_4) = Cert.Inproj.out14 m c
      ∧ r.2.mem ((c.tc : Thread nD τ).loc main_v30_5) = Cert.Inproj.out15 m c
      ∧ r.2.mem ((c.tc : Thread nD τ).loc main_v30_6) = Cert.Inproj.out16 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (run_main (F := Ideal) m ρ) fun r h c =>
    ⟨((h c).1 10).trans (Cert.Inproj.final10 m c),
      ((h c).1 11).trans (Cert.Inproj.final11 m c),
      ((h c).1 12).trans (Cert.Inproj.final12 m c),
      ((h c).1 13).trans (Cert.Inproj.final13 m c),
      ((h c).1 14).trans (Cert.Inproj.final14 m c),
      ((h c).1 15).trans (Cert.Inproj.final15 m c),
      ((h c).1 16).trans (Cert.Inproj.final16 m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 9).trans (((dats m 0 c).arrAt_in 9 rfl _).trans ((A_eq m c 9).trans (V_main_arg3 m c)))⟩

end

/-- The input projection of a layer: the kernel's seven arrays are the reference's. -/
theorem alg5 : Cert.algebraic_Kernel5Ideal_Reference5Ideal := by
  intro m g m' g' hpre hagree
  refine ⟨fun c => Cert.Inproj.out10 m c, fun c => Cert.Inproj.out11 m c, fun c => Cert.Inproj.out12 m c, fun c => Cert.Inproj.out13 m c,
    fun c => Cert.Inproj.out14 m c, fun c => Cert.Inproj.out15 m c, fun c => Cert.Inproj.out16 m c, run_ker5 m g,
    θ_run_mono (run_ref5 m' g') fun r h c => ?_⟩
  obtain ⟨e0, e1, e2, e3⟩ := hagree c
  obtain ⟨h0, h1, h2, h3, h4, h5, h6, ha⟩ := h c
  exact ⟨h0.trans (by rw [e0, e1, e2]; rfl), h1.trans (by rw [e0, e1, e2]; rfl), h2.trans (by rw [e0, e1, e2]; rfl),
    h3.trans (by rw [e0, e1, e2]; rfl), h4.trans (by rw [e0, e1, e2, e3]; rfl), h5.trans (by rw [e0, e1, e2, e3]; rfl),
    h6.trans (by rw [e0, e1, e2]; rfl), ha⟩

/-- The side conditions of the precondition's function. -/
theorem facts_pre : Cert.Pre_finite.Facts where
  bitsLt_bf16_f32 := by decide
  bcast_S_S2x16384x512 := by decide
  slices_S2x16384x128_S2x16384x12_0_0_0 := by decide
  bcast_S_S2x16384x12 := by decide

section
open Cert.Reference6Ideal Cert.Reference6Ideal.Gen Idealize.ShloMosaic.TcCoe

/-- The reference's run, its result by name. -/
theorem run_ref6 (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76) = Read.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  θ_run_mono (Cert.Reference6Ideal.Value.run (F := Ideal) m ρ) fun r h c =>
    ⟨(h c).1.trans (Read.val_main_v76_eq m c), (h c).2⟩

end

/-- The reference of the mLSTM: its arguments kept, no counter moved. -/
theorem frame_ref6 : Cert.quiescent_Reference6Ideal := by
  intro m g _
  exact θ_run_mono (run_ref6 m g) fun r h =>
    ⟨fun c => (h c).2, sem_eq_zero_of_no_sems (by decide) _⟩

/-- The same under the precondition. -/
theorem frame_ref6_pre : Cert.quiescent_Reference6Ideal_pre_finite (hPre_finite := facts_pre) := by
  intro m g _
  exact θ_run_mono (run_ref6 m g) fun r h =>
    ⟨fun c => (h c).2, sem_eq_zero_of_no_sems (by decide) _⟩

section
open Cert.Kernel6Ideal Cert.Kernel6Ideal.Gen Idealize.ShloMosaic.TcCoe

/-- The kernel's run on finite arguments: its result is the reference of its arguments. -/
theorem run_ker6 (m : (ℓ : Loc nD τ sig) → Buf (Elt Ideal) ℓ) (ρ : Dev nD → PrngReg)
    (hpre : Cert.Pre_Kernel6Ideal_finite (hPre_finite := facts_pre) m) :
    θ_run defs (onTc (τ := τ) (main (F := Ideal))) ⟨m, fun _ => 0, ρ⟩ fun r => ∀ c : Dev nD,
      r.2.mem ((c.tc : Thread nD τ).loc main_v9) = Cert.Mlstm.out m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  haveI := facts_pre
  θ_run_mono (run_main (F := Ideal) m ρ) fun r h c =>
    ⟨((h c).1 7).trans (Cert.Mlstm.final m c (hpre c).1 (hpre c).2.1 (hpre c).2.2.1 (hpre c).2.2.2),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩

end

/-- The mLSTM of a layer: on finite arguments the kernel's array is the reference's. -/
theorem alg6 : Cert.algebraic_Kernel6Ideal_Reference6Ideal_pre_finite (hPre_finite := facts_pre) := by
  intro m g m' g' hpre hagree
  refine ⟨fun c => Cert.Mlstm.out m c, run_ker6 m g hpre, θ_run_mono (run_ref6 m' g') fun r h c => ?_⟩
  obtain ⟨e0, e1, e2, e3, e4⟩ := hagree c
  obtain ⟨h0, ha⟩ := h c
  exact ⟨h0.trans (by rw [e0, e1, e2, e3, e4]; rfl), ha⟩

/-- The side conditions of the precondition's function. -/
theorem facts_pre7 : Cert.Pre_finite7.Facts where
  slices_S2x16384x128_S2x16384x8_0_0_0 := by decide
  bcast_S_S2x16384x8 := by decide
  slices_S4x8_S1x8_0_0 := by decide
  bcast_S_S1x8 := by decide

section
open Cert.Reference7Ideal Cert.Reference7Ideal.Gen Idealize.ShloMosaic.TcCoe

/-- The reference's run, its result by name. -/
theorem run_ref7 (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = Read.val_main_v15 (F := Ideal) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  θ_run_mono (Cert.Reference7Ideal.Value.run (F := Ideal) m ρ) fun r h c =>
    ⟨(h c).1.trans (Read.val_main_v15_eq _ _ _), (h c).2⟩

end

/-- The reference of the gates: its arguments kept, no counter moved. -/
theorem frame_ref7 : Cert.quiescent_Reference7Ideal := by
  intro m g _
  exact θ_run_mono (run_ref7 m g) fun r h =>
    ⟨fun c => (h c).2, sem_eq_zero_of_no_sems (by decide) _⟩

/-- The same under the precondition. -/
theorem frame_ref7_pre : Cert.quiescent_Reference7Ideal_pre_finite7 (hPre_finite7 := facts_pre7) := by
  intro m g _
  exact θ_run_mono (run_ref7 m g) fun r h =>
    ⟨fun c => (h c).2, sem_eq_zero_of_no_sems (by decide) _⟩

section
open Cert.Kernel7Ideal Cert.Kernel7Ideal.Gen Idealize.ShloMosaic.TcCoe

/-- The kernel's run on finite arguments: its result is the reference of its arguments. -/
theorem run_ker7 (m : (ℓ : Loc nD τ sig) → Buf (Elt Ideal) ℓ) (ρ : Dev nD → PrngReg)
    (hpre : Cert.Pre_Kernel7Ideal_finite7 (hPre_finite7 := facts_pre7) m) :
    θ_run defs (onTc (τ := τ) (main (F := Ideal))) ⟨m, fun _ => 0, ρ⟩ fun r => ∀ c : Dev nD,
      r.2.mem ((c.tc : Thread nD τ).loc main_v3_2) = Cert.Gates.out m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  haveI := facts_pre7
  θ_run_mono (run_main (F := Ideal) m ρ) fun r h c =>
    ⟨((h c).1 5).trans (Cert.Gates.final m c (hpre c).1 (hpre c).2),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c)))⟩

end

/-- The gates of a layer: on finite arguments the kernel's array is the reference's. -/
theorem alg7 : Cert.algebraic_Kernel7Ideal_Reference7Ideal_pre_finite7 (hPre_finite7 := facts_pre7) := by
  intro m g m' g' hpre hagree
  refine ⟨fun c => Cert.Gates.out m c, run_ker7 m g hpre, θ_run_mono (run_ref7 m' g') fun r h c => ?_⟩
  obtain ⟨e0, e1, e2, e3, e4⟩ := hagree c
  obtain ⟨h0, ha⟩ := h c
  exact ⟨h0.trans (by rw [e0, e1, e4]; rfl), ha⟩

/-- All the claims together. -/
theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, facts_pre, facts_pre7,
  fun m g _ => Cert.Kernel2.Gen.frame m g, fun m g _ => Cert.Kernel2Ideal.Gen.frame m g, frame_ref2,
  fun m g _ => Cert.Kernel3.Gen.frame m g, fun m g _ => Cert.Kernel3Ideal.Gen.frame m g, frame_ref3,
  fun m g _ => Cert.Kernel4.Gen.frame m g, fun m g _ => Cert.Kernel4Ideal.Gen.frame m g, frame_ref4,
  fun m g _ => Cert.Kernel5.Gen.frame m g, fun m g _ => Cert.Kernel5Ideal.Gen.frame m g, frame_ref5,
  fun m g _ => Cert.Kernel6.Gen.frame m g, fun m g _ => Cert.Kernel6Ideal.Gen.frame m g, fun m g _ => Cert.Kernel6Ideal.Gen.frame m g,
  frame_ref6, frame_ref6_pre,
  fun m g _ => Cert.Kernel7.Gen.frame m g, fun m g _ => Cert.Kernel7Ideal.Gen.frame m g, fun m g _ => Cert.Kernel7Ideal.Gen.frame m g,
  frame_ref7, frame_ref7_pre,
  trivial, alg2, trivial, alg3, trivial, alg4, trivial, alg5, IdealRules.named_const.statement Cert.Kernel6Ideal.κ "mask" .f32 0xF149F2CA#32 ⊥ rfl, alg6, IdealRules.named_const.statement Cert.Kernel7Ideal.κ "mask" .f32 0xF149F2CA#32 ⊥ rfl, alg7⟩

end Cert.Proof

end
